-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "underflow" .f32 0x43200000#32 ⊤
  ∧ IdealRules.named_const.Statement Cert.KernelIdeal.κ "unmask" .f32 0x7149F2CA#32 ⊤

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v219) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x6144 : Shape := ⟨2, ![16384, 6144]⟩
abbrev S16 : Shape := ⟨1, ![16]⟩
abbrev S16x1x1 : Shape := ⟨3, ![16, 1, 1]⟩
abbrev S16x1x256 : Shape := ⟨3, ![16, 1, 256]⟩
abbrev S4x4096x6144 : Shape := ⟨3, ![4, 4096, 6144]⟩
abbrev S4x4096x2048 : Shape := ⟨3, ![4, 4096, 2048]⟩
abbrev S4x256x128 : Shape := ⟨3, ![4, 256, 128]⟩
abbrev S16384x128 : Shape := ⟨2, ![16384, 128]⟩
abbrev S1x1x256 : Shape := ⟨3, ![1, 1, 256]⟩
abbrev S18176x256 : Shape := ⟨2, ![18176, 256]⟩
abbrev S128x128 : Shape := ⟨2, ![128, 128]⟩
abbrev S8x128 : Shape := ⟨2, ![8, 128]⟩
abbrev S4x256x256 : Shape := ⟨3, ![4, 256, 256]⟩
abbrev S4x256x2048 : Shape := ⟨3, ![4, 256, 2048]⟩
abbrev S256x128 : Shape := ⟨2, ![256, 128]⟩
abbrev S256x256 : Shape := ⟨2, ![256, 256]⟩
abbrev S1x1 : Shape := ⟨2, ![1, 1]⟩
abbrev S128 : Shape := ⟨1, ![128]⟩
abbrev S1x128 : Shape := ⟨2, ![1, 128]⟩
abbrev S256 : Shape := ⟨1, ![256]⟩
abbrev S256x1 : Shape := ⟨2, ![256, 1]⟩
abbrev S1 : Shape := ⟨1, ![1]⟩
abbrev S1x256x128 : Shape := ⟨3, ![1, 256, 128]⟩
abbrev S128x256 : Shape := ⟨2, ![128, 256]⟩
abbrev S1x256 : Shape := ⟨2, ![1, 256]⟩
abbrev S1x256x256 : Shape := ⟨3, ![1, 256, 256]⟩
abbrev S1x1x1 : Shape := ⟨3, ![1, 1, 1]⟩

abbrev nBuf : Space → Nat
  | .hbm => 6
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S16, .f32⟩
  | .hbm, ⟨2, _⟩ => ⟨S16x1x1, .f32⟩
  | .hbm, ⟨3, _⟩ => ⟨S16x1x256, .f32⟩
  | .hbm, ⟨4, _⟩ => ⟨S4x4096x6144, .bf16⟩
  | .hbm, ⟨5, _⟩ => ⟨S4x4096x2048, .bf16⟩
  | .local _ .vmem, ⟨0, _⟩ => ⟨S4x256x128, .bf16⟩
  | .local _ .vmem, ⟨1, _⟩ => ⟨S4x256x128, .bf16⟩
  | .local _ .vmem, ⟨2, _⟩ => ⟨S4x256x128, .bf16⟩
  | .local _ .vmem, ⟨3, _⟩ => ⟨S4x256x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1x1x256, .f32⟩
  | .local _ .vmem, ⟨9, _⟩ => ⟨S1x1x256, .f32⟩
  | .local _ .vmem, ⟨10, _⟩ => ⟨S4x256x128, .bf16⟩
  | .local _ .vmem, ⟨11, _⟩ => ⟨S4x256x128, .bf16⟩
  | .local _ .vmem, ⟨12, _⟩ => ⟨S18176x256, .bf16⟩
  | .local _ .vmem, ⟨13, _⟩ => ⟨S128x128, .f32⟩
  | .local _ .vmem, ⟨14, _⟩ => ⟨S8x128, .f32⟩
  | .local _ .vmem, ⟨15, _⟩ => ⟨S4x256x256, .bf16⟩
  | .local _ .vmem, ⟨16, _⟩ => ⟨S4x256x256, .bf16⟩
  | .local _ .vmem, ⟨17, _⟩ => ⟨S4x256x2048, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32_0 : BitVec 32 := 0#32
  let v4 : BitVec 1 := Scalar.cmpi .eq arg1 c0_i32_0
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_980 : BitVec 32 := 0#32
  let c64_i32 : BitVec 32 := 64#32
  let v2072 : BitVec 32 := Scalar.addi c0_i32_980 c64_i32
  let c1_i32_981 : BitVec 32 := 1#32
  ⟨c0_i32_980, v2072, c1_i32_981⟩
def k0_mult1 (k0_t1 : Fin k0_t1_loop.trips) : BitVec 32 :=
  let c0_i32_980 : BitVec 32 := 0#32
  let c1_i32_981 : BitVec 32 := 1#32
  let arg14 : BitVec 32 := Scf.iv c0_i32_980 c1_i32_981 k0_t1
  let c256_i32_1097 : BitVec 32 := 256#32
  let v2359 : BitVec 32 := Scalar.muli arg14 c256_i32_1097
  v2359
def k0_off1 (k0_t1 : Fin k0_t1_loop.trips) : Fin 2 → Nat :=
  let c0_i32_980 : BitVec 32 := 0#32
  let c1_i32_981 : BitVec 32 := 1#32
  let arg14 : BitVec 32 := Scf.iv c0_i32_980 c1_i32_981 k0_t1
  let c256_i32_1097 : BitVec 32 := 256#32
  let v2359 : BitVec 32 := Scalar.muli arg14 c256_i32_1097
  let v2360 : BitVec 32 := v2359
  let v2361 : Index := Scalar.indexCast v2360
  let c0_1098 : Index := 0#32
  ![v2361.toNat, 0]
def k0_mult2 (k0_t1 : Fin k0_t1_loop.trips) : BitVec 32 :=
  let c0_i32_980 : BitVec 32 := 0#32
  let c1_i32_981 : BitVec 32 := 1#32
  let arg14 : BitVec 32 := Scf.iv c0_i32_980 c1_i32_981 k0_t1
  let c7_i32_1101 : BitVec 32 := 7#32
  let v2370 : BitVec 32 := Scalar.addi arg14 c7_i32_1101
  let c256_i32_1102 : BitVec 32 := 256#32
  let v2371 : BitVec 32 := Scalar.muli v2370 c256_i32_1102
  v2371
def k0_off2 (k0_t1 : Fin k0_t1_loop.trips) : Fin 2 → Nat :=
  let c0_i32_980 : BitVec 32 := 0#32
  let c1_i32_981 : BitVec 32 := 1#32
  let arg14 : BitVec 32 := Scf.iv c0_i32_980 c1_i32_981 k0_t1
  let c7_i32_1101 : BitVec 32 := 7#32
  let v2370 : BitVec 32 := Scalar.addi arg14 c7_i32_1101
  let c256_i32_1102 : BitVec 32 := 256#32
  let v2371 : BitVec 32 := Scalar.muli v2370 c256_i32_1102
  let v2372 : BitVec 32 := v2371
  let v2373 : Index := Scalar.indexCast v2372
  let c0_1103 : Index := 0#32
  ![v2373.toNat, 0]
def k0_off3 (k0_t1 : Fin k0_t1_loop.trips) : Fin 2 → Nat :=
  let c0_i32_980 : BitVec 32 := 0#32
  let c1_i32_981 : BitVec 32 := 1#32
  let arg14 : BitVec 32 := Scf.iv c0_i32_980 c1_i32_981 k0_t1
  let v2382 : Index := Scalar.indexCast arg14
  let c0_1106 : Index := 0#32
  ![v2382.toNat, 0]
def k0_mult3 (i : grid0.Coords) : BitVec 32 :=
  let arg1 : BitVec 32 := BitVec.ofNat 32 (i 1).val
  let c0_i32 : BitVec 32 := 0#32
  let v0 : BitVec 32 := Scalar.addi arg1 c0_i32
  let c256_i32 : BitVec 32 := 256#32
  let v316 : BitVec 32 := Scalar.muli v0 c256_i32
  v316
def k0_off4 (i : grid0.Coords) (c0_i32 : BitVec 32) : Fin 2 → Nat :=
  let arg1 : BitVec 32 := BitVec.ofNat 32 (i 1).val
  let v0 : BitVec 32 := Scalar.addi arg1 c0_i32
  let c256_i32 : BitVec 32 := 256#32
  let v316 : BitVec 32 := Scalar.muli v0 c256_i32
  let v317 : BitVec 32 := v316
  let v318 : Index := Scalar.indexCast v317
  let c0_127 : Index := 0#32
  ![v318.toNat, 0]
def k0_mult4 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c0_i32_144 : BitVec 32 := 0#32
  let v370 : BitVec 32 := Scalar.addi v369 c0_i32_144
  let c256_i32_145 : BitVec 32 := 256#32
  let v371 : BitVec 32 := Scalar.muli v370 c256_i32_145
  v371
def k0_off5 (i : grid0.Coords) (c0_i32 : BitVec 32) (c0_i32_144 : BitVec 32) : Fin 2 → Nat :=
  let arg1 : BitVec 32 := BitVec.ofNat 32 (i 1).val
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let v370 : BitVec 32 := Scalar.addi v369 c0_i32_144
  let c256_i32_145 : BitVec 32 := 256#32
  let v371 : BitVec 32 := Scalar.muli v370 c256_i32_145
  let v372 : BitVec 32 := v371
  let v375 : Index := Scalar.indexCast v372
  let c0_149 : Index := 0#32
  ![v375.toNat, 0]
def k0_mult5 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c1_i32_155 : BitVec 32 := 1#32
  let v389 : BitVec 32 := Scalar.addi v369 c1_i32_155
  let c256_i32_156 : BitVec 32 := 256#32
  let v390 : BitVec 32 := Scalar.muli v389 c256_i32_156
  v390
def k0_mult6 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c2_i32_165 : BitVec 32 := 2#32
  let v409 : BitVec 32 := Scalar.addi v369 c2_i32_165
  let c256_i32_166 : BitVec 32 := 256#32
  let v410 : BitVec 32 := Scalar.muli v409 c256_i32_166
  v410
def k0_mult7 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c3_i32 : BitVec 32 := 3#32
  let v429 : BitVec 32 := Scalar.addi v369 c3_i32
  let c256_i32_175 : BitVec 32 := 256#32
  let v430 : BitVec 32 := Scalar.muli v429 c256_i32_175
  v430
def k0_mult8 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c4_i32 : BitVec 32 := 4#32
  let v449 : BitVec 32 := Scalar.addi v369 c4_i32
  let c256_i32_184 : BitVec 32 := 256#32
  let v450 : BitVec 32 := Scalar.muli v449 c256_i32_184
  v450
def k0_mult9 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c5_i32 : BitVec 32 := 5#32
  let v469 : BitVec 32 := Scalar.addi v369 c5_i32
  let c256_i32_193 : BitVec 32 := 256#32
  let v470 : BitVec 32 := Scalar.muli v469 c256_i32_193
  v470
def k0_mult10 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c6_i32 : BitVec 32 := 6#32
  let v489 : BitVec 32 := Scalar.addi v369 c6_i32
  let c256_i32_202 : BitVec 32 := 256#32
  let v490 : BitVec 32 := Scalar.muli v489 c256_i32_202
  v490
def k0_mult11 (i : grid0.Coords) : BitVec 32 :=
  let arg1 : BitVec 32 := BitVec.ofNat 32 (i 1).val
  let c0_i32 : BitVec 32 := 0#32
  let v0 : BitVec 32 := Scalar.addi arg1 c0_i32
  let c8_i32_141 : BitVec 32 := 8#32
  let v367 : BitVec 32 := Scalar.subi v0 c8_i32_141
  let c7_i32_142 : BitVec 32 := 7#32
  let v368 : BitVec 32 := Scalar.addi v367 c7_i32_142
  let c0_i32_143 : BitVec 32 := 0#32
  let v369 : BitVec 32 := Scalar.maxsi v368 c0_i32_143
  let c7_i32_211 : BitVec 32 := 7#32
  let v509 : BitVec 32 := Scalar.addi v369 c7_i32_211
  let c256_i32_212 : BitVec 32 := 256#32
  let v510 : BitVec 32 := Scalar.muli v509 c256_i32_212
  v510
def k0_mult12 (i : grid0.Coords) : BitVec 32 :=
  let arg1 : BitVec 32 := BitVec.ofNat 32 (i 1).val
  let c16_i32 : BitVec 32 := 16#32
  let v1 : BitVec 32 := Scalar.addi arg1 c16_i32
  let c256_i32_230 : BitVec 32 := 256#32
  let v546 : BitVec 32 := Scalar.muli v1 c256_i32_230
  v546
def k0_mult13 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c0_i32_250 : BitVec 32 := 0#32
  let v600 : BitVec 32 := Scalar.addi v599 c0_i32_250
  let c256_i32_251 : BitVec 32 := 256#32
  let v601 : BitVec 32 := Scalar.muli v600 c256_i32_251
  v601
def k0_mult14 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c1_i32_261 : BitVec 32 := 1#32
  let v619 : BitVec 32 := Scalar.addi v599 c1_i32_261
  let c256_i32_262 : BitVec 32 := 256#32
  let v620 : BitVec 32 := Scalar.muli v619 c256_i32_262
  v620
def k0_mult15 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c2_i32_272 : BitVec 32 := 2#32
  let v639 : BitVec 32 := Scalar.addi v599 c2_i32_272
  let c256_i32_273 : BitVec 32 := 256#32
  let v640 : BitVec 32 := Scalar.muli v639 c256_i32_273
  v640
def k0_mult16 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c3_i32_283 : BitVec 32 := 3#32
  let v659 : BitVec 32 := Scalar.addi v599 c3_i32_283
  let c256_i32_284 : BitVec 32 := 256#32
  let v660 : BitVec 32 := Scalar.muli v659 c256_i32_284
  v660
def k0_mult17 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c4_i32_294 : BitVec 32 := 4#32
  let v679 : BitVec 32 := Scalar.addi v599 c4_i32_294
  let c256_i32_295 : BitVec 32 := 256#32
  let v680 : BitVec 32 := Scalar.muli v679 c256_i32_295
  v680
def k0_mult18 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c5_i32_305 : BitVec 32 := 5#32
  let v699 : BitVec 32 := Scalar.addi v599 c5_i32_305
  let c256_i32_306 : BitVec 32 := 256#32
  let v700 : BitVec 32 := Scalar.muli v699 c256_i32_306
  v700
def k0_mult19 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c6_i32_316 : BitVec 32 := 6#32
  let v719 : BitVec 32 := Scalar.addi v599 c6_i32_316
  let c256_i32_317 : BitVec 32 := 256#32
  let v720 : BitVec 32 := Scalar.muli v719 c256_i32_317
  v720
def k0_mult20 (i : grid0.Coords) : BitVec 32 :=
  let arg1 : BitVec 32 := BitVec.ofNat 32 (i 1).val
  let c16_i32 : BitVec 32 := 16#32
  let v1 : BitVec 32 := Scalar.addi arg1 c16_i32
  let c8_i32_247 : BitVec 32 := 8#32
  let v597 : BitVec 32 := Scalar.subi v1 c8_i32_247
  let c7_i32_248 : BitVec 32 := 7#32
  let v598 : BitVec 32 := Scalar.addi v597 c7_i32_248
  let c0_i32_249 : BitVec 32 := 0#32
  let v599 : BitVec 32 := Scalar.maxsi v598 c0_i32_249
  let c7_i32_327 : BitVec 32 := 7#32
  let v739 : BitVec 32 := Scalar.addi v599 c7_i32_327
  let c256_i32_328 : BitVec 32 := 256#32
  let v740 : BitVec 32 := Scalar.muli v739 c256_i32_328
  v740
def k0_mult21 (i : grid0.Coords) : BitVec 32 :=
  let arg1 : BitVec 32 := BitVec.ofNat 32 (i 1).val
  let c32_i32 : BitVec 32 := 32#32
  let v2 : BitVec 32 := Scalar.addi arg1 c32_i32
  let c256_i32_347 : BitVec 32 := 256#32
  let v776 : BitVec 32 := Scalar.muli v2 c256_i32_347
  v776
def k0_mult22 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c0_i32_367 : BitVec 32 := 0#32
  let v830 : BitVec 32 := Scalar.addi v829 c0_i32_367
  let c256_i32_368 : BitVec 32 := 256#32
  let v831 : BitVec 32 := Scalar.muli v830 c256_i32_368
  v831
def k0_mult23 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c1_i32_378 : BitVec 32 := 1#32
  let v849 : BitVec 32 := Scalar.addi v829 c1_i32_378
  let c256_i32_379 : BitVec 32 := 256#32
  let v850 : BitVec 32 := Scalar.muli v849 c256_i32_379
  v850
def k0_mult24 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c2_i32_389 : BitVec 32 := 2#32
  let v869 : BitVec 32 := Scalar.addi v829 c2_i32_389
  let c256_i32_390 : BitVec 32 := 256#32
  let v870 : BitVec 32 := Scalar.muli v869 c256_i32_390
  v870
def k0_mult25 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c3_i32_400 : BitVec 32 := 3#32
  let v889 : BitVec 32 := Scalar.addi v829 c3_i32_400
  let c256_i32_401 : BitVec 32 := 256#32
  let v890 : BitVec 32 := Scalar.muli v889 c256_i32_401
  v890
def k0_mult26 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c4_i32_411 : BitVec 32 := 4#32
  let v909 : BitVec 32 := Scalar.addi v829 c4_i32_411
  let c256_i32_412 : BitVec 32 := 256#32
  let v910 : BitVec 32 := Scalar.muli v909 c256_i32_412
  v910
def k0_mult27 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c5_i32_422 : BitVec 32 := 5#32
  let v929 : BitVec 32 := Scalar.addi v829 c5_i32_422
  let c256_i32_423 : BitVec 32 := 256#32
  let v930 : BitVec 32 := Scalar.muli v929 c256_i32_423
  v930
def k0_mult28 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c6_i32_433 : BitVec 32 := 6#32
  let v949 : BitVec 32 := Scalar.addi v829 c6_i32_433
  let c256_i32_434 : BitVec 32 := 256#32
  let v950 : BitVec 32 := Scalar.muli v949 c256_i32_434
  v950
def k0_mult29 (i : grid0.Coords) : BitVec 32 :=
  let arg1 : BitVec 32 := BitVec.ofNat 32 (i 1).val
  let c32_i32 : BitVec 32 := 32#32
  let v2 : BitVec 32 := Scalar.addi arg1 c32_i32
  let c8_i32_364 : BitVec 32 := 8#32
  let v827 : BitVec 32 := Scalar.subi v2 c8_i32_364
  let c7_i32_365 : BitVec 32 := 7#32
  let v828 : BitVec 32 := Scalar.addi v827 c7_i32_365
  let c0_i32_366 : BitVec 32 := 0#32
  let v829 : BitVec 32 := Scalar.maxsi v828 c0_i32_366
  let c7_i32_444 : BitVec 32 := 7#32
  let v969 : BitVec 32 := Scalar.addi v829 c7_i32_444
  let c256_i32_445 : BitVec 32 := 256#32
  let v970 : BitVec 32 := Scalar.muli v969 c256_i32_445
  v970
def k0_mult30 (i : grid0.Coords) : BitVec 32 :=
  let arg1 : BitVec 32 := BitVec.ofNat 32 (i 1).val
  let c48_i32 : BitVec 32 := 48#32
  let v3 : BitVec 32 := Scalar.addi arg1 c48_i32
  let c256_i32_464 : BitVec 32 := 256#32
  let v1006 : BitVec 32 := Scalar.muli v3 c256_i32_464
  v1006
def k0_mult31 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c0_i32_484 : BitVec 32 := 0#32
  let v1060 : BitVec 32 := Scalar.addi v1059 c0_i32_484
  let c256_i32_485 : BitVec 32 := 256#32
  let v1061 : BitVec 32 := Scalar.muli v1060 c256_i32_485
  v1061
def k0_mult32 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c1_i32_495 : BitVec 32 := 1#32
  let v1079 : BitVec 32 := Scalar.addi v1059 c1_i32_495
  let c256_i32_496 : BitVec 32 := 256#32
  let v1080 : BitVec 32 := Scalar.muli v1079 c256_i32_496
  v1080
def k0_mult33 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c2_i32_506 : BitVec 32 := 2#32
  let v1099 : BitVec 32 := Scalar.addi v1059 c2_i32_506
  let c256_i32_507 : BitVec 32 := 256#32
  let v1100 : BitVec 32 := Scalar.muli v1099 c256_i32_507
  v1100
def k0_mult34 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c3_i32_517 : BitVec 32 := 3#32
  let v1119 : BitVec 32 := Scalar.addi v1059 c3_i32_517
  let c256_i32_518 : BitVec 32 := 256#32
  let v1120 : BitVec 32 := Scalar.muli v1119 c256_i32_518
  v1120
def k0_mult35 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c4_i32_528 : BitVec 32 := 4#32
  let v1139 : BitVec 32 := Scalar.addi v1059 c4_i32_528
  let c256_i32_529 : BitVec 32 := 256#32
  let v1140 : BitVec 32 := Scalar.muli v1139 c256_i32_529
  v1140
def k0_mult36 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c5_i32_539 : BitVec 32 := 5#32
  let v1159 : BitVec 32 := Scalar.addi v1059 c5_i32_539
  let c256_i32_540 : BitVec 32 := 256#32
  let v1160 : BitVec 32 := Scalar.muli v1159 c256_i32_540
  v1160
def k0_mult37 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c6_i32_550 : BitVec 32 := 6#32
  let v1179 : BitVec 32 := Scalar.addi v1059 c6_i32_550
  let c256_i32_551 : BitVec 32 := 256#32
  let v1180 : BitVec 32 := Scalar.muli v1179 c256_i32_551
  v1180
def k0_mult38 (i : grid0.Coords) : BitVec 32 :=
  let arg1 : BitVec 32 := BitVec.ofNat 32 (i 1).val
  let c48_i32 : BitVec 32 := 48#32
  let v3 : BitVec 32 := Scalar.addi arg1 c48_i32
  let c8_i32_481 : BitVec 32 := 8#32
  let v1057 : BitVec 32 := Scalar.subi v3 c8_i32_481
  let c7_i32_482 : BitVec 32 := 7#32
  let v1058 : BitVec 32 := Scalar.addi v1057 c7_i32_482
  let c0_i32_483 : BitVec 32 := 0#32
  let v1059 : BitVec 32 := Scalar.maxsi v1058 c0_i32_483
  let c7_i32_561 : BitVec 32 := 7#32
  let v1199 : BitVec 32 := Scalar.addi v1059 c7_i32_561
  let c256_i32_562 : BitVec 32 := 256#32
  let v1200 : BitVec 32 := Scalar.muli v1199 c256_i32_562
  v1200
@[reducible] def k0_t2_loop (i : grid0.Coords) (v362 : BitVec 32) : Scf.Loop 32 :=
  let c0_i32_574 : BitVec 32 := 0#32
  let arg1 : BitVec 32 := BitVec.ofNat 32 (i 1).val
  let c0_i32 : BitVec 32 := 0#32
  let v0 : BitVec 32 := Scalar.addi arg1 c0_i32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_576 : BitVec 32 := 1#32
  ⟨c0_i32_574, v1226, c1_i32_576⟩

def k0_mult39 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_956 : BitVec 32 := 8#32
  let c0_i32_574 : BitVec 32 := 0#32
  let c1_i32_576 : BitVec 32 := 1#32
  let arg14 : BitVec 32 := Scf.iv c0_i32_574 c1_i32_576 k0_t2
  let c1_i32_955 : BitVec 32 := 1#32
  let v2030 : BitVec 32 := Scalar.addi arg14 c1_i32_955
  let v2031 : BitVec 32 := Scalar.muli c8_i32_956 v2030
  let v2032 : BitVec 32 := Scalar.subi v0 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off6 (i : grid0.Coords) (v362 : BitVec 32) (k0_t2 : Fin (k0_t2_loop i v362).trips) (c0_i32_957 : BitVec 32) : Fin 2 → Nat :=
  let arg1 : BitVec 32 := BitVec.ofNat 32 (i 1).val
  let c0_i32 : BitVec 32 := 0#32
  let v0 : BitVec 32 := Scalar.addi arg1 c0_i32
  let c8_i32_956 : BitVec 32 := 8#32
  let c0_i32_574 : BitVec 32 := 0#32
  let c1_i32_576 : BitVec 32 := 1#32
  let arg14 : BitVec 32 := Scf.iv c0_i32_574 c1_i32_576 k0_t2
  let c1_i32_955 : BitVec 32 := 1#32
  let v2030 : BitVec 32 := Scalar.addi arg14 c1_i32_955
  let v2031 : BitVec 32 := Scalar.muli c8_i32_956 v2030
  let v2032 : BitVec 32 := Scalar.subi v0 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult40 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_966 : BitVec 32 := 8#32
  let c0_i32_574 : BitVec 32 := 0#32
  let c1_i32_576 : BitVec 32 := 1#32
  let arg14 : BitVec 32 := Scf.iv c0_i32_574 c1_i32_576 k0_t2
  let c1_i32_965 : BitVec 32 := 1#32
  let v2051 : BitVec 32 := Scalar.addi arg14 c1_i32_965
  let v2052 : BitVec 32 := Scalar.muli c8_i32_966 v2051
  let v2053 : BitVec 32 := Scalar.subi v0 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult41 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_976 : BitVec 32 := 8#32
  let c0_i32_574 : BitVec 32 := 0#32
  let c1_i32_576 : BitVec 32 := 1#32
  let arg14 : BitVec 32 := Scf.iv c0_i32_574 c1_i32_576 k0_t2
  let c1_i32_975 : BitVec 32 := 1#32
  let v2072 : BitVec 32 := Scalar.addi arg14 c1_i32_975
  let v2073 : BitVec 32 := Scalar.muli c8_i32_976 v2072
  let v2074 : BitVec 32 := Scalar.subi v0 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult42 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_986 : BitVec 32 := 8#32
  let c0_i32_574 : BitVec 32 := 0#32
  let c1_i32_576 : BitVec 32 := 1#32
  let arg14 : BitVec 32 := Scf.iv c0_i32_574 c1_i32_576 k0_t2
  let c1_i32_985 : BitVec 32 := 1#32
  let v2093 : BitVec 32 := Scalar.addi arg14 c1_i32_985
  let v2094 : BitVec 32 := Scalar.muli c8_i32_986 v2093
  let v2095 : BitVec 32 := Scalar.subi v0 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult43 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_996 : BitVec 32 := 8#32
  let c0_i32_574 : BitVec 32 := 0#32
  let c1_i32_576 : BitVec 32 := 1#32
  let arg14 : BitVec 32 := Scf.iv c0_i32_574 c1_i32_576 k0_t2
  let c1_i32_995 : BitVec 32 := 1#32
  let v2114 : BitVec 32 := Scalar.addi arg14 c1_i32_995
  let v2115 : BitVec 32 := Scalar.muli c8_i32_996 v2114
  let v2116 : BitVec 32 := Scalar.subi v0 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult44 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1006 : BitVec 32 := 8#32
  let c0_i32_574 : BitVec 32 := 0#32
  let c1_i32_576 : BitVec 32 := 1#32
  let arg14 : BitVec 32 := Scf.iv c0_i32_574 c1_i32_576 k0_t2
  let c1_i32_1005 : BitVec 32 := 1#32
  let v2135 : BitVec 32 := Scalar.addi arg14 c1_i32_1005
  let v2136 : BitVec 32 := Scalar.muli c8_i32_1006 v2135
  let v2137 : BitVec 32 := Scalar.subi v0 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult45 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1016 : BitVec 32 := 8#32
  let c0_i32_574 : BitVec 32 := 0#32
  let c1_i32_576 : BitVec 32 := 1#32
  let arg14 : BitVec 32 := Scf.iv c0_i32_574 c1_i32_576 k0_t2
  let c1_i32_1015 : BitVec 32 := 1#32
  let v2156 : BitVec 32 := Scalar.addi arg14 c1_i32_1015
  let v2157 : BitVec 32 := Scalar.muli c8_i32_1016 v2156
  let v2158 : BitVec 32 := Scalar.subi v0 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult46 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1026 : BitVec 32 := 8#32
  let c0_i32_574 : BitVec 32 := 0#32
  let c1_i32_576 : BitVec 32 := 1#32
  let arg14 : BitVec 32 := Scf.iv c0_i32_574 c1_i32_576 k0_t2
  let c1_i32_1025 : BitVec 32 := 1#32
  let v2177 : BitVec 32 := Scalar.addi arg14 c1_i32_1025
  let v2178 : BitVec 32 := Scalar.muli c8_i32_1026 v2177
  let v2179 : BitVec 32 := Scalar.subi v0 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult47 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off7 (i : grid0.Coords) (v362 : BitVec 32) (k0_t2 : Fin (k0_t2_loop i v362).trips) (c0_i32_1040 : BitVec 32) : Fin 2 → Nat :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult48 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult49 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult50 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult51 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult52 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult53 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult54 (i : grid0.Coords) (v362 : BitVec 32) (k0_t2 : Fin (k0_t2_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c1_i32_576 : BitVec 32 := 1#32
  let arg14 : BitVec 32 := Scf.iv c0_i32_574 c1_i32_576 k0_t2
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t3_loop (i : grid0.Coords) (v362 : BitVec 32) : Scf.Loop 32 :=
  let c0_i32_574 : BitVec 32 := 0#32
  let arg1 : BitVec 32 := BitVec.ofNat 32 (i 1).val
  let c0_i32 : BitVec 32 := 0#32
  let v0 : BitVec 32 := Scalar.addi arg1 c0_i32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let v1223 : BitVec 32 := Scalar.addi c0_i32_574 v1222
  let c1_i32_577 : BitVec 32 := 1#32
  ⟨v1226, v1223, c1_i32_577⟩
def k0_mult55 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_956 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_955 : BitVec 32 := 1#32
  let v2030 : BitVec 32 := Scalar.addi arg14 c1_i32_955
  let v2031 : BitVec 32 := Scalar.muli c8_i32_956 v2030
  let v2032 : BitVec 32 := Scalar.subi v0 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off8 (i : grid0.Coords) (v362 : BitVec 32) (k0_t3 : Fin (k0_t3_loop i v362).trips) (c0_i32_957 : BitVec 32) : Fin 2 → Nat :=
  let arg1 : BitVec 32 := BitVec.ofNat 32 (i 1).val
  let c0_i32 : BitVec 32 := 0#32
  let v0 : BitVec 32 := Scalar.addi arg1 c0_i32
  let c8_i32_956 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_955 : BitVec 32 := 1#32
  let v2030 : BitVec 32 := Scalar.addi arg14 c1_i32_955
  let v2031 : BitVec 32 := Scalar.muli c8_i32_956 v2030
  let v2032 : BitVec 32 := Scalar.subi v0 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult56 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_966 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_965 : BitVec 32 := 1#32
  let v2051 : BitVec 32 := Scalar.addi arg14 c1_i32_965
  let v2052 : BitVec 32 := Scalar.muli c8_i32_966 v2051
  let v2053 : BitVec 32 := Scalar.subi v0 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult57 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_976 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_975 : BitVec 32 := 1#32
  let v2072 : BitVec 32 := Scalar.addi arg14 c1_i32_975
  let v2073 : BitVec 32 := Scalar.muli c8_i32_976 v2072
  let v2074 : BitVec 32 := Scalar.subi v0 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult58 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_986 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_985 : BitVec 32 := 1#32
  let v2093 : BitVec 32 := Scalar.addi arg14 c1_i32_985
  let v2094 : BitVec 32 := Scalar.muli c8_i32_986 v2093
  let v2095 : BitVec 32 := Scalar.subi v0 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult59 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_996 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_995 : BitVec 32 := 1#32
  let v2114 : BitVec 32 := Scalar.addi arg14 c1_i32_995
  let v2115 : BitVec 32 := Scalar.muli c8_i32_996 v2114
  let v2116 : BitVec 32 := Scalar.subi v0 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult60 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1006 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1005 : BitVec 32 := 1#32
  let v2135 : BitVec 32 := Scalar.addi arg14 c1_i32_1005
  let v2136 : BitVec 32 := Scalar.muli c8_i32_1006 v2135
  let v2137 : BitVec 32 := Scalar.subi v0 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult61 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1016 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1015 : BitVec 32 := 1#32
  let v2156 : BitVec 32 := Scalar.addi arg14 c1_i32_1015
  let v2157 : BitVec 32 := Scalar.muli c8_i32_1016 v2156
  let v2158 : BitVec 32 := Scalar.subi v0 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult62 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1026 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1025 : BitVec 32 := 1#32
  let v2177 : BitVec 32 := Scalar.addi arg14 c1_i32_1025
  let v2178 : BitVec 32 := Scalar.muli c8_i32_1026 v2177
  let v2179 : BitVec 32 := Scalar.subi v0 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult63 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off9 (i : grid0.Coords) (v362 : BitVec 32) (k0_t3 : Fin (k0_t3_loop i v362).trips) (c0_i32_1040 : BitVec 32) : Fin 2 → Nat :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult64 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult65 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult66 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult67 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult68 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult69 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult70 (i : grid0.Coords) (v362 : BitVec 32) (k0_t3 : Fin (k0_t3_loop i v362).trips) : BitVec 32 :=
  let arg1 : BitVec 32 := BitVec.ofNat 32 (i 1).val
  let c0_i32 : BitVec 32 := 0#32
  let v0 : BitVec 32 := Scalar.addi arg1 c0_i32
  let c8_i32_1037 : BitVec 32 := 8#32
  let c0_i32_574 : BitVec 32 := 0#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_573 : BitVec 32 := 1#32
  let v1221 : BitVec 32 := Scalar.subi v366 c1_i32_573
  let v1222 : BitVec 32 := Scalar.subi v1221 c0_i32_574
  let c1_i32_575 : BitVec 32 := 1#32
  let v1224 : BitVec 32 := Scalar.divsi v1222 c1_i32_575
  let v1225 : BitVec 32 := Scalar.muli v1224 c1_i32_575
  let v1226 : BitVec 32 := Scalar.addi c0_i32_574 v1225
  let c1_i32_577 : BitVec 32 := 1#32
  let arg14 : BitVec 32 := Scf.iv v1226 c1_i32_577 k0_t3
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v0 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t4_loop (i : grid0.Coords) (v592 : BitVec 32) : Scf.Loop 32 :=
  let c0_i32_579 : BitVec 32 := 0#32
  let arg1 : BitVec 32 := BitVec.ofNat 32 (i 1).val
  let c16_i32 : BitVec 32 := 16#32
  let v1 : BitVec 32 := Scalar.addi arg1 c16_i32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_581 : BitVec 32 := 1#32
  ⟨c0_i32_579, v1234, c1_i32_581⟩

def k0_mult71 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_956 : BitVec 32 := 8#32
  let c0_i32_579 : BitVec 32 := 0#32
  let c1_i32_581 : BitVec 32 := 1#32
  let arg14 : BitVec 32 := Scf.iv c0_i32_579 c1_i32_581 k0_t4
  let c1_i32_955 : BitVec 32 := 1#32
  let v2030 : BitVec 32 := Scalar.addi arg14 c1_i32_955
  let v2031 : BitVec 32 := Scalar.muli c8_i32_956 v2030
  let v2032 : BitVec 32 := Scalar.subi v1 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off10 (i : grid0.Coords) (v592 : BitVec 32) (k0_t4 : Fin (k0_t4_loop i v592).trips) (c0_i32_957 : BitVec 32) : Fin 2 → Nat :=
  let arg1 : BitVec 32 := BitVec.ofNat 32 (i 1).val
  let c16_i32 : BitVec 32 := 16#32
  let v1 : BitVec 32 := Scalar.addi arg1 c16_i32
  let c8_i32_956 : BitVec 32 := 8#32
  let c0_i32_579 : BitVec 32 := 0#32
  let c1_i32_581 : BitVec 32 := 1#32
  let arg14 : BitVec 32 := Scf.iv c0_i32_579 c1_i32_581 k0_t4
  let c1_i32_955 : BitVec 32 := 1#32
  let v2030 : BitVec 32 := Scalar.addi arg14 c1_i32_955
  let v2031 : BitVec 32 := Scalar.muli c8_i32_956 v2030
  let v2032 : BitVec 32 := Scalar.subi v1 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult72 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_966 : BitVec 32 := 8#32
  let c0_i32_579 : BitVec 32 := 0#32
  let c1_i32_581 : BitVec 32 := 1#32
  let arg14 : BitVec 32 := Scf.iv c0_i32_579 c1_i32_581 k0_t4
  let c1_i32_965 : BitVec 32 := 1#32
  let v2051 : BitVec 32 := Scalar.addi arg14 c1_i32_965
  let v2052 : BitVec 32 := Scalar.muli c8_i32_966 v2051
  let v2053 : BitVec 32 := Scalar.subi v1 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult73 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_976 : BitVec 32 := 8#32
  let c0_i32_579 : BitVec 32 := 0#32
  let c1_i32_581 : BitVec 32 := 1#32
  let arg14 : BitVec 32 := Scf.iv c0_i32_579 c1_i32_581 k0_t4
  let c1_i32_975 : BitVec 32 := 1#32
  let v2072 : BitVec 32 := Scalar.addi arg14 c1_i32_975
  let v2073 : BitVec 32 := Scalar.muli c8_i32_976 v2072
  let v2074 : BitVec 32 := Scalar.subi v1 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult74 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_986 : BitVec 32 := 8#32
  let c0_i32_579 : BitVec 32 := 0#32
  let c1_i32_581 : BitVec 32 := 1#32
  let arg14 : BitVec 32 := Scf.iv c0_i32_579 c1_i32_581 k0_t4
  let c1_i32_985 : BitVec 32 := 1#32
  let v2093 : BitVec 32 := Scalar.addi arg14 c1_i32_985
  let v2094 : BitVec 32 := Scalar.muli c8_i32_986 v2093
  let v2095 : BitVec 32 := Scalar.subi v1 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult75 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_996 : BitVec 32 := 8#32
  let c0_i32_579 : BitVec 32 := 0#32
  let c1_i32_581 : BitVec 32 := 1#32
  let arg14 : BitVec 32 := Scf.iv c0_i32_579 c1_i32_581 k0_t4
  let c1_i32_995 : BitVec 32 := 1#32
  let v2114 : BitVec 32 := Scalar.addi arg14 c1_i32_995
  let v2115 : BitVec 32 := Scalar.muli c8_i32_996 v2114
  let v2116 : BitVec 32 := Scalar.subi v1 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult76 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1006 : BitVec 32 := 8#32
  let c0_i32_579 : BitVec 32 := 0#32
  let c1_i32_581 : BitVec 32 := 1#32
  let arg14 : BitVec 32 := Scf.iv c0_i32_579 c1_i32_581 k0_t4
  let c1_i32_1005 : BitVec 32 := 1#32
  let v2135 : BitVec 32 := Scalar.addi arg14 c1_i32_1005
  let v2136 : BitVec 32 := Scalar.muli c8_i32_1006 v2135
  let v2137 : BitVec 32 := Scalar.subi v1 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult77 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1016 : BitVec 32 := 8#32
  let c0_i32_579 : BitVec 32 := 0#32
  let c1_i32_581 : BitVec 32 := 1#32
  let arg14 : BitVec 32 := Scf.iv c0_i32_579 c1_i32_581 k0_t4
  let c1_i32_1015 : BitVec 32 := 1#32
  let v2156 : BitVec 32 := Scalar.addi arg14 c1_i32_1015
  let v2157 : BitVec 32 := Scalar.muli c8_i32_1016 v2156
  let v2158 : BitVec 32 := Scalar.subi v1 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult78 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1026 : BitVec 32 := 8#32
  let c0_i32_579 : BitVec 32 := 0#32
  let c1_i32_581 : BitVec 32 := 1#32
  let arg14 : BitVec 32 := Scf.iv c0_i32_579 c1_i32_581 k0_t4
  let c1_i32_1025 : BitVec 32 := 1#32
  let v2177 : BitVec 32 := Scalar.addi arg14 c1_i32_1025
  let v2178 : BitVec 32 := Scalar.muli c8_i32_1026 v2177
  let v2179 : BitVec 32 := Scalar.subi v1 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult79 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off11 (i : grid0.Coords) (v592 : BitVec 32) (k0_t4 : Fin (k0_t4_loop i v592).trips) (c0_i32_1040 : BitVec 32) : Fin 2 → Nat :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult80 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult81 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult82 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult83 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult84 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult85 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult86 (i : grid0.Coords) (v592 : BitVec 32) (k0_t4 : Fin (k0_t4_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c1_i32_581 : BitVec 32 := 1#32
  let arg14 : BitVec 32 := Scf.iv c0_i32_579 c1_i32_581 k0_t4
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t5_loop (i : grid0.Coords) (v592 : BitVec 32) : Scf.Loop 32 :=
  let c0_i32_579 : BitVec 32 := 0#32
  let arg1 : BitVec 32 := BitVec.ofNat 32 (i 1).val
  let c16_i32 : BitVec 32 := 16#32
  let v1 : BitVec 32 := Scalar.addi arg1 c16_i32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let v1231 : BitVec 32 := Scalar.addi c0_i32_579 v1230
  let c1_i32_582 : BitVec 32 := 1#32
  ⟨v1234, v1231, c1_i32_582⟩
def k0_mult87 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_956 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_955 : BitVec 32 := 1#32
  let v2030 : BitVec 32 := Scalar.addi arg14 c1_i32_955
  let v2031 : BitVec 32 := Scalar.muli c8_i32_956 v2030
  let v2032 : BitVec 32 := Scalar.subi v1 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off12 (i : grid0.Coords) (v592 : BitVec 32) (k0_t5 : Fin (k0_t5_loop i v592).trips) (c0_i32_957 : BitVec 32) : Fin 2 → Nat :=
  let arg1 : BitVec 32 := BitVec.ofNat 32 (i 1).val
  let c16_i32 : BitVec 32 := 16#32
  let v1 : BitVec 32 := Scalar.addi arg1 c16_i32
  let c8_i32_956 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_955 : BitVec 32 := 1#32
  let v2030 : BitVec 32 := Scalar.addi arg14 c1_i32_955
  let v2031 : BitVec 32 := Scalar.muli c8_i32_956 v2030
  let v2032 : BitVec 32 := Scalar.subi v1 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult88 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_966 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_965 : BitVec 32 := 1#32
  let v2051 : BitVec 32 := Scalar.addi arg14 c1_i32_965
  let v2052 : BitVec 32 := Scalar.muli c8_i32_966 v2051
  let v2053 : BitVec 32 := Scalar.subi v1 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult89 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_976 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_975 : BitVec 32 := 1#32
  let v2072 : BitVec 32 := Scalar.addi arg14 c1_i32_975
  let v2073 : BitVec 32 := Scalar.muli c8_i32_976 v2072
  let v2074 : BitVec 32 := Scalar.subi v1 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult90 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_986 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_985 : BitVec 32 := 1#32
  let v2093 : BitVec 32 := Scalar.addi arg14 c1_i32_985
  let v2094 : BitVec 32 := Scalar.muli c8_i32_986 v2093
  let v2095 : BitVec 32 := Scalar.subi v1 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult91 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_996 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_995 : BitVec 32 := 1#32
  let v2114 : BitVec 32 := Scalar.addi arg14 c1_i32_995
  let v2115 : BitVec 32 := Scalar.muli c8_i32_996 v2114
  let v2116 : BitVec 32 := Scalar.subi v1 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult92 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1006 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1005 : BitVec 32 := 1#32
  let v2135 : BitVec 32 := Scalar.addi arg14 c1_i32_1005
  let v2136 : BitVec 32 := Scalar.muli c8_i32_1006 v2135
  let v2137 : BitVec 32 := Scalar.subi v1 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult93 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1016 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1015 : BitVec 32 := 1#32
  let v2156 : BitVec 32 := Scalar.addi arg14 c1_i32_1015
  let v2157 : BitVec 32 := Scalar.muli c8_i32_1016 v2156
  let v2158 : BitVec 32 := Scalar.subi v1 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult94 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1026 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1025 : BitVec 32 := 1#32
  let v2177 : BitVec 32 := Scalar.addi arg14 c1_i32_1025
  let v2178 : BitVec 32 := Scalar.muli c8_i32_1026 v2177
  let v2179 : BitVec 32 := Scalar.subi v1 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult95 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off13 (i : grid0.Coords) (v592 : BitVec 32) (k0_t5 : Fin (k0_t5_loop i v592).trips) (c0_i32_1040 : BitVec 32) : Fin 2 → Nat :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult96 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult97 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult98 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult99 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult100 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult101 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult102 (i : grid0.Coords) (v592 : BitVec 32) (k0_t5 : Fin (k0_t5_loop i v592).trips) : BitVec 32 :=
  let arg1 : BitVec 32 := BitVec.ofNat 32 (i 1).val
  let c16_i32 : BitVec 32 := 16#32
  let v1 : BitVec 32 := Scalar.addi arg1 c16_i32
  let c8_i32_1037 : BitVec 32 := 8#32
  let c0_i32_579 : BitVec 32 := 0#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_578 : BitVec 32 := 1#32
  let v1229 : BitVec 32 := Scalar.subi v596 c1_i32_578
  let v1230 : BitVec 32 := Scalar.subi v1229 c0_i32_579
  let c1_i32_580 : BitVec 32 := 1#32
  let v1232 : BitVec 32 := Scalar.divsi v1230 c1_i32_580
  let v1233 : BitVec 32 := Scalar.muli v1232 c1_i32_580
  let v1234 : BitVec 32 := Scalar.addi c0_i32_579 v1233
  let c1_i32_582 : BitVec 32 := 1#32
  let arg14 : BitVec 32 := Scf.iv v1234 c1_i32_582 k0_t5
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v1 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t6_loop (i : grid0.Coords) (v822 : BitVec 32) : Scf.Loop 32 :=
  let c0_i32_584 : BitVec 32 := 0#32
  let arg1 : BitVec 32 := BitVec.ofNat 32 (i 1).val
  let c32_i32 : BitVec 32 := 32#32
  let v2 : BitVec 32 := Scalar.addi arg1 c32_i32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_586 : BitVec 32 := 1#32
  ⟨c0_i32_584, v1242, c1_i32_586⟩

def k0_mult103 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_956 : BitVec 32 := 8#32
  let c0_i32_584 : BitVec 32 := 0#32
  let c1_i32_586 : BitVec 32 := 1#32
  let arg14 : BitVec 32 := Scf.iv c0_i32_584 c1_i32_586 k0_t6
  let c1_i32_955 : BitVec 32 := 1#32
  let v2030 : BitVec 32 := Scalar.addi arg14 c1_i32_955
  let v2031 : BitVec 32 := Scalar.muli c8_i32_956 v2030
  let v2032 : BitVec 32 := Scalar.subi v2 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off14 (i : grid0.Coords) (v822 : BitVec 32) (k0_t6 : Fin (k0_t6_loop i v822).trips) (c0_i32_957 : BitVec 32) : Fin 2 → Nat :=
  let arg1 : BitVec 32 := BitVec.ofNat 32 (i 1).val
  let c32_i32 : BitVec 32 := 32#32
  let v2 : BitVec 32 := Scalar.addi arg1 c32_i32
  let c8_i32_956 : BitVec 32 := 8#32
  let c0_i32_584 : BitVec 32 := 0#32
  let c1_i32_586 : BitVec 32 := 1#32
  let arg14 : BitVec 32 := Scf.iv c0_i32_584 c1_i32_586 k0_t6
  let c1_i32_955 : BitVec 32 := 1#32
  let v2030 : BitVec 32 := Scalar.addi arg14 c1_i32_955
  let v2031 : BitVec 32 := Scalar.muli c8_i32_956 v2030
  let v2032 : BitVec 32 := Scalar.subi v2 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult104 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_966 : BitVec 32 := 8#32
  let c0_i32_584 : BitVec 32 := 0#32
  let c1_i32_586 : BitVec 32 := 1#32
  let arg14 : BitVec 32 := Scf.iv c0_i32_584 c1_i32_586 k0_t6
  let c1_i32_965 : BitVec 32 := 1#32
  let v2051 : BitVec 32 := Scalar.addi arg14 c1_i32_965
  let v2052 : BitVec 32 := Scalar.muli c8_i32_966 v2051
  let v2053 : BitVec 32 := Scalar.subi v2 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult105 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_976 : BitVec 32 := 8#32
  let c0_i32_584 : BitVec 32 := 0#32
  let c1_i32_586 : BitVec 32 := 1#32
  let arg14 : BitVec 32 := Scf.iv c0_i32_584 c1_i32_586 k0_t6
  let c1_i32_975 : BitVec 32 := 1#32
  let v2072 : BitVec 32 := Scalar.addi arg14 c1_i32_975
  let v2073 : BitVec 32 := Scalar.muli c8_i32_976 v2072
  let v2074 : BitVec 32 := Scalar.subi v2 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult106 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_986 : BitVec 32 := 8#32
  let c0_i32_584 : BitVec 32 := 0#32
  let c1_i32_586 : BitVec 32 := 1#32
  let arg14 : BitVec 32 := Scf.iv c0_i32_584 c1_i32_586 k0_t6
  let c1_i32_985 : BitVec 32 := 1#32
  let v2093 : BitVec 32 := Scalar.addi arg14 c1_i32_985
  let v2094 : BitVec 32 := Scalar.muli c8_i32_986 v2093
  let v2095 : BitVec 32 := Scalar.subi v2 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult107 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_996 : BitVec 32 := 8#32
  let c0_i32_584 : BitVec 32 := 0#32
  let c1_i32_586 : BitVec 32 := 1#32
  let arg14 : BitVec 32 := Scf.iv c0_i32_584 c1_i32_586 k0_t6
  let c1_i32_995 : BitVec 32 := 1#32
  let v2114 : BitVec 32 := Scalar.addi arg14 c1_i32_995
  let v2115 : BitVec 32 := Scalar.muli c8_i32_996 v2114
  let v2116 : BitVec 32 := Scalar.subi v2 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult108 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1006 : BitVec 32 := 8#32
  let c0_i32_584 : BitVec 32 := 0#32
  let c1_i32_586 : BitVec 32 := 1#32
  let arg14 : BitVec 32 := Scf.iv c0_i32_584 c1_i32_586 k0_t6
  let c1_i32_1005 : BitVec 32 := 1#32
  let v2135 : BitVec 32 := Scalar.addi arg14 c1_i32_1005
  let v2136 : BitVec 32 := Scalar.muli c8_i32_1006 v2135
  let v2137 : BitVec 32 := Scalar.subi v2 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult109 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1016 : BitVec 32 := 8#32
  let c0_i32_584 : BitVec 32 := 0#32
  let c1_i32_586 : BitVec 32 := 1#32
  let arg14 : BitVec 32 := Scf.iv c0_i32_584 c1_i32_586 k0_t6
  let c1_i32_1015 : BitVec 32 := 1#32
  let v2156 : BitVec 32 := Scalar.addi arg14 c1_i32_1015
  let v2157 : BitVec 32 := Scalar.muli c8_i32_1016 v2156
  let v2158 : BitVec 32 := Scalar.subi v2 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult110 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1026 : BitVec 32 := 8#32
  let c0_i32_584 : BitVec 32 := 0#32
  let c1_i32_586 : BitVec 32 := 1#32
  let arg14 : BitVec 32 := Scf.iv c0_i32_584 c1_i32_586 k0_t6
  let c1_i32_1025 : BitVec 32 := 1#32
  let v2177 : BitVec 32 := Scalar.addi arg14 c1_i32_1025
  let v2178 : BitVec 32 := Scalar.muli c8_i32_1026 v2177
  let v2179 : BitVec 32 := Scalar.subi v2 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult111 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off15 (i : grid0.Coords) (v822 : BitVec 32) (k0_t6 : Fin (k0_t6_loop i v822).trips) (c0_i32_1040 : BitVec 32) : Fin 2 → Nat :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult112 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult113 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult114 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult115 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult116 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult117 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult118 (i : grid0.Coords) (v822 : BitVec 32) (k0_t6 : Fin (k0_t6_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c1_i32_586 : BitVec 32 := 1#32
  let arg14 : BitVec 32 := Scf.iv c0_i32_584 c1_i32_586 k0_t6
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t7_loop (i : grid0.Coords) (v822 : BitVec 32) : Scf.Loop 32 :=
  let c0_i32_584 : BitVec 32 := 0#32
  let arg1 : BitVec 32 := BitVec.ofNat 32 (i 1).val
  let c32_i32 : BitVec 32 := 32#32
  let v2 : BitVec 32 := Scalar.addi arg1 c32_i32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let v1239 : BitVec 32 := Scalar.addi c0_i32_584 v1238
  let c1_i32_587 : BitVec 32 := 1#32
  ⟨v1242, v1239, c1_i32_587⟩
def k0_mult119 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_956 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_955 : BitVec 32 := 1#32
  let v2030 : BitVec 32 := Scalar.addi arg14 c1_i32_955
  let v2031 : BitVec 32 := Scalar.muli c8_i32_956 v2030
  let v2032 : BitVec 32 := Scalar.subi v2 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off16 (i : grid0.Coords) (v822 : BitVec 32) (k0_t7 : Fin (k0_t7_loop i v822).trips) (c0_i32_957 : BitVec 32) : Fin 2 → Nat :=
  let arg1 : BitVec 32 := BitVec.ofNat 32 (i 1).val
  let c32_i32 : BitVec 32 := 32#32
  let v2 : BitVec 32 := Scalar.addi arg1 c32_i32
  let c8_i32_956 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_955 : BitVec 32 := 1#32
  let v2030 : BitVec 32 := Scalar.addi arg14 c1_i32_955
  let v2031 : BitVec 32 := Scalar.muli c8_i32_956 v2030
  let v2032 : BitVec 32 := Scalar.subi v2 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult120 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_966 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_965 : BitVec 32 := 1#32
  let v2051 : BitVec 32 := Scalar.addi arg14 c1_i32_965
  let v2052 : BitVec 32 := Scalar.muli c8_i32_966 v2051
  let v2053 : BitVec 32 := Scalar.subi v2 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult121 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_976 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_975 : BitVec 32 := 1#32
  let v2072 : BitVec 32 := Scalar.addi arg14 c1_i32_975
  let v2073 : BitVec 32 := Scalar.muli c8_i32_976 v2072
  let v2074 : BitVec 32 := Scalar.subi v2 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult122 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_986 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_985 : BitVec 32 := 1#32
  let v2093 : BitVec 32 := Scalar.addi arg14 c1_i32_985
  let v2094 : BitVec 32 := Scalar.muli c8_i32_986 v2093
  let v2095 : BitVec 32 := Scalar.subi v2 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult123 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_996 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_995 : BitVec 32 := 1#32
  let v2114 : BitVec 32 := Scalar.addi arg14 c1_i32_995
  let v2115 : BitVec 32 := Scalar.muli c8_i32_996 v2114
  let v2116 : BitVec 32 := Scalar.subi v2 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult124 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1006 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1005 : BitVec 32 := 1#32
  let v2135 : BitVec 32 := Scalar.addi arg14 c1_i32_1005
  let v2136 : BitVec 32 := Scalar.muli c8_i32_1006 v2135
  let v2137 : BitVec 32 := Scalar.subi v2 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult125 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1016 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1015 : BitVec 32 := 1#32
  let v2156 : BitVec 32 := Scalar.addi arg14 c1_i32_1015
  let v2157 : BitVec 32 := Scalar.muli c8_i32_1016 v2156
  let v2158 : BitVec 32 := Scalar.subi v2 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult126 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1026 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1025 : BitVec 32 := 1#32
  let v2177 : BitVec 32 := Scalar.addi arg14 c1_i32_1025
  let v2178 : BitVec 32 := Scalar.muli c8_i32_1026 v2177
  let v2179 : BitVec 32 := Scalar.subi v2 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult127 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off17 (i : grid0.Coords) (v822 : BitVec 32) (k0_t7 : Fin (k0_t7_loop i v822).trips) (c0_i32_1040 : BitVec 32) : Fin 2 → Nat :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult128 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult129 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult130 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult131 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult132 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult133 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult134 (i : grid0.Coords) (v822 : BitVec 32) (k0_t7 : Fin (k0_t7_loop i v822).trips) : BitVec 32 :=
  let arg1 : BitVec 32 := BitVec.ofNat 32 (i 1).val
  let c32_i32 : BitVec 32 := 32#32
  let v2 : BitVec 32 := Scalar.addi arg1 c32_i32
  let c8_i32_1037 : BitVec 32 := 8#32
  let c0_i32_584 : BitVec 32 := 0#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_583 : BitVec 32 := 1#32
  let v1237 : BitVec 32 := Scalar.subi v826 c1_i32_583
  let v1238 : BitVec 32 := Scalar.subi v1237 c0_i32_584
  let c1_i32_585 : BitVec 32 := 1#32
  let v1240 : BitVec 32 := Scalar.divsi v1238 c1_i32_585
  let v1241 : BitVec 32 := Scalar.muli v1240 c1_i32_585
  let v1242 : BitVec 32 := Scalar.addi c0_i32_584 v1241
  let c1_i32_587 : BitVec 32 := 1#32
  let arg14 : BitVec 32 := Scf.iv v1242 c1_i32_587 k0_t7
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v2 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t8_loop (i : grid0.Coords) (v1052 : BitVec 32) : Scf.Loop 32 :=
  let c0_i32_589 : BitVec 32 := 0#32
  let arg1 : BitVec 32 := BitVec.ofNat 32 (i 1).val
  let c48_i32 : BitVec 32 := 48#32
  let v3 : BitVec 32 := Scalar.addi arg1 c48_i32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_591 : BitVec 32 := 1#32
  ⟨c0_i32_589, v1250, c1_i32_591⟩

def k0_mult135 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_956 : BitVec 32 := 8#32
  let c0_i32_589 : BitVec 32 := 0#32
  let c1_i32_591 : BitVec 32 := 1#32
  let arg14 : BitVec 32 := Scf.iv c0_i32_589 c1_i32_591 k0_t8
  let c1_i32_955 : BitVec 32 := 1#32
  let v2030 : BitVec 32 := Scalar.addi arg14 c1_i32_955
  let v2031 : BitVec 32 := Scalar.muli c8_i32_956 v2030
  let v2032 : BitVec 32 := Scalar.subi v3 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off18 (i : grid0.Coords) (v1052 : BitVec 32) (k0_t8 : Fin (k0_t8_loop i v1052).trips) (c0_i32_957 : BitVec 32) : Fin 2 → Nat :=
  let arg1 : BitVec 32 := BitVec.ofNat 32 (i 1).val
  let c48_i32 : BitVec 32 := 48#32
  let v3 : BitVec 32 := Scalar.addi arg1 c48_i32
  let c8_i32_956 : BitVec 32 := 8#32
  let c0_i32_589 : BitVec 32 := 0#32
  let c1_i32_591 : BitVec 32 := 1#32
  let arg14 : BitVec 32 := Scf.iv c0_i32_589 c1_i32_591 k0_t8
  let c1_i32_955 : BitVec 32 := 1#32
  let v2030 : BitVec 32 := Scalar.addi arg14 c1_i32_955
  let v2031 : BitVec 32 := Scalar.muli c8_i32_956 v2030
  let v2032 : BitVec 32 := Scalar.subi v3 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult136 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_966 : BitVec 32 := 8#32
  let c0_i32_589 : BitVec 32 := 0#32
  let c1_i32_591 : BitVec 32 := 1#32
  let arg14 : BitVec 32 := Scf.iv c0_i32_589 c1_i32_591 k0_t8
  let c1_i32_965 : BitVec 32 := 1#32
  let v2051 : BitVec 32 := Scalar.addi arg14 c1_i32_965
  let v2052 : BitVec 32 := Scalar.muli c8_i32_966 v2051
  let v2053 : BitVec 32 := Scalar.subi v3 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult137 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_976 : BitVec 32 := 8#32
  let c0_i32_589 : BitVec 32 := 0#32
  let c1_i32_591 : BitVec 32 := 1#32
  let arg14 : BitVec 32 := Scf.iv c0_i32_589 c1_i32_591 k0_t8
  let c1_i32_975 : BitVec 32 := 1#32
  let v2072 : BitVec 32 := Scalar.addi arg14 c1_i32_975
  let v2073 : BitVec 32 := Scalar.muli c8_i32_976 v2072
  let v2074 : BitVec 32 := Scalar.subi v3 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult138 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_986 : BitVec 32 := 8#32
  let c0_i32_589 : BitVec 32 := 0#32
  let c1_i32_591 : BitVec 32 := 1#32
  let arg14 : BitVec 32 := Scf.iv c0_i32_589 c1_i32_591 k0_t8
  let c1_i32_985 : BitVec 32 := 1#32
  let v2093 : BitVec 32 := Scalar.addi arg14 c1_i32_985
  let v2094 : BitVec 32 := Scalar.muli c8_i32_986 v2093
  let v2095 : BitVec 32 := Scalar.subi v3 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult139 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_996 : BitVec 32 := 8#32
  let c0_i32_589 : BitVec 32 := 0#32
  let c1_i32_591 : BitVec 32 := 1#32
  let arg14 : BitVec 32 := Scf.iv c0_i32_589 c1_i32_591 k0_t8
  let c1_i32_995 : BitVec 32 := 1#32
  let v2114 : BitVec 32 := Scalar.addi arg14 c1_i32_995
  let v2115 : BitVec 32 := Scalar.muli c8_i32_996 v2114
  let v2116 : BitVec 32 := Scalar.subi v3 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult140 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1006 : BitVec 32 := 8#32
  let c0_i32_589 : BitVec 32 := 0#32
  let c1_i32_591 : BitVec 32 := 1#32
  let arg14 : BitVec 32 := Scf.iv c0_i32_589 c1_i32_591 k0_t8
  let c1_i32_1005 : BitVec 32 := 1#32
  let v2135 : BitVec 32 := Scalar.addi arg14 c1_i32_1005
  let v2136 : BitVec 32 := Scalar.muli c8_i32_1006 v2135
  let v2137 : BitVec 32 := Scalar.subi v3 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult141 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1016 : BitVec 32 := 8#32
  let c0_i32_589 : BitVec 32 := 0#32
  let c1_i32_591 : BitVec 32 := 1#32
  let arg14 : BitVec 32 := Scf.iv c0_i32_589 c1_i32_591 k0_t8
  let c1_i32_1015 : BitVec 32 := 1#32
  let v2156 : BitVec 32 := Scalar.addi arg14 c1_i32_1015
  let v2157 : BitVec 32 := Scalar.muli c8_i32_1016 v2156
  let v2158 : BitVec 32 := Scalar.subi v3 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult142 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1026 : BitVec 32 := 8#32
  let c0_i32_589 : BitVec 32 := 0#32
  let c1_i32_591 : BitVec 32 := 1#32
  let arg14 : BitVec 32 := Scf.iv c0_i32_589 c1_i32_591 k0_t8
  let c1_i32_1025 : BitVec 32 := 1#32
  let v2177 : BitVec 32 := Scalar.addi arg14 c1_i32_1025
  let v2178 : BitVec 32 := Scalar.muli c8_i32_1026 v2177
  let v2179 : BitVec 32 := Scalar.subi v3 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult143 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off19 (i : grid0.Coords) (v1052 : BitVec 32) (k0_t8 : Fin (k0_t8_loop i v1052).trips) (c0_i32_1040 : BitVec 32) : Fin 2 → Nat :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult144 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult145 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult146 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult147 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult148 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult149 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult150 (i : grid0.Coords) (v1052 : BitVec 32) (k0_t8 : Fin (k0_t8_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c1_i32_591 : BitVec 32 := 1#32
  let arg14 : BitVec 32 := Scf.iv c0_i32_589 c1_i32_591 k0_t8
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
@[reducible] def k0_t9_loop (i : grid0.Coords) (v1052 : BitVec 32) : Scf.Loop 32 :=
  let c0_i32_589 : BitVec 32 := 0#32
  let arg1 : BitVec 32 := BitVec.ofNat 32 (i 1).val
  let c48_i32 : BitVec 32 := 48#32
  let v3 : BitVec 32 := Scalar.addi arg1 c48_i32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let v1247 : BitVec 32 := Scalar.addi c0_i32_589 v1246
  let c1_i32_592 : BitVec 32 := 1#32
  ⟨v1250, v1247, c1_i32_592⟩
def k0_mult151 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_956 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_955 : BitVec 32 := 1#32
  let v2030 : BitVec 32 := Scalar.addi arg14 c1_i32_955
  let v2031 : BitVec 32 := Scalar.muli c8_i32_956 v2030
  let v2032 : BitVec 32 := Scalar.subi v3 v2031
  let c0_i32_957 : BitVec 32 := 0#32
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  v2035
def k0_off20 (i : grid0.Coords) (v1052 : BitVec 32) (k0_t9 : Fin (k0_t9_loop i v1052).trips) (c0_i32_957 : BitVec 32) : Fin 2 → Nat :=
  let arg1 : BitVec 32 := BitVec.ofNat 32 (i 1).val
  let c48_i32 : BitVec 32 := 48#32
  let v3 : BitVec 32 := Scalar.addi arg1 c48_i32
  let c8_i32_956 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_955 : BitVec 32 := 1#32
  let v2030 : BitVec 32 := Scalar.addi arg14 c1_i32_955
  let v2031 : BitVec 32 := Scalar.muli c8_i32_956 v2030
  let v2032 : BitVec 32 := Scalar.subi v3 v2031
  let v2033 : BitVec 32 := Scalar.addi v2032 c0_i32_957
  let c0_i32_958 : BitVec 32 := 0#32
  let v2034 : BitVec 32 := Scalar.maxsi v2033 c0_i32_958
  let c256_i32_959 : BitVec 32 := 256#32
  let v2035 : BitVec 32 := Scalar.muli v2034 c256_i32_959
  let v2036 : BitVec 32 := v2035
  let v2047 : Index := Scalar.indexCast v2036
  let c0_963 : Index := 0#32
  ![v2047.toNat, 0]
def k0_mult152 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_966 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_965 : BitVec 32 := 1#32
  let v2051 : BitVec 32 := Scalar.addi arg14 c1_i32_965
  let v2052 : BitVec 32 := Scalar.muli c8_i32_966 v2051
  let v2053 : BitVec 32 := Scalar.subi v3 v2052
  let c1_i32_967 : BitVec 32 := 1#32
  let v2054 : BitVec 32 := Scalar.addi v2053 c1_i32_967
  let c0_i32_968 : BitVec 32 := 0#32
  let v2055 : BitVec 32 := Scalar.maxsi v2054 c0_i32_968
  let c256_i32_969 : BitVec 32 := 256#32
  let v2056 : BitVec 32 := Scalar.muli v2055 c256_i32_969
  v2056
def k0_mult153 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_976 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_975 : BitVec 32 := 1#32
  let v2072 : BitVec 32 := Scalar.addi arg14 c1_i32_975
  let v2073 : BitVec 32 := Scalar.muli c8_i32_976 v2072
  let v2074 : BitVec 32 := Scalar.subi v3 v2073
  let c2_i32_977 : BitVec 32 := 2#32
  let v2075 : BitVec 32 := Scalar.addi v2074 c2_i32_977
  let c0_i32_978 : BitVec 32 := 0#32
  let v2076 : BitVec 32 := Scalar.maxsi v2075 c0_i32_978
  let c256_i32_979 : BitVec 32 := 256#32
  let v2077 : BitVec 32 := Scalar.muli v2076 c256_i32_979
  v2077
def k0_mult154 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_986 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_985 : BitVec 32 := 1#32
  let v2093 : BitVec 32 := Scalar.addi arg14 c1_i32_985
  let v2094 : BitVec 32 := Scalar.muli c8_i32_986 v2093
  let v2095 : BitVec 32 := Scalar.subi v3 v2094
  let c3_i32_987 : BitVec 32 := 3#32
  let v2096 : BitVec 32 := Scalar.addi v2095 c3_i32_987
  let c0_i32_988 : BitVec 32 := 0#32
  let v2097 : BitVec 32 := Scalar.maxsi v2096 c0_i32_988
  let c256_i32_989 : BitVec 32 := 256#32
  let v2098 : BitVec 32 := Scalar.muli v2097 c256_i32_989
  v2098
def k0_mult155 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_996 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_995 : BitVec 32 := 1#32
  let v2114 : BitVec 32 := Scalar.addi arg14 c1_i32_995
  let v2115 : BitVec 32 := Scalar.muli c8_i32_996 v2114
  let v2116 : BitVec 32 := Scalar.subi v3 v2115
  let c4_i32_997 : BitVec 32 := 4#32
  let v2117 : BitVec 32 := Scalar.addi v2116 c4_i32_997
  let c0_i32_998 : BitVec 32 := 0#32
  let v2118 : BitVec 32 := Scalar.maxsi v2117 c0_i32_998
  let c256_i32_999 : BitVec 32 := 256#32
  let v2119 : BitVec 32 := Scalar.muli v2118 c256_i32_999
  v2119
def k0_mult156 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1006 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1005 : BitVec 32 := 1#32
  let v2135 : BitVec 32 := Scalar.addi arg14 c1_i32_1005
  let v2136 : BitVec 32 := Scalar.muli c8_i32_1006 v2135
  let v2137 : BitVec 32 := Scalar.subi v3 v2136
  let c5_i32_1007 : BitVec 32 := 5#32
  let v2138 : BitVec 32 := Scalar.addi v2137 c5_i32_1007
  let c0_i32_1008 : BitVec 32 := 0#32
  let v2139 : BitVec 32 := Scalar.maxsi v2138 c0_i32_1008
  let c256_i32_1009 : BitVec 32 := 256#32
  let v2140 : BitVec 32 := Scalar.muli v2139 c256_i32_1009
  v2140
def k0_mult157 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1016 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1015 : BitVec 32 := 1#32
  let v2156 : BitVec 32 := Scalar.addi arg14 c1_i32_1015
  let v2157 : BitVec 32 := Scalar.muli c8_i32_1016 v2156
  let v2158 : BitVec 32 := Scalar.subi v3 v2157
  let c6_i32_1017 : BitVec 32 := 6#32
  let v2159 : BitVec 32 := Scalar.addi v2158 c6_i32_1017
  let c0_i32_1018 : BitVec 32 := 0#32
  let v2160 : BitVec 32 := Scalar.maxsi v2159 c0_i32_1018
  let c256_i32_1019 : BitVec 32 := 256#32
  let v2161 : BitVec 32 := Scalar.muli v2160 c256_i32_1019
  v2161
def k0_mult158 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1026 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1025 : BitVec 32 := 1#32
  let v2177 : BitVec 32 := Scalar.addi arg14 c1_i32_1025
  let v2178 : BitVec 32 := Scalar.muli c8_i32_1026 v2177
  let v2179 : BitVec 32 := Scalar.subi v3 v2178
  let c7_i32_1027 : BitVec 32 := 7#32
  let v2180 : BitVec 32 := Scalar.addi v2179 c7_i32_1027
  let c0_i32_1028 : BitVec 32 := 0#32
  let v2181 : BitVec 32 := Scalar.maxsi v2180 c0_i32_1028
  let c256_i32_1029 : BitVec 32 := 256#32
  let v2182 : BitVec 32 := Scalar.muli v2181 c256_i32_1029
  v2182
def k0_mult159 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c0_i32_1040 : BitVec 32 := 0#32
  let v2204 : BitVec 32 := Scalar.addi v2203 c0_i32_1040
  let c256_i32_1041 : BitVec 32 := 256#32
  let v2205 : BitVec 32 := Scalar.muli v2204 c256_i32_1041
  v2205
def k0_off21 (i : grid0.Coords) (v1052 : BitVec 32) (k0_t9 : Fin (k0_t9_loop i v1052).trips) (c0_i32_1040 : BitVec 32) : Fin 2 → Nat :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let v2204 : BitVec 32 := Scalar.addi v2203 c0_i32_1040
  let c256_i32_1041 : BitVec 32 := 256#32
  let v2205 : BitVec 32 := Scalar.muli v2204 c256_i32_1041
  let v2206 : BitVec 32 := v2205
  let v2209 : Index := Scalar.indexCast v2206
  let c0_1045 : Index := 0#32
  ![v2209.toNat, 0]
def k0_mult160 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c1_i32_1054 : BitVec 32 := 1#32
  let v2228 : BitVec 32 := Scalar.addi v2203 c1_i32_1054
  let c256_i32_1055 : BitVec 32 := 256#32
  let v2229 : BitVec 32 := Scalar.muli v2228 c256_i32_1055
  v2229
def k0_mult161 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c2_i32_1068 : BitVec 32 := 2#32
  let v2253 : BitVec 32 := Scalar.addi v2203 c2_i32_1068
  let c256_i32_1069 : BitVec 32 := 256#32
  let v2254 : BitVec 32 := Scalar.muli v2253 c256_i32_1069
  v2254
def k0_mult162 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c3_i32_1082 : BitVec 32 := 3#32
  let v2278 : BitVec 32 := Scalar.addi v2203 c3_i32_1082
  let c256_i32_1083 : BitVec 32 := 256#32
  let v2279 : BitVec 32 := Scalar.muli v2278 c256_i32_1083
  v2279
def k0_mult163 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c4_i32_1096 : BitVec 32 := 4#32
  let v2303 : BitVec 32 := Scalar.addi v2203 c4_i32_1096
  let c256_i32_1097 : BitVec 32 := 256#32
  let v2304 : BitVec 32 := Scalar.muli v2303 c256_i32_1097
  v2304
def k0_mult164 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c5_i32_1110 : BitVec 32 := 5#32
  let v2328 : BitVec 32 := Scalar.addi v2203 c5_i32_1110
  let c256_i32_1111 : BitVec 32 := 256#32
  let v2329 : BitVec 32 := Scalar.muli v2328 c256_i32_1111
  v2329
def k0_mult165 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c6_i32_1124 : BitVec 32 := 6#32
  let v2353 : BitVec 32 := Scalar.addi v2203 c6_i32_1124
  let c256_i32_1125 : BitVec 32 := 256#32
  let v2354 : BitVec 32 := Scalar.muli v2353 c256_i32_1125
  v2354
def k0_mult166 (i : grid0.Coords) (v1052 : BitVec 32) (k0_t9 : Fin (k0_t9_loop i v1052).trips) : BitVec 32 :=
  let arg1 : BitVec 32 := BitVec.ofNat 32 (i 1).val
  let c48_i32 : BitVec 32 := 48#32
  let v3 : BitVec 32 := Scalar.addi arg1 c48_i32
  let c8_i32_1037 : BitVec 32 := 8#32
  let c0_i32_589 : BitVec 32 := 0#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_588 : BitVec 32 := 1#32
  let v1245 : BitVec 32 := Scalar.subi v1056 c1_i32_588
  let v1246 : BitVec 32 := Scalar.subi v1245 c0_i32_589
  let c1_i32_590 : BitVec 32 := 1#32
  let v1248 : BitVec 32 := Scalar.divsi v1246 c1_i32_590
  let v1249 : BitVec 32 := Scalar.muli v1248 c1_i32_590
  let v1250 : BitVec 32 := Scalar.addi c0_i32_589 v1249
  let c1_i32_592 : BitVec 32 := 1#32
  let arg14 : BitVec 32 := Scf.iv v1250 c1_i32_592 k0_t9
  let c1_i32_1035 : BitVec 32 := 1#32
  let v2198 : BitVec 32 := Scalar.addi arg14 c1_i32_1035
  let c1_i32_1036 : BitVec 32 := 1#32
  let v2199 : BitVec 32 := Scalar.addi v2198 c1_i32_1036
  let v2200 : BitVec 32 := Scalar.muli c8_i32_1037 v2199
  let v2201 : BitVec 32 := Scalar.subi v3 v2200
  let c7_i32_1038 : BitVec 32 := 7#32
  let v2202 : BitVec 32 := Scalar.addi v2201 c7_i32_1038
  let c0_i32_1039 : BitVec 32 := 0#32
  let v2203 : BitVec 32 := Scalar.maxsi v2202 c0_i32_1039
  let c7_i32_1138 : BitVec 32 := 7#32
  let v2378 : BitVec 32 := Scalar.addi v2203 c7_i32_1138
  let c256_i32_1139 : BitVec 32 := 256#32
  let v2379 : BitVec 32 := Scalar.muli v2378 c256_i32_1139
  v2379
def k0_mult167 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_600 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_599 : BitVec 32 := 1#32
  let v1264 : BitVec 32 := Scalar.addi v1259 c1_i32_599
  let v1265 : BitVec 32 := Scalar.muli c8_i32_600 v1264
  let v1266 : BitVec 32 := Scalar.subi v0 v1265
  let c0_i32_601 : BitVec 32 := 0#32
  let v1267 : BitVec 32 := Scalar.addi v1266 c0_i32_601
  let c0_i32_602 : BitVec 32 := 0#32
  let v1268 : BitVec 32 := Scalar.maxsi v1267 c0_i32_602
  let c256_i32_603 : BitVec 32 := 256#32
  let v1269 : BitVec 32 := Scalar.muli v1268 c256_i32_603
  v1269
def k0_off22 (i : grid0.Coords) (v362 : BitVec 32) (c0_i32_601 : BitVec 32) : Fin 2 → Nat :=
  let arg1 : BitVec 32 := BitVec.ofNat 32 (i 1).val
  let c0_i32 : BitVec 32 := 0#32
  let v0 : BitVec 32 := Scalar.addi arg1 c0_i32
  let c8_i32_600 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_599 : BitVec 32 := 1#32
  let v1264 : BitVec 32 := Scalar.addi v1259 c1_i32_599
  let v1265 : BitVec 32 := Scalar.muli c8_i32_600 v1264
  let v1266 : BitVec 32 := Scalar.subi v0 v1265
  let v1267 : BitVec 32 := Scalar.addi v1266 c0_i32_601
  let c0_i32_602 : BitVec 32 := 0#32
  let v1268 : BitVec 32 := Scalar.maxsi v1267 c0_i32_602
  let c256_i32_603 : BitVec 32 := 256#32
  let v1269 : BitVec 32 := Scalar.muli v1268 c256_i32_603
  let v1270 : BitVec 32 := v1269
  let v1281 : Index := Scalar.indexCast v1270
  let c0_607 : Index := 0#32
  ![v1281.toNat, 0]
def k0_mult168 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_610 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_609 : BitVec 32 := 1#32
  let v1285 : BitVec 32 := Scalar.addi v1259 c1_i32_609
  let v1286 : BitVec 32 := Scalar.muli c8_i32_610 v1285
  let v1287 : BitVec 32 := Scalar.subi v0 v1286
  let c1_i32_611 : BitVec 32 := 1#32
  let v1288 : BitVec 32 := Scalar.addi v1287 c1_i32_611
  let c0_i32_612 : BitVec 32 := 0#32
  let v1289 : BitVec 32 := Scalar.maxsi v1288 c0_i32_612
  let c256_i32_613 : BitVec 32 := 256#32
  let v1290 : BitVec 32 := Scalar.muli v1289 c256_i32_613
  v1290
def k0_mult169 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_620 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_619 : BitVec 32 := 1#32
  let v1306 : BitVec 32 := Scalar.addi v1259 c1_i32_619
  let v1307 : BitVec 32 := Scalar.muli c8_i32_620 v1306
  let v1308 : BitVec 32 := Scalar.subi v0 v1307
  let c2_i32_621 : BitVec 32 := 2#32
  let v1309 : BitVec 32 := Scalar.addi v1308 c2_i32_621
  let c0_i32_622 : BitVec 32 := 0#32
  let v1310 : BitVec 32 := Scalar.maxsi v1309 c0_i32_622
  let c256_i32_623 : BitVec 32 := 256#32
  let v1311 : BitVec 32 := Scalar.muli v1310 c256_i32_623
  v1311
def k0_mult170 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_630 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_629 : BitVec 32 := 1#32
  let v1327 : BitVec 32 := Scalar.addi v1259 c1_i32_629
  let v1328 : BitVec 32 := Scalar.muli c8_i32_630 v1327
  let v1329 : BitVec 32 := Scalar.subi v0 v1328
  let c3_i32_631 : BitVec 32 := 3#32
  let v1330 : BitVec 32 := Scalar.addi v1329 c3_i32_631
  let c0_i32_632 : BitVec 32 := 0#32
  let v1331 : BitVec 32 := Scalar.maxsi v1330 c0_i32_632
  let c256_i32_633 : BitVec 32 := 256#32
  let v1332 : BitVec 32 := Scalar.muli v1331 c256_i32_633
  v1332
def k0_mult171 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_640 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_639 : BitVec 32 := 1#32
  let v1348 : BitVec 32 := Scalar.addi v1259 c1_i32_639
  let v1349 : BitVec 32 := Scalar.muli c8_i32_640 v1348
  let v1350 : BitVec 32 := Scalar.subi v0 v1349
  let c4_i32_641 : BitVec 32 := 4#32
  let v1351 : BitVec 32 := Scalar.addi v1350 c4_i32_641
  let c0_i32_642 : BitVec 32 := 0#32
  let v1352 : BitVec 32 := Scalar.maxsi v1351 c0_i32_642
  let c256_i32_643 : BitVec 32 := 256#32
  let v1353 : BitVec 32 := Scalar.muli v1352 c256_i32_643
  v1353
def k0_mult172 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_650 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_649 : BitVec 32 := 1#32
  let v1369 : BitVec 32 := Scalar.addi v1259 c1_i32_649
  let v1370 : BitVec 32 := Scalar.muli c8_i32_650 v1369
  let v1371 : BitVec 32 := Scalar.subi v0 v1370
  let c5_i32_651 : BitVec 32 := 5#32
  let v1372 : BitVec 32 := Scalar.addi v1371 c5_i32_651
  let c0_i32_652 : BitVec 32 := 0#32
  let v1373 : BitVec 32 := Scalar.maxsi v1372 c0_i32_652
  let c256_i32_653 : BitVec 32 := 256#32
  let v1374 : BitVec 32 := Scalar.muli v1373 c256_i32_653
  v1374
def k0_mult173 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_660 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_659 : BitVec 32 := 1#32
  let v1390 : BitVec 32 := Scalar.addi v1259 c1_i32_659
  let v1391 : BitVec 32 := Scalar.muli c8_i32_660 v1390
  let v1392 : BitVec 32 := Scalar.subi v0 v1391
  let c6_i32_661 : BitVec 32 := 6#32
  let v1393 : BitVec 32 := Scalar.addi v1392 c6_i32_661
  let c0_i32_662 : BitVec 32 := 0#32
  let v1394 : BitVec 32 := Scalar.maxsi v1393 c0_i32_662
  let c256_i32_663 : BitVec 32 := 256#32
  let v1395 : BitVec 32 := Scalar.muli v1394 c256_i32_663
  v1395
def k0_mult174 (i : grid0.Coords) (v362 : BitVec 32) : BitVec 32 :=
  let arg1 : BitVec 32 := BitVec.ofNat 32 (i 1).val
  let c0_i32 : BitVec 32 := 0#32
  let v0 : BitVec 32 := Scalar.addi arg1 c0_i32
  let c8_i32_670 : BitVec 32 := 8#32
  let c7_i32 : BitVec 32 := 7#32
  let v363 : BitVec 32 := Scalar.addi v0 c7_i32
  let c8_i32 : BitVec 32 := 8#32
  let v364 : BitVec 32 := Scalar.divsi v363 c8_i32
  let v365 : BitVec 32 := Scalar.minsi v364 v362
  let c0_i32_140 : BitVec 32 := 0#32
  let v366 : BitVec 32 := Scalar.maxsi v365 c0_i32_140
  let c1_i32_594 : BitVec 32 := 1#32
  let v1258 : BitVec 32 := Scalar.subi v366 c1_i32_594
  let c0_i32_595 : BitVec 32 := 0#32
  let v1259 : BitVec 32 := Scalar.maxsi v1258 c0_i32_595
  let c1_i32_669 : BitVec 32 := 1#32
  let v1411 : BitVec 32 := Scalar.addi v1259 c1_i32_669
  let v1412 : BitVec 32 := Scalar.muli c8_i32_670 v1411
  let v1413 : BitVec 32 := Scalar.subi v0 v1412
  let c7_i32_671 : BitVec 32 := 7#32
  let v1414 : BitVec 32 := Scalar.addi v1413 c7_i32_671
  let c0_i32_672 : BitVec 32 := 0#32
  let v1415 : BitVec 32 := Scalar.maxsi v1414 c0_i32_672
  let c256_i32_673 : BitVec 32 := 256#32
  let v1416 : BitVec 32 := Scalar.muli v1415 c256_i32_673
  v1416

def k0_chk1_0 (i : grid0.Coords) (v362 : BitVec 32) : Prop :=
  ((k0_t2_loop i v362).OK) ∧
  (∀ k0_t2 : Fin (k0_t2_loop i v362).trips, 256 ∣ (k0_mult39 i v362 k0_t2).toNat) ∧
  (∀ k0_t2 : Fin (k0_t2_loop i v362).trips, ∀ (r : Fin 8), ∀ a, (k0_off6 i v362 k0_t2 (BitVec.ofNat 32 r.val)) a + S256x128.size a ≤ S16384x128.size a) ∧
  (∀ k0_t2 : Fin (k0_t2_loop i v362).trips, 256 ∣ (k0_mult40 i v362 k0_t2).toNat) ∧
  (∀ k0_t2 : Fin (k0_t2_loop i v362).trips, 256 ∣ (k0_mult41 i v362 k0_t2).toNat) ∧
  (∀ k0_t2 : Fin (k0_t2_loop i v362).trips, 256 ∣ (k0_mult42 i v362 k0_t2).toNat) ∧
  (∀ k0_t2 : Fin (k0_t2_loop i v362).trips, 256 ∣ (k0_mult43 i v362 k0_t2).toNat) ∧
  (∀ k0_t2 : Fin (k0_t2_loop i v362).trips, 256 ∣ (k0_mult44 i v362 k0_t2).toNat) ∧
  (∀ k0_t2 : Fin (k0_t2_loop i v362).trips, 256 ∣ (k0_mult45 i v362 k0_t2).toNat) ∧
  (∀ k0_t2 : Fin (k0_t2_loop i v362).trips, 256 ∣ (k0_mult46 i v362 k0_t2).toNat) ∧
  (∀ k0_t2 : Fin (k0_t2_loop i v362).trips, 256 ∣ (k0_mult47 i v362 k0_t2).toNat) ∧
  (∀ k0_t2 : Fin (k0_t2_loop i v362).trips, ∀ (r : Fin 8), ∀ a, (k0_off7 i v362 k0_t2 (BitVec.ofNat 32 r.val)) a + S256x256.size a ≤ S18176x256.size a) ∧
  (∀ k0_t2 : Fin (k0_t2_loop i v362).trips, 256 ∣ (k0_mult48 i v362 k0_t2).toNat) ∧
  (∀ k0_t2 : Fin (k0_t2_loop i v362).trips, 256 ∣ (k0_mult49 i v362 k0_t2).toNat) ∧
  (∀ k0_t2 : Fin (k0_t2_loop i v362).trips, 256 ∣ (k0_mult50 i v362 k0_t2).toNat) ∧
  (∀ k0_t2 : Fin (k0_t2_loop i v362).trips, 256 ∣ (k0_mult51 i v362 k0_t2).toNat) ∧
  (∀ k0_t2 : Fin (k0_t2_loop i v362).trips, 256 ∣ (k0_mult52 i v362 k0_t2).toNat) ∧
  (∀ k0_t2 : Fin (k0_t2_loop i v362).trips, 256 ∣ (k0_mult53 i v362 k0_t2).toNat) ∧
  (∀ k0_t2 : Fin (k0_t2_loop i v362).trips, 256 ∣ (k0_mult54 i v362 k0_t2).toNat) ∧
  ((k0_t3_loop i v362).OK) ∧
  (∀ k0_t3 : Fin (k0_t3_loop i v362).trips, 256 ∣ (k0_mult55 i v362 k0_t3).toNat) ∧
  (∀ k0_t3 : Fin (k0_t3_loop i v362).trips, ∀ (r : Fin 8), ∀ a, (k0_off8 i v362 k0_t3 (BitVec.ofNat 32 r.val)) a + S256x128.size a ≤ S16384x128.size a) ∧
  (∀ k0_t3 : Fin (k0_t3_loop i v362).trips, 256 ∣ (k0_mult56 i v362 k0_t3).toNat) ∧
  (∀ k0_t3 : Fin (k0_t3_loop i v362).trips, 256 ∣ (k0_mult57 i v362 k0_t3).toNat) ∧
  (∀ k0_t3 : Fin (k0_t3_loop i v362).trips, 256 ∣ (k0_mult58 i v362 k0_t3).toNat) ∧
  (∀ k0_t3 : Fin (k0_t3_loop i v362).trips, 256 ∣ (k0_mult59 i v362 k0_t3).toNat) ∧
  (∀ k0_t3 : Fin (k0_t3_loop i v362).trips, 256 ∣ (k0_mult60 i v362 k0_t3).toNat) ∧
  (∀ k0_t3 : Fin (k0_t3_loop i v362).trips, 256 ∣ (k0_mult61 i v362 k0_t3).toNat) ∧
  (∀ k0_t3 : Fin (k0_t3_loop i v362).trips, 256 ∣ (k0_mult62 i v362 k0_t3).toNat) ∧
  (∀ k0_t3 : Fin (k0_t3_loop i v362).trips, 256 ∣ (k0_mult63 i v362 k0_t3).toNat) ∧
  (∀ k0_t3 : Fin (k0_t3_loop i v362).trips, ∀ (r : Fin 8), ∀ a, (k0_off9 i v362 k0_t3 (BitVec.ofNat 32 r.val)) a + S256x256.size a ≤ S18176x256.size a) ∧
  (∀ k0_t3 : Fin (k0_t3_loop i v362).trips, 256 ∣ (k0_mult64 i v362 k0_t3).toNat)
def k0_chk1_1 (i : grid0.Coords) (v362 : BitVec 32) : Prop :=
  (∀ k0_t3 : Fin (k0_t3_loop i v362).trips, 256 ∣ (k0_mult65 i v362 k0_t3).toNat) ∧
  (∀ k0_t3 : Fin (k0_t3_loop i v362).trips, 256 ∣ (k0_mult66 i v362 k0_t3).toNat) ∧
  (∀ k0_t3 : Fin (k0_t3_loop i v362).trips, 256 ∣ (k0_mult67 i v362 k0_t3).toNat) ∧
  (∀ k0_t3 : Fin (k0_t3_loop i v362).trips, 256 ∣ (k0_mult68 i v362 k0_t3).toNat) ∧
  (∀ k0_t3 : Fin (k0_t3_loop i v362).trips, 256 ∣ (k0_mult69 i v362 k0_t3).toNat) ∧
  (∀ k0_t3 : Fin (k0_t3_loop i v362).trips, 256 ∣ (k0_mult70 i v362 k0_t3).toNat) ∧
  (256 ∣ (k0_mult167 i v362).toNat) ∧
  (∀ (r : Fin 8), ∀ a, (k0_off22 i v362 (BitVec.ofNat 32 r.val)) a + S256x128.size a ≤ S16384x128.size a) ∧
  (256 ∣ (k0_mult168 i v362).toNat) ∧
  (256 ∣ (k0_mult169 i v362).toNat) ∧
  (256 ∣ (k0_mult170 i v362).toNat) ∧
  (256 ∣ (k0_mult171 i v362).toNat) ∧
  (256 ∣ (k0_mult172 i v362).toNat) ∧
  (256 ∣ (k0_mult173 i v362).toNat) ∧
  (256 ∣ (k0_mult174 i v362).toNat)
def k0_chk1 (i : grid0.Coords) (v362 : BitVec 32) : Prop :=
  k0_chk1_0 i v362 ∧
  k0_chk1_1 i v362
theorem k0_t2_ok : ∀ (i : grid0.Coords) (v362 : BitVec 32) (k0_hw1 : k0_chk1 i v362), (k0_t2_loop i v362).OK := fun i v362 k0_hw1 => k0_hw1.1.1
theorem k0_mult39_dvd : ∀ (i : grid0.Coords) (v362 : BitVec 32) (k0_hw1 : k0_chk1 i v362) (k0_t2 : Fin (k0_t2_loop i v362).trips), 256 ∣ (k0_mult39 i v362 k0_t2).toNat := fun i v362 k0_hw1 k0_t2 => k0_hw1.1.2.1 k0_t2
theorem k0_off6_inb : ∀ (i : grid0.Coords) (v362 : BitVec 32) (k0_hw1 : k0_chk1 i v362) (k0_t2 : Fin (k0_t2_loop i v362).trips), ∀ (r : Fin 8), ∀ a, (k0_off6 i v362 k0_t2 (BitVec.ofNat 32 r.val)) a + S256x128.size a ≤ S16384x128.size a := fun i v362 k0_hw1 k0_t2 r => k0_hw1.1.2.2.1 k0_t2 r
theorem k0_mult40_dvd : ∀ (i : grid0.Coords) (v362 : BitVec 32) (k0_hw1 : k0_chk1 i v362) (k0_t2 : Fin (k0_t2_loop i v362).trips), 256 ∣ (k0_mult40 i v362 k0_t2).toNat := fun i v362 k0_hw1 k0_t2 => k0_hw1.1.2.2.2.1 k0_t2
theorem k0_mult41_dvd : ∀ (i : grid0.Coords) (v362 : BitVec 32) (k0_hw1 : k0_chk1 i v362) (k0_t2 : Fin (k0_t2_loop i v362).trips), 256 ∣ (k0_mult41 i v362 k0_t2).toNat := fun i v362 k0_hw1 k0_t2 => k0_hw1.1.2.2.2.2.1 k0_t2
theorem k0_mult42_dvd : ∀ (i : grid0.Coords) (v362 : BitVec 32) (k0_hw1 : k0_chk1 i v362) (k0_t2 : Fin (k0_t2_loop i v362).trips), 256 ∣ (k0_mult42 i v362 k0_t2).toNat := fun i v362 k0_hw1 k0_t2 => k0_hw1.1.2.2.2.2.2.1 k0_t2
theorem k0_mult43_dvd : ∀ (i : grid0.Coords) (v362 : BitVec 32) (k0_hw1 : k0_chk1 i v362) (k0_t2 : Fin (k0_t2_loop i v362).trips), 256 ∣ (k0_mult43 i v362 k0_t2).toNat := fun i v362 k0_hw1 k0_t2 => k0_hw1.1.2.2.2.2.2.2.1 k0_t2
theorem k0_mult44_dvd : ∀ (i : grid0.Coords) (v362 : BitVec 32) (k0_hw1 : k0_chk1 i v362) (k0_t2 : Fin (k0_t2_loop i v362).trips), 256 ∣ (k0_mult44 i v362 k0_t2).toNat := fun i v362 k0_hw1 k0_t2 => k0_hw1.1.2.2.2.2.2.2.2.1 k0_t2
theorem k0_mult45_dvd : ∀ (i : grid0.Coords) (v362 : BitVec 32) (k0_hw1 : k0_chk1 i v362) (k0_t2 : Fin (k0_t2_loop i v362).trips), 256 ∣ (k0_mult45 i v362 k0_t2).toNat := fun i v362 k0_hw1 k0_t2 => k0_hw1.1.2.2.2.2.2.2.2.2.1 k0_t2
theorem k0_mult46_dvd : ∀ (i : grid0.Coords) (v362 : BitVec 32) (k0_hw1 : k0_chk1 i v362) (k0_t2 : Fin (k0_t2_loop i v362).trips), 256 ∣ (k0_mult46 i v362 k0_t2).toNat := fun i v362 k0_hw1 k0_t2 => k0_hw1.1.2.2.2.2.2.2.2.2.2.1 k0_t2
theorem k0_mult47_dvd : ∀ (i : grid0.Coords) (v362 : BitVec 32) (k0_hw1 : k0_chk1 i v362) (k0_t2 : Fin (k0_t2_loop i v362).trips), 256 ∣ (k0_mult47 i v362 k0_t2).toNat := fun i v362 k0_hw1 k0_t2 => k0_hw1.1.2.2.2.2.2.2.2.2.2.2.1 k0_t2
theorem k0_off7_inb : ∀ (i : grid0.Coords) (v362 : BitVec 32) (k0_hw1 : k0_chk1 i v362) (k0_t2 : Fin (k0_t2_loop i v362).trips), ∀ (r : Fin 8), ∀ a, (k0_off7 i v362 k0_t2 (BitVec.ofNat 32 r.val)) a + S256x256.size a ≤ S18176x256.size a := fun i v362 k0_hw1 k0_t2 r => k0_hw1.1.2.2.2.2.2.2.2.2.2.2.2.1 k0_t2 r
theorem k0_mult48_dvd : ∀ (i : grid0.Coords) (v362 : BitVec 32) (k0_hw1 : k0_chk1 i v362) (k0_t2 : Fin (k0_t2_loop i v362).trips), 256 ∣ (k0_mult48 i v362 k0_t2).toNat := fun i v362 k0_hw1 k0_t2 => k0_hw1.1.2.2.2.2.2.2.2.2.2.2.2.2.1 k0_t2
theorem k0_mult49_dvd : ∀ (i : grid0.Coords) (v362 : BitVec 32) (k0_hw1 : k0_chk1 i v362) (k0_t2 : Fin (k0_t2_loop i v362).trips), 256 ∣ (k0_mult49 i v362 k0_t2).toNat := fun i v362 k0_hw1 k0_t2 => k0_hw1.1.2.2.2.2.2.2.2.2.2.2.2.2.2.1 k0_t2
theorem k0_mult50_dvd : ∀ (i : grid0.Coords) (v362 : BitVec 32) (k0_hw1 : k0_chk1 i v362) (k0_t2 : Fin (k0_t2_loop i v362).trips), 256 ∣ (k0_mult50 i v362 k0_t2).toNat := fun i v362 k0_hw1 k0_t2 => k0_hw1.1.2.2.2.2.2.2.2.2.2.2.2.2.2.2.1 k0_t2
theorem k0_mult51_dvd : ∀ (i : grid0.Coords) (v362 : BitVec 32) (k0_hw1 : k0_chk1 i v362) (k0_t2 : Fin (k0_t2_loop i v362).trips), 256 ∣ (k0_mult51 i v362 k0_t2).toNat := fun i v362 k0_hw1 k0_t2 => k0_hw1.1.2.2.2.2.2.2.2.2.2.2.2.2.2.2.2.1 k0_t2
theorem k0_mult52_dvd : ∀ (i : grid0.Coords) (v362 : BitVec 32) (k0_hw1 : k0_chk1 i v362) (k0_t2 : Fin (k0_t2_loop i v362).trips), 256 ∣ (k0_mult52 i v362 k0_t2).toNat := fun i v362 k0_hw1 k0_t2 => k0_hw1.1.2.2.2.2.2.2.2.2.2.2.2.2.2.2.2.2.1 k0_t2
theorem k0_mult53_dvd : ∀ (i : grid0.Coords) (v362 : BitVec 32) (k0_hw1 : k0_chk1 i v362) (k0_t2 : Fin (k0_t2_loop i v362).trips), 256 ∣ (k0_mult53 i v362 k0_t2).toNat := fun i v362 k0_hw1 k0_t2 => k0_hw1.1.2.2.2.2.2.2.2.2.2.2.2.2.2.2.2.2.2.1 k0_t2
theorem k0_mult54_dvd : ∀ (i : grid0.Coords) (v362 : BitVec 32) (k0_hw1 : k0_chk1 i v362) (k0_t2 : Fin (k0_t2_loop i v362).trips), 256 ∣ (k0_mult54 i v362 k0_t2).toNat := fun i v362 k0_hw1 k0_t2 => k0_hw1.1.2.2.2.2.2.2.2.2.2.2.2.2.2.2.2.2.2.2.1 k0_t2
theorem k0_t3_ok : ∀ (i : grid0.Coords) (v362 : BitVec 32) (k0_hw1 : k0_chk1 i v362), (k0_t3_loop i v362).OK := fun i v362 k0_hw1 => k0_hw1.1.2.2.2.2.2.2.2.2.2.2.2.2.2.2.2.2.2.2.2.1
theorem k0_mult55_dvd : ∀ (i : grid0.Coords) (v362 : BitVec 32) (k0_hw1 : k0_chk1 i v362) (k0_t3 : Fin (k0_t3_loop i v362).trips), 256 ∣ (k0_mult55 i v362 k0_t3).toNat := fun i v362 k0_hw1 k0_t3 => k0_hw1.1.2.2.2.2.2.2.2.2.2.2.2.2.2.2.2.2.2.2.2.2.1 k0_t3
theorem k0_off8_inb : ∀ (i : grid0.Coords) (v362 : BitVec 32) (k0_hw1 : k0_chk1 i v362) (k0_t3 : Fin (k0_t3_loop i v362).trips), ∀ (r : Fin 8), ∀ a, (k0_off8 i v362 k0_t3 (BitVec.ofNat 32 r.val)) a + S256x128.size a ≤ S16384x128.size a := fun i v362 k0_hw1 k0_t3 r => k0_hw1.1.2.2.2.2.2.2.2.2.2.2.2.2.2.2.2.2.2.2.2.2.2.1 k0_t3 r
theorem k0_mult56_dvd : ∀ (i : grid0.Coords) (v362 : BitVec 32) (k0_hw1 : k0_chk1 i v362) (k0_t3 : Fin (k0_t3_loop i v362).trips), 256 ∣ (k0_mult56 i v362 k0_t3).toNat := fun i v362 k0_hw1 k0_t3 => k0_hw1.1.2.2.2.2.2.2.2.2.2.2.2.2.2.2.2.2.2.2.2.2.2.2.1 k0_t3
theorem k0_mult57_dvd : ∀ (i : grid0.Coords) (v362 : BitVec 32) (k0_hw1 : k0_chk1 i v362) (k0_t3 : Fin (k0_t3_loop i v362).trips), 256 ∣ (k0_mult57 i v362 k0_t3).toNat := fun i v362 k0_hw1 k0_t3 => k0_hw1.1.2.2.2.2.2.2.2.2.2.2.2.2.2.2.2.2.2.2.2.2.2.2.2.1 k0_t3
theorem k0_mult58_dvd : ∀ (i : grid0.Coords) (v362 : BitVec 32) (k0_hw1 : k0_chk1 i v362) (k0_t3 : Fin (k0_t3_loop i v362).trips), 256 ∣ (k0_mult58 i v362 k0_t3).toNat := fun i v362 k0_hw1 k0_t3 => k0_hw1.1.2.2.2.2.2.2.2.2.2.2.2.2.2.2.2.2.2.2.2.2.2.2.2.2.1 k0_t3
theorem k0_mult59_dvd : ∀ (i : grid0.Coords) (v362 : BitVec 32) (k0_hw1 : k0_chk1 i v362) (k0_t3 : Fin (k0_t3_loop i v362).trips), 256 ∣ (k0_mult59 i v362 k0_t3).toNat := fun i v362 k0_hw1 k0_t3 => k0_hw1.1.2.2.2.2.2.2.2.2.2.2.2.2.2.2.2.2.2.2.2.2.2.2.2.2.2.1 k0_t3
theorem k0_mult60_dvd : ∀ (i : grid0.Coords) (v362 : BitVec 32) (k0_hw1 : k0_chk1 i v362) (k0_t3 : Fin (k0_t3_loop i v362).trips), 256 ∣ (k0_mult60 i v362 k0_t3).toNat := fun i v362 k0_hw1 k0_t3 => k0_hw1.1.2.2.2.2.2.2.2.2.2.2.2.2.2.2.2.2.2.2.2.2.2.2.2.2.2.2.1 k0_t3
theorem k0_mult61_dvd : ∀ (i : grid0.Coords) (v362 : BitVec 32) (k0_hw1 : k0_chk1 i v362) (k0_t3 : Fin (k0_t3_loop i v362).trips), 256 ∣ (k0_mult61 i v362 k0_t3).toNat := fun i v362 k0_hw1 k0_t3 => k0_hw1.1.2.2.2.2.2.2.2.2.2.2.2.2.2.2.2.2.2.2.2.2.2.2.2.2.2.2.2.1 k0_t3
theorem k0_mult62_dvd : ∀ (i : grid0.Coords) (v362 : BitVec 32) (k0_hw1 : k0_chk1 i v362) (k0_t3 : Fin (k0_t3_loop i v362).trips), 256 ∣ (k0_mult62 i v362 k0_t3).toNat := fun i v362 k0_hw1 k0_t3 => k0_hw1.1.2.2.2.2.2.2.2.2.2.2.2.2.2.2.2.2.2.2.2.2.2.2.2.2.2.2.2.2.1 k0_t3
theorem k0_mult63_dvd : ∀ (i : grid0.Coords) (v362 : BitVec 32) (k0_hw1 : k0_chk1 i v362) (k0_t3 : Fin (k0_t3_loop i v362).trips), 256 ∣ (k0_mult63 i v362 k0_t3).toNat := fun i v362 k0_hw1 k0_t3 => k0_hw1.1.2.2.2.2.2.2.2.2.2.2.2.2.2.2.2.2.2.2.2.2.2.2.2.2.2.2.2.2.2.1 k0_t3
theorem k0_off9_inb : ∀ (i : grid0.Coords) (v362 : BitVec 32) (k0_hw1 : k0_chk1 i v362) (k0_t3 : Fin (k0_t3_loop i v362).trips), ∀ (r : Fin 8), ∀ a, (k0_off9 i v362 k0_t3 (BitVec.ofNat 32 r.val)) a + S256x256.size a ≤ S18176x256.size a := fun i v362 k0_hw1 k0_t3 r => k0_hw1.1.2.2.2.2.2.2.2.2.2.2.2.2.2.2.2.2.2.2.2.2.2.2.2.2.2.2.2.2.2.2.1 k0_t3 r
theorem k0_mult64_dvd : ∀ (i : grid0.Coords) (v362 : BitVec 32) (k0_hw1 : k0_chk1 i v362) (k0_t3 : Fin (k0_t3_loop i v362).trips), 256 ∣ (k0_mult64 i v362 k0_t3).toNat := fun i v362 k0_hw1 k0_t3 => k0_hw1.1.2.2.2.2.2.2.2.2.2.2.2.2.2.2.2.2.2.2.2.2.2.2.2.2.2.2.2.2.2.2.2 k0_t3
theorem k0_mult65_dvd : ∀ (i : grid0.Coords) (v362 : BitVec 32) (k0_hw1 : k0_chk1 i v362) (k0_t3 : Fin (k0_t3_loop i v362).trips), 256 ∣ (k0_mult65 i v362 k0_t3).toNat := fun i v362 k0_hw1 k0_t3 => k0_hw1.2.1 k0_t3
theorem k0_mult66_dvd : ∀ (i : grid0.Coords) (v362 : BitVec 32) (k0_hw1 : k0_chk1 i v362) (k0_t3 : Fin (k0_t3_loop i v362).trips), 256 ∣ (k0_mult66 i v362 k0_t3).toNat := fun i v362 k0_hw1 k0_t3 => k0_hw1.2.2.1 k0_t3
theorem k0_mult67_dvd : ∀ (i : grid0.Coords) (v362 : BitVec 32) (k0_hw1 : k0_chk1 i v362) (k0_t3 : Fin (k0_t3_loop i v362).trips), 256 ∣ (k0_mult67 i v362 k0_t3).toNat := fun i v362 k0_hw1 k0_t3 => k0_hw1.2.2.2.1 k0_t3
theorem k0_mult68_dvd : ∀ (i : grid0.Coords) (v362 : BitVec 32) (k0_hw1 : k0_chk1 i v362) (k0_t3 : Fin (k0_t3_loop i v362).trips), 256 ∣ (k0_mult68 i v362 k0_t3).toNat := fun i v362 k0_hw1 k0_t3 => k0_hw1.2.2.2.2.1 k0_t3
theorem k0_mult69_dvd : ∀ (i : grid0.Coords) (v362 : BitVec 32) (k0_hw1 : k0_chk1 i v362) (k0_t3 : Fin (k0_t3_loop i v362).trips), 256 ∣ (k0_mult69 i v362 k0_t3).toNat := fun i v362 k0_hw1 k0_t3 => k0_hw1.2.2.2.2.2.1 k0_t3
theorem k0_mult70_dvd : ∀ (i : grid0.Coords) (v362 : BitVec 32) (k0_hw1 : k0_chk1 i v362) (k0_t3 : Fin (k0_t3_loop i v362).trips), 256 ∣ (k0_mult70 i v362 k0_t3).toNat := fun i v362 k0_hw1 k0_t3 => k0_hw1.2.2.2.2.2.2.1 k0_t3
theorem k0_mult167_dvd : ∀ (i : grid0.Coords) (v362 : BitVec 32) (k0_hw1 : k0_chk1 i v362), 256 ∣ (k0_mult167 i v362).toNat := fun i v362 k0_hw1 => k0_hw1.2.2.2.2.2.2.2.1
theorem k0_off22_inb : ∀ (i : grid0.Coords) (v362 : BitVec 32) (k0_hw1 : k0_chk1 i v362), ∀ (r : Fin 8), ∀ a, (k0_off22 i v362 (BitVec.ofNat 32 r.val)) a + S256x128.size a ≤ S16384x128.size a := fun i v362 k0_hw1 r => k0_hw1.2.2.2.2.2.2.2.2.1 r
theorem k0_mult168_dvd : ∀ (i : grid0.Coords) (v362 : BitVec 32) (k0_hw1 : k0_chk1 i v362), 256 ∣ (k0_mult168 i v362).toNat := fun i v362 k0_hw1 => k0_hw1.2.2.2.2.2.2.2.2.2.1
theorem k0_mult169_dvd : ∀ (i : grid0.Coords) (v362 : BitVec 32) (k0_hw1 : k0_chk1 i v362), 256 ∣ (k0_mult169 i v362).toNat := fun i v362 k0_hw1 => k0_hw1.2.2.2.2.2.2.2.2.2.2.1
theorem k0_mult170_dvd : ∀ (i : grid0.Coords) (v362 : BitVec 32) (k0_hw1 : k0_chk1 i v362), 256 ∣ (k0_mult170 i v362).toNat := fun i v362 k0_hw1 => k0_hw1.2.2.2.2.2.2.2.2.2.2.2.1
theorem k0_mult171_dvd : ∀ (i : grid0.Coords) (v362 : BitVec 32) (k0_hw1 : k0_chk1 i v362), 256 ∣ (k0_mult171 i v362).toNat := fun i v362 k0_hw1 => k0_hw1.2.2.2.2.2.2.2.2.2.2.2.2.1
theorem k0_mult172_dvd : ∀ (i : grid0.Coords) (v362 : BitVec 32) (k0_hw1 : k0_chk1 i v362), 256 ∣ (k0_mult172 i v362).toNat := fun i v362 k0_hw1 => k0_hw1.2.2.2.2.2.2.2.2.2.2.2.2.2.1
theorem k0_mult173_dvd : ∀ (i : grid0.Coords) (v362 : BitVec 32) (k0_hw1 : k0_chk1 i v362), 256 ∣ (k0_mult173 i v362).toNat := fun i v362 k0_hw1 => k0_hw1.2.2.2.2.2.2.2.2.2.2.2.2.2.2.1
theorem k0_mult174_dvd : ∀ (i : grid0.Coords) (v362 : BitVec 32) (k0_hw1 : k0_chk1 i v362), 256 ∣ (k0_mult174 i v362).toNat := fun i v362 k0_hw1 => k0_hw1.2.2.2.2.2.2.2.2.2.2.2.2.2.2.2

def k0_mult175 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_690 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_689 : BitVec 32 := 1#32
  let v1457 : BitVec 32 := Scalar.addi v1452 c1_i32_689
  let v1458 : BitVec 32 := Scalar.muli c8_i32_690 v1457
  let v1459 : BitVec 32 := Scalar.subi v1 v1458
  let c0_i32_691 : BitVec 32 := 0#32
  let v1460 : BitVec 32 := Scalar.addi v1459 c0_i32_691
  let c0_i32_692 : BitVec 32 := 0#32
  let v1461 : BitVec 32 := Scalar.maxsi v1460 c0_i32_692
  let c256_i32_693 : BitVec 32 := 256#32
  let v1462 : BitVec 32 := Scalar.muli v1461 c256_i32_693
  v1462
def k0_off23 (i : grid0.Coords) (v592 : BitVec 32) (c0_i32_691 : BitVec 32) : Fin 2 → Nat :=
  let arg1 : BitVec 32 := BitVec.ofNat 32 (i 1).val
  let c16_i32 : BitVec 32 := 16#32
  let v1 : BitVec 32 := Scalar.addi arg1 c16_i32
  let c8_i32_690 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_689 : BitVec 32 := 1#32
  let v1457 : BitVec 32 := Scalar.addi v1452 c1_i32_689
  let v1458 : BitVec 32 := Scalar.muli c8_i32_690 v1457
  let v1459 : BitVec 32 := Scalar.subi v1 v1458
  let v1460 : BitVec 32 := Scalar.addi v1459 c0_i32_691
  let c0_i32_692 : BitVec 32 := 0#32
  let v1461 : BitVec 32 := Scalar.maxsi v1460 c0_i32_692
  let c256_i32_693 : BitVec 32 := 256#32
  let v1462 : BitVec 32 := Scalar.muli v1461 c256_i32_693
  let v1463 : BitVec 32 := v1462
  let v1474 : Index := Scalar.indexCast v1463
  let c0_697 : Index := 0#32
  ![v1474.toNat, 0]
def k0_mult176 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_700 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_699 : BitVec 32 := 1#32
  let v1478 : BitVec 32 := Scalar.addi v1452 c1_i32_699
  let v1479 : BitVec 32 := Scalar.muli c8_i32_700 v1478
  let v1480 : BitVec 32 := Scalar.subi v1 v1479
  let c1_i32_701 : BitVec 32 := 1#32
  let v1481 : BitVec 32 := Scalar.addi v1480 c1_i32_701
  let c0_i32_702 : BitVec 32 := 0#32
  let v1482 : BitVec 32 := Scalar.maxsi v1481 c0_i32_702
  let c256_i32_703 : BitVec 32 := 256#32
  let v1483 : BitVec 32 := Scalar.muli v1482 c256_i32_703
  v1483
def k0_mult177 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_710 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_709 : BitVec 32 := 1#32
  let v1499 : BitVec 32 := Scalar.addi v1452 c1_i32_709
  let v1500 : BitVec 32 := Scalar.muli c8_i32_710 v1499
  let v1501 : BitVec 32 := Scalar.subi v1 v1500
  let c2_i32_711 : BitVec 32 := 2#32
  let v1502 : BitVec 32 := Scalar.addi v1501 c2_i32_711
  let c0_i32_712 : BitVec 32 := 0#32
  let v1503 : BitVec 32 := Scalar.maxsi v1502 c0_i32_712
  let c256_i32_713 : BitVec 32 := 256#32
  let v1504 : BitVec 32 := Scalar.muli v1503 c256_i32_713
  v1504
def k0_mult178 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_720 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_719 : BitVec 32 := 1#32
  let v1520 : BitVec 32 := Scalar.addi v1452 c1_i32_719
  let v1521 : BitVec 32 := Scalar.muli c8_i32_720 v1520
  let v1522 : BitVec 32 := Scalar.subi v1 v1521
  let c3_i32_721 : BitVec 32 := 3#32
  let v1523 : BitVec 32 := Scalar.addi v1522 c3_i32_721
  let c0_i32_722 : BitVec 32 := 0#32
  let v1524 : BitVec 32 := Scalar.maxsi v1523 c0_i32_722
  let c256_i32_723 : BitVec 32 := 256#32
  let v1525 : BitVec 32 := Scalar.muli v1524 c256_i32_723
  v1525
def k0_mult179 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_730 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_729 : BitVec 32 := 1#32
  let v1541 : BitVec 32 := Scalar.addi v1452 c1_i32_729
  let v1542 : BitVec 32 := Scalar.muli c8_i32_730 v1541
  let v1543 : BitVec 32 := Scalar.subi v1 v1542
  let c4_i32_731 : BitVec 32 := 4#32
  let v1544 : BitVec 32 := Scalar.addi v1543 c4_i32_731
  let c0_i32_732 : BitVec 32 := 0#32
  let v1545 : BitVec 32 := Scalar.maxsi v1544 c0_i32_732
  let c256_i32_733 : BitVec 32 := 256#32
  let v1546 : BitVec 32 := Scalar.muli v1545 c256_i32_733
  v1546
def k0_mult180 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_740 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_739 : BitVec 32 := 1#32
  let v1562 : BitVec 32 := Scalar.addi v1452 c1_i32_739
  let v1563 : BitVec 32 := Scalar.muli c8_i32_740 v1562
  let v1564 : BitVec 32 := Scalar.subi v1 v1563
  let c5_i32_741 : BitVec 32 := 5#32
  let v1565 : BitVec 32 := Scalar.addi v1564 c5_i32_741
  let c0_i32_742 : BitVec 32 := 0#32
  let v1566 : BitVec 32 := Scalar.maxsi v1565 c0_i32_742
  let c256_i32_743 : BitVec 32 := 256#32
  let v1567 : BitVec 32 := Scalar.muli v1566 c256_i32_743
  v1567
def k0_mult181 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_750 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_749 : BitVec 32 := 1#32
  let v1583 : BitVec 32 := Scalar.addi v1452 c1_i32_749
  let v1584 : BitVec 32 := Scalar.muli c8_i32_750 v1583
  let v1585 : BitVec 32 := Scalar.subi v1 v1584
  let c6_i32_751 : BitVec 32 := 6#32
  let v1586 : BitVec 32 := Scalar.addi v1585 c6_i32_751
  let c0_i32_752 : BitVec 32 := 0#32
  let v1587 : BitVec 32 := Scalar.maxsi v1586 c0_i32_752
  let c256_i32_753 : BitVec 32 := 256#32
  let v1588 : BitVec 32 := Scalar.muli v1587 c256_i32_753
  v1588
def k0_mult182 (i : grid0.Coords) (v592 : BitVec 32) : BitVec 32 :=
  let arg1 : BitVec 32 := BitVec.ofNat 32 (i 1).val
  let c16_i32 : BitVec 32 := 16#32
  let v1 : BitVec 32 := Scalar.addi arg1 c16_i32
  let c8_i32_760 : BitVec 32 := 8#32
  let c7_i32_244 : BitVec 32 := 7#32
  let v593 : BitVec 32 := Scalar.addi v1 c7_i32_244
  let c8_i32_245 : BitVec 32 := 8#32
  let v594 : BitVec 32 := Scalar.divsi v593 c8_i32_245
  let v595 : BitVec 32 := Scalar.minsi v594 v592
  let c0_i32_246 : BitVec 32 := 0#32
  let v596 : BitVec 32 := Scalar.maxsi v595 c0_i32_246
  let c1_i32_684 : BitVec 32 := 1#32
  let v1451 : BitVec 32 := Scalar.subi v596 c1_i32_684
  let c0_i32_685 : BitVec 32 := 0#32
  let v1452 : BitVec 32 := Scalar.maxsi v1451 c0_i32_685
  let c1_i32_759 : BitVec 32 := 1#32
  let v1604 : BitVec 32 := Scalar.addi v1452 c1_i32_759
  let v1605 : BitVec 32 := Scalar.muli c8_i32_760 v1604
  let v1606 : BitVec 32 := Scalar.subi v1 v1605
  let c7_i32_761 : BitVec 32 := 7#32
  let v1607 : BitVec 32 := Scalar.addi v1606 c7_i32_761
  let c0_i32_762 : BitVec 32 := 0#32
  let v1608 : BitVec 32 := Scalar.maxsi v1607 c0_i32_762
  let c256_i32_763 : BitVec 32 := 256#32
  let v1609 : BitVec 32 := Scalar.muli v1608 c256_i32_763
  v1609

def k0_chk2_0 (i : grid0.Coords) (v592 : BitVec 32) : Prop :=
  ((k0_t4_loop i v592).OK) ∧
  (∀ k0_t4 : Fin (k0_t4_loop i v592).trips, 256 ∣ (k0_mult71 i v592 k0_t4).toNat) ∧
  (∀ k0_t4 : Fin (k0_t4_loop i v592).trips, ∀ (r : Fin 8), ∀ a, (k0_off10 i v592 k0_t4 (BitVec.ofNat 32 r.val)) a + S256x128.size a ≤ S16384x128.size a) ∧
  (∀ k0_t4 : Fin (k0_t4_loop i v592).trips, 256 ∣ (k0_mult72 i v592 k0_t4).toNat) ∧
  (∀ k0_t4 : Fin (k0_t4_loop i v592).trips, 256 ∣ (k0_mult73 i v592 k0_t4).toNat) ∧
  (∀ k0_t4 : Fin (k0_t4_loop i v592).trips, 256 ∣ (k0_mult74 i v592 k0_t4).toNat) ∧
  (∀ k0_t4 : Fin (k0_t4_loop i v592).trips, 256 ∣ (k0_mult75 i v592 k0_t4).toNat) ∧
  (∀ k0_t4 : Fin (k0_t4_loop i v592).trips, 256 ∣ (k0_mult76 i v592 k0_t4).toNat) ∧
  (∀ k0_t4 : Fin (k0_t4_loop i v592).trips, 256 ∣ (k0_mult77 i v592 k0_t4).toNat) ∧
  (∀ k0_t4 : Fin (k0_t4_loop i v592).trips, 256 ∣ (k0_mult78 i v592 k0_t4).toNat) ∧
  (∀ k0_t4 : Fin (k0_t4_loop i v592).trips, 256 ∣ (k0_mult79 i v592 k0_t4).toNat) ∧
  (∀ k0_t4 : Fin (k0_t4_loop i v592).trips, ∀ (r : Fin 8), ∀ a, (k0_off11 i v592 k0_t4 (BitVec.ofNat 32 r.val)) a + S256x256.size a ≤ S18176x256.size a) ∧
  (∀ k0_t4 : Fin (k0_t4_loop i v592).trips, 256 ∣ (k0_mult80 i v592 k0_t4).toNat) ∧
  (∀ k0_t4 : Fin (k0_t4_loop i v592).trips, 256 ∣ (k0_mult81 i v592 k0_t4).toNat) ∧
  (∀ k0_t4 : Fin (k0_t4_loop i v592).trips, 256 ∣ (k0_mult82 i v592 k0_t4).toNat) ∧
  (∀ k0_t4 : Fin (k0_t4_loop i v592).trips, 256 ∣ (k0_mult83 i v592 k0_t4).toNat) ∧
  (∀ k0_t4 : Fin (k0_t4_loop i v592).trips, 256 ∣ (k0_mult84 i v592 k0_t4).toNat) ∧
  (∀ k0_t4 : Fin (k0_t4_loop i v592).trips, 256 ∣ (k0_mult85 i v592 k0_t4).toNat) ∧
  (∀ k0_t4 : Fin (k0_t4_loop i v592).trips, 256 ∣ (k0_mult86 i v592 k0_t4).toNat) ∧
  ((k0_t5_loop i v592).OK) ∧
  (∀ k0_t5 : Fin (k0_t5_loop i v592).trips, 256 ∣ (k0_mult87 i v592 k0_t5).toNat) ∧
  (∀ k0_t5 : Fin (k0_t5_loop i v592).trips, ∀ (r : Fin 8), ∀ a, (k0_off12 i v592 k0_t5 (BitVec.ofNat 32 r.val)) a + S256x128.size a ≤ S16384x128.size a) ∧
  (∀ k0_t5 : Fin (k0_t5_loop i v592).trips, 256 ∣ (k0_mult88 i v592 k0_t5).toNat) ∧
  (∀ k0_t5 : Fin (k0_t5_loop i v592).trips, 256 ∣ (k0_mult89 i v592 k0_t5).toNat) ∧
  (∀ k0_t5 : Fin (k0_t5_loop i v592).trips, 256 ∣ (k0_mult90 i v592 k0_t5).toNat) ∧
  (∀ k0_t5 : Fin (k0_t5_loop i v592).trips, 256 ∣ (k0_mult91 i v592 k0_t5).toNat) ∧
  (∀ k0_t5 : Fin (k0_t5_loop i v592).trips, 256 ∣ (k0_mult92 i v592 k0_t5).toNat) ∧
  (∀ k0_t5 : Fin (k0_t5_loop i v592).trips, 256 ∣ (k0_mult93 i v592 k0_t5).toNat) ∧
  (∀ k0_t5 : Fin (k0_t5_loop i v592).trips, 256 ∣ (k0_mult94 i v592 k0_t5).toNat) ∧
  (∀ k0_t5 : Fin (k0_t5_loop i v592).trips, 256 ∣ (k0_mult95 i v592 k0_t5).toNat) ∧
  (∀ k0_t5 : Fin (k0_t5_loop i v592).trips, ∀ (r : Fin 8), ∀ a, (k0_off13 i v592 k0_t5 (BitVec.ofNat 32 r.val)) a + S256x256.size a ≤ S18176x256.size a) ∧
  (∀ k0_t5 : Fin (k0_t5_loop i v592).trips, 256 ∣ (k0_mult96 i v592 k0_t5).toNat)
def k0_chk2_1 (i : grid0.Coords) (v592 : BitVec 32) : Prop :=
  (∀ k0_t5 : Fin (k0_t5_loop i v592).trips, 256 ∣ (k0_mult97 i v592 k0_t5).toNat) ∧
  (∀ k0_t5 : Fin (k0_t5_loop i v592).trips, 256 ∣ (k0_mult98 i v592 k0_t5).toNat) ∧
  (∀ k0_t5 : Fin (k0_t5_loop i v592).trips, 256 ∣ (k0_mult99 i v592 k0_t5).toNat) ∧
  (∀ k0_t5 : Fin (k0_t5_loop i v592).trips, 256 ∣ (k0_mult100 i v592 k0_t5).toNat) ∧
  (∀ k0_t5 : Fin (k0_t5_loop i v592).trips, 256 ∣ (k0_mult101 i v592 k0_t5).toNat) ∧
  (∀ k0_t5 : Fin (k0_t5_loop i v592).trips, 256 ∣ (k0_mult102 i v592 k0_t5).toNat) ∧
  (256 ∣ (k0_mult175 i v592).toNat) ∧
  (∀ (r : Fin 8), ∀ a, (k0_off23 i v592 (BitVec.ofNat 32 r.val)) a + S256x128.size a ≤ S16384x128.size a) ∧
  (256 ∣ (k0_mult176 i v592).toNat) ∧
  (256 ∣ (k0_mult177 i v592).toNat) ∧
  (256 ∣ (k0_mult178 i v592).toNat) ∧
  (256 ∣ (k0_mult179 i v592).toNat) ∧
  (256 ∣ (k0_mult180 i v592).toNat) ∧
  (256 ∣ (k0_mult181 i v592).toNat) ∧
  (256 ∣ (k0_mult182 i v592).toNat)
def k0_chk2 (i : grid0.Coords) (v592 : BitVec 32) : Prop :=
  k0_chk2_0 i v592 ∧
  k0_chk2_1 i v592
theorem k0_t4_ok : ∀ (i : grid0.Coords) (v592 : BitVec 32) (k0_hw2 : k0_chk2 i v592), (k0_t4_loop i v592).OK := fun i v592 k0_hw2 => k0_hw2.1.1
theorem k0_mult71_dvd : ∀ (i : grid0.Coords) (v592 : BitVec 32) (k0_hw2 : k0_chk2 i v592) (k0_t4 : Fin (k0_t4_loop i v592).trips), 256 ∣ (k0_mult71 i v592 k0_t4).toNat := fun i v592 k0_hw2 k0_t4 => k0_hw2.1.2.1 k0_t4
theorem k0_off10_inb : ∀ (i : grid0.Coords) (v592 : BitVec 32) (k0_hw2 : k0_chk2 i v592) (k0_t4 : Fin (k0_t4_loop i v592).trips), ∀ (r : Fin 8), ∀ a, (k0_off10 i v592 k0_t4 (BitVec.ofNat 32 r.val)) a + S256x128.size a ≤ S16384x128.size a := fun i v592 k0_hw2 k0_t4 r => k0_hw2.1.2.2.1 k0_t4 r
theorem k0_mult72_dvd : ∀ (i : grid0.Coords) (v592 : BitVec 32) (k0_hw2 : k0_chk2 i v592) (k0_t4 : Fin (k0_t4_loop i v592).trips), 256 ∣ (k0_mult72 i v592 k0_t4).toNat := fun i v592 k0_hw2 k0_t4 => k0_hw2.1.2.2.2.1 k0_t4
theorem k0_mult73_dvd : ∀ (i : grid0.Coords) (v592 : BitVec 32) (k0_hw2 : k0_chk2 i v592) (k0_t4 : Fin (k0_t4_loop i v592).trips), 256 ∣ (k0_mult73 i v592 k0_t4).toNat := fun i v592 k0_hw2 k0_t4 => k0_hw2.1.2.2.2.2.1 k0_t4
theorem k0_mult74_dvd : ∀ (i : grid0.Coords) (v592 : BitVec 32) (k0_hw2 : k0_chk2 i v592) (k0_t4 : Fin (k0_t4_loop i v592).trips), 256 ∣ (k0_mult74 i v592 k0_t4).toNat := fun i v592 k0_hw2 k0_t4 => k0_hw2.1.2.2.2.2.2.1 k0_t4
theorem k0_mult75_dvd : ∀ (i : grid0.Coords) (v592 : BitVec 32) (k0_hw2 : k0_chk2 i v592) (k0_t4 : Fin (k0_t4_loop i v592).trips), 256 ∣ (k0_mult75 i v592 k0_t4).toNat := fun i v592 k0_hw2 k0_t4 => k0_hw2.1.2.2.2.2.2.2.1 k0_t4
theorem k0_mult76_dvd : ∀ (i : grid0.Coords) (v592 : BitVec 32) (k0_hw2 : k0_chk2 i v592) (k0_t4 : Fin (k0_t4_loop i v592).trips), 256 ∣ (k0_mult76 i v592 k0_t4).toNat := fun i v592 k0_hw2 k0_t4 => k0_hw2.1.2.2.2.2.2.2.2.1 k0_t4
theorem k0_mult77_dvd : ∀ (i : grid0.Coords) (v592 : BitVec 32) (k0_hw2 : k0_chk2 i v592) (k0_t4 : Fin (k0_t4_loop i v592).trips), 256 ∣ (k0_mult77 i v592 k0_t4).toNat := fun i v592 k0_hw2 k0_t4 => k0_hw2.1.2.2.2.2.2.2.2.2.1 k0_t4
theorem k0_mult78_dvd : ∀ (i : grid0.Coords) (v592 : BitVec 32) (k0_hw2 : k0_chk2 i v592) (k0_t4 : Fin (k0_t4_loop i v592).trips), 256 ∣ (k0_mult78 i v592 k0_t4).toNat := fun i v592 k0_hw2 k0_t4 => k0_hw2.1.2.2.2.2.2.2.2.2.2.1 k0_t4
theorem k0_mult79_dvd : ∀ (i : grid0.Coords) (v592 : BitVec 32) (k0_hw2 : k0_chk2 i v592) (k0_t4 : Fin (k0_t4_loop i v592).trips), 256 ∣ (k0_mult79 i v592 k0_t4).toNat := fun i v592 k0_hw2 k0_t4 => k0_hw2.1.2.2.2.2.2.2.2.2.2.2.1 k0_t4
theorem k0_off11_inb : ∀ (i : grid0.Coords) (v592 : BitVec 32) (k0_hw2 : k0_chk2 i v592) (k0_t4 : Fin (k0_t4_loop i v592).trips), ∀ (r : Fin 8), ∀ a, (k0_off11 i v592 k0_t4 (BitVec.ofNat 32 r.val)) a + S256x256.size a ≤ S18176x256.size a := fun i v592 k0_hw2 k0_t4 r => k0_hw2.1.2.2.2.2.2.2.2.2.2.2.2.1 k0_t4 r
theorem k0_mult80_dvd : ∀ (i : grid0.Coords) (v592 : BitVec 32) (k0_hw2 : k0_chk2 i v592) (k0_t4 : Fin (k0_t4_loop i v592).trips), 256 ∣ (k0_mult80 i v592 k0_t4).toNat := fun i v592 k0_hw2 k0_t4 => k0_hw2.1.2.2.2.2.2.2.2.2.2.2.2.2.1 k0_t4
theorem k0_mult81_dvd : ∀ (i : grid0.Coords) (v592 : BitVec 32) (k0_hw2 : k0_chk2 i v592) (k0_t4 : Fin (k0_t4_loop i v592).trips), 256 ∣ (k0_mult81 i v592 k0_t4).toNat := fun i v592 k0_hw2 k0_t4 => k0_hw2.1.2.2.2.2.2.2.2.2.2.2.2.2.2.1 k0_t4
theorem k0_mult82_dvd : ∀ (i : grid0.Coords) (v592 : BitVec 32) (k0_hw2 : k0_chk2 i v592) (k0_t4 : Fin (k0_t4_loop i v592).trips), 256 ∣ (k0_mult82 i v592 k0_t4).toNat := fun i v592 k0_hw2 k0_t4 => k0_hw2.1.2.2.2.2.2.2.2.2.2.2.2.2.2.2.1 k0_t4
theorem k0_mult83_dvd : ∀ (i : grid0.Coords) (v592 : BitVec 32) (k0_hw2 : k0_chk2 i v592) (k0_t4 : Fin (k0_t4_loop i v592).trips), 256 ∣ (k0_mult83 i v592 k0_t4).toNat := fun i v592 k0_hw2 k0_t4 => k0_hw2.1.2.2.2.2.2.2.2.2.2.2.2.2.2.2.2.1 k0_t4
theorem k0_mult84_dvd : ∀ (i : grid0.Coords) (v592 : BitVec 32) (k0_hw2 : k0_chk2 i v592) (k0_t4 : Fin (k0_t4_loop i v592).trips), 256 ∣ (k0_mult84 i v592 k0_t4).toNat := fun i v592 k0_hw2 k0_t4 => k0_hw2.1.2.2.2.2.2.2.2.2.2.2.2.2.2.2.2.2.1 k0_t4
theorem k0_mult85_dvd : ∀ (i : grid0.Coords) (v592 : BitVec 32) (k0_hw2 : k0_chk2 i v592) (k0_t4 : Fin (k0_t4_loop i v592).trips), 256 ∣ (k0_mult85 i v592 k0_t4).toNat := fun i v592 k0_hw2 k0_t4 => k0_hw2.1.2.2.2.2.2.2.2.2.2.2.2.2.2.2.2.2.2.1 k0_t4
theorem k0_mult86_dvd : ∀ (i : grid0.Coords) (v592 : BitVec 32) (k0_hw2 : k0_chk2 i v592) (k0_t4 : Fin (k0_t4_loop i v592).trips), 256 ∣ (k0_mult86 i v592 k0_t4).toNat := fun i v592 k0_hw2 k0_t4 => k0_hw2.1.2.2.2.2.2.2.2.2.2.2.2.2.2.2.2.2.2.2.1 k0_t4
theorem k0_t5_ok : ∀ (i : grid0.Coords) (v592 : BitVec 32) (k0_hw2 : k0_chk2 i v592), (k0_t5_loop i v592).OK := fun i v592 k0_hw2 => k0_hw2.1.2.2.2.2.2.2.2.2.2.2.2.2.2.2.2.2.2.2.2.1
theorem k0_mult87_dvd : ∀ (i : grid0.Coords) (v592 : BitVec 32) (k0_hw2 : k0_chk2 i v592) (k0_t5 : Fin (k0_t5_loop i v592).trips), 256 ∣ (k0_mult87 i v592 k0_t5).toNat := fun i v592 k0_hw2 k0_t5 => k0_hw2.1.2.2.2.2.2.2.2.2.2.2.2.2.2.2.2.2.2.2.2.2.1 k0_t5
theorem k0_off12_inb : ∀ (i : grid0.Coords) (v592 : BitVec 32) (k0_hw2 : k0_chk2 i v592) (k0_t5 : Fin (k0_t5_loop i v592).trips), ∀ (r : Fin 8), ∀ a, (k0_off12 i v592 k0_t5 (BitVec.ofNat 32 r.val)) a + S256x128.size a ≤ S16384x128.size a := fun i v592 k0_hw2 k0_t5 r => k0_hw2.1.2.2.2.2.2.2.2.2.2.2.2.2.2.2.2.2.2.2.2.2.2.1 k0_t5 r
theorem k0_mult88_dvd : ∀ (i : grid0.Coords) (v592 : BitVec 32) (k0_hw2 : k0_chk2 i v592) (k0_t5 : Fin (k0_t5_loop i v592).trips), 256 ∣ (k0_mult88 i v592 k0_t5).toNat := fun i v592 k0_hw2 k0_t5 => k0_hw2.1.2.2.2.2.2.2.2.2.2.2.2.2.2.2.2.2.2.2.2.2.2.2.1 k0_t5
theorem k0_mult89_dvd : ∀ (i : grid0.Coords) (v592 : BitVec 32) (k0_hw2 : k0_chk2 i v592) (k0_t5 : Fin (k0_t5_loop i v592).trips), 256 ∣ (k0_mult89 i v592 k0_t5).toNat := fun i v592 k0_hw2 k0_t5 => k0_hw2.1.2.2.2.2.2.2.2.2.2.2.2.2.2.2.2.2.2.2.2.2.2.2.2.1 k0_t5
theorem k0_mult90_dvd : ∀ (i : grid0.Coords) (v592 : BitVec 32) (k0_hw2 : k0_chk2 i v592) (k0_t5 : Fin (k0_t5_loop i v592).trips), 256 ∣ (k0_mult90 i v592 k0_t5).toNat := fun i v592 k0_hw2 k0_t5 => k0_hw2.1.2.2.2.2.2.2.2.2.2.2.2.2.2.2.2.2.2.2.2.2.2.2.2.2.1 k0_t5
theorem k0_mult91_dvd : ∀ (i : grid0.Coords) (v592 : BitVec 32) (k0_hw2 : k0_chk2 i v592) (k0_t5 : Fin (k0_t5_loop i v592).trips), 256 ∣ (k0_mult91 i v592 k0_t5).toNat := fun i v592 k0_hw2 k0_t5 => k0_hw2.1.2.2.2.2.2.2.2.2.2.2.2.2.2.2.2.2.2.2.2.2.2.2.2.2.2.1 k0_t5
theorem k0_mult92_dvd : ∀ (i : grid0.Coords) (v592 : BitVec 32) (k0_hw2 : k0_chk2 i v592) (k0_t5 : Fin (k0_t5_loop i v592).trips), 256 ∣ (k0_mult92 i v592 k0_t5).toNat := fun i v592 k0_hw2 k0_t5 => k0_hw2.1.2.2.2.2.2.2.2.2.2.2.2.2.2.2.2.2.2.2.2.2.2.2.2.2.2.2.1 k0_t5
theorem k0_mult93_dvd : ∀ (i : grid0.Coords) (v592 : BitVec 32) (k0_hw2 : k0_chk2 i v592) (k0_t5 : Fin (k0_t5_loop i v592).trips), 256 ∣ (k0_mult93 i v592 k0_t5).toNat := fun i v592 k0_hw2 k0_t5 => k0_hw2.1.2.2.2.2.2.2.2.2.2.2.2.2.2.2.2.2.2.2.2.2.2.2.2.2.2.2.2.1 k0_t5
theorem k0_mult94_dvd : ∀ (i : grid0.Coords) (v592 : BitVec 32) (k0_hw2 : k0_chk2 i v592) (k0_t5 : Fin (k0_t5_loop i v592).trips), 256 ∣ (k0_mult94 i v592 k0_t5).toNat := fun i v592 k0_hw2 k0_t5 => k0_hw2.1.2.2.2.2.2.2.2.2.2.2.2.2.2.2.2.2.2.2.2.2.2.2.2.2.2.2.2.2.1 k0_t5
theorem k0_mult95_dvd : ∀ (i : grid0.Coords) (v592 : BitVec 32) (k0_hw2 : k0_chk2 i v592) (k0_t5 : Fin (k0_t5_loop i v592).trips), 256 ∣ (k0_mult95 i v592 k0_t5).toNat := fun i v592 k0_hw2 k0_t5 => k0_hw2.1.2.2.2.2.2.2.2.2.2.2.2.2.2.2.2.2.2.2.2.2.2.2.2.2.2.2.2.2.2.1 k0_t5
theorem k0_off13_inb : ∀ (i : grid0.Coords) (v592 : BitVec 32) (k0_hw2 : k0_chk2 i v592) (k0_t5 : Fin (k0_t5_loop i v592).trips), ∀ (r : Fin 8), ∀ a, (k0_off13 i v592 k0_t5 (BitVec.ofNat 32 r.val)) a + S256x256.size a ≤ S18176x256.size a := fun i v592 k0_hw2 k0_t5 r => k0_hw2.1.2.2.2.2.2.2.2.2.2.2.2.2.2.2.2.2.2.2.2.2.2.2.2.2.2.2.2.2.2.2.1 k0_t5 r
theorem k0_mult96_dvd : ∀ (i : grid0.Coords) (v592 : BitVec 32) (k0_hw2 : k0_chk2 i v592) (k0_t5 : Fin (k0_t5_loop i v592).trips), 256 ∣ (k0_mult96 i v592 k0_t5).toNat := fun i v592 k0_hw2 k0_t5 => k0_hw2.1.2.2.2.2.2.2.2.2.2.2.2.2.2.2.2.2.2.2.2.2.2.2.2.2.2.2.2.2.2.2.2 k0_t5
theorem k0_mult97_dvd : ∀ (i : grid0.Coords) (v592 : BitVec 32) (k0_hw2 : k0_chk2 i v592) (k0_t5 : Fin (k0_t5_loop i v592).trips), 256 ∣ (k0_mult97 i v592 k0_t5).toNat := fun i v592 k0_hw2 k0_t5 => k0_hw2.2.1 k0_t5
theorem k0_mult98_dvd : ∀ (i : grid0.Coords) (v592 : BitVec 32) (k0_hw2 : k0_chk2 i v592) (k0_t5 : Fin (k0_t5_loop i v592).trips), 256 ∣ (k0_mult98 i v592 k0_t5).toNat := fun i v592 k0_hw2 k0_t5 => k0_hw2.2.2.1 k0_t5
theorem k0_mult99_dvd : ∀ (i : grid0.Coords) (v592 : BitVec 32) (k0_hw2 : k0_chk2 i v592) (k0_t5 : Fin (k0_t5_loop i v592).trips), 256 ∣ (k0_mult99 i v592 k0_t5).toNat := fun i v592 k0_hw2 k0_t5 => k0_hw2.2.2.2.1 k0_t5
theorem k0_mult100_dvd : ∀ (i : grid0.Coords) (v592 : BitVec 32) (k0_hw2 : k0_chk2 i v592) (k0_t5 : Fin (k0_t5_loop i v592).trips), 256 ∣ (k0_mult100 i v592 k0_t5).toNat := fun i v592 k0_hw2 k0_t5 => k0_hw2.2.2.2.2.1 k0_t5
theorem k0_mult101_dvd : ∀ (i : grid0.Coords) (v592 : BitVec 32) (k0_hw2 : k0_chk2 i v592) (k0_t5 : Fin (k0_t5_loop i v592).trips), 256 ∣ (k0_mult101 i v592 k0_t5).toNat := fun i v592 k0_hw2 k0_t5 => k0_hw2.2.2.2.2.2.1 k0_t5
theorem k0_mult102_dvd : ∀ (i : grid0.Coords) (v592 : BitVec 32) (k0_hw2 : k0_chk2 i v592) (k0_t5 : Fin (k0_t5_loop i v592).trips), 256 ∣ (k0_mult102 i v592 k0_t5).toNat := fun i v592 k0_hw2 k0_t5 => k0_hw2.2.2.2.2.2.2.1 k0_t5
theorem k0_mult175_dvd : ∀ (i : grid0.Coords) (v592 : BitVec 32) (k0_hw2 : k0_chk2 i v592), 256 ∣ (k0_mult175 i v592).toNat := fun i v592 k0_hw2 => k0_hw2.2.2.2.2.2.2.2.1
theorem k0_off23_inb : ∀ (i : grid0.Coords) (v592 : BitVec 32) (k0_hw2 : k0_chk2 i v592), ∀ (r : Fin 8), ∀ a, (k0_off23 i v592 (BitVec.ofNat 32 r.val)) a + S256x128.size a ≤ S16384x128.size a := fun i v592 k0_hw2 r => k0_hw2.2.2.2.2.2.2.2.2.1 r
theorem k0_mult176_dvd : ∀ (i : grid0.Coords) (v592 : BitVec 32) (k0_hw2 : k0_chk2 i v592), 256 ∣ (k0_mult176 i v592).toNat := fun i v592 k0_hw2 => k0_hw2.2.2.2.2.2.2.2.2.2.1
theorem k0_mult177_dvd : ∀ (i : grid0.Coords) (v592 : BitVec 32) (k0_hw2 : k0_chk2 i v592), 256 ∣ (k0_mult177 i v592).toNat := fun i v592 k0_hw2 => k0_hw2.2.2.2.2.2.2.2.2.2.2.1
theorem k0_mult178_dvd : ∀ (i : grid0.Coords) (v592 : BitVec 32) (k0_hw2 : k0_chk2 i v592), 256 ∣ (k0_mult178 i v592).toNat := fun i v592 k0_hw2 => k0_hw2.2.2.2.2.2.2.2.2.2.2.2.1
theorem k0_mult179_dvd : ∀ (i : grid0.Coords) (v592 : BitVec 32) (k0_hw2 : k0_chk2 i v592), 256 ∣ (k0_mult179 i v592).toNat := fun i v592 k0_hw2 => k0_hw2.2.2.2.2.2.2.2.2.2.2.2.2.1
theorem k0_mult180_dvd : ∀ (i : grid0.Coords) (v592 : BitVec 32) (k0_hw2 : k0_chk2 i v592), 256 ∣ (k0_mult180 i v592).toNat := fun i v592 k0_hw2 => k0_hw2.2.2.2.2.2.2.2.2.2.2.2.2.2.1
theorem k0_mult181_dvd : ∀ (i : grid0.Coords) (v592 : BitVec 32) (k0_hw2 : k0_chk2 i v592), 256 ∣ (k0_mult181 i v592).toNat := fun i v592 k0_hw2 => k0_hw2.2.2.2.2.2.2.2.2.2.2.2.2.2.2.1
theorem k0_mult182_dvd : ∀ (i : grid0.Coords) (v592 : BitVec 32) (k0_hw2 : k0_chk2 i v592), 256 ∣ (k0_mult182 i v592).toNat := fun i v592 k0_hw2 => k0_hw2.2.2.2.2.2.2.2.2.2.2.2.2.2.2.2

def k0_mult183 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_780 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_779 : BitVec 32 := 1#32
  let v1650 : BitVec 32 := Scalar.addi v1645 c1_i32_779
  let v1651 : BitVec 32 := Scalar.muli c8_i32_780 v1650
  let v1652 : BitVec 32 := Scalar.subi v2 v1651
  let c0_i32_781 : BitVec 32 := 0#32
  let v1653 : BitVec 32 := Scalar.addi v1652 c0_i32_781
  let c0_i32_782 : BitVec 32 := 0#32
  let v1654 : BitVec 32 := Scalar.maxsi v1653 c0_i32_782
  let c256_i32_783 : BitVec 32 := 256#32
  let v1655 : BitVec 32 := Scalar.muli v1654 c256_i32_783
  v1655
def k0_off24 (i : grid0.Coords) (v822 : BitVec 32) (c0_i32_781 : BitVec 32) : Fin 2 → Nat :=
  let arg1 : BitVec 32 := BitVec.ofNat 32 (i 1).val
  let c32_i32 : BitVec 32 := 32#32
  let v2 : BitVec 32 := Scalar.addi arg1 c32_i32
  let c8_i32_780 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_779 : BitVec 32 := 1#32
  let v1650 : BitVec 32 := Scalar.addi v1645 c1_i32_779
  let v1651 : BitVec 32 := Scalar.muli c8_i32_780 v1650
  let v1652 : BitVec 32 := Scalar.subi v2 v1651
  let v1653 : BitVec 32 := Scalar.addi v1652 c0_i32_781
  let c0_i32_782 : BitVec 32 := 0#32
  let v1654 : BitVec 32 := Scalar.maxsi v1653 c0_i32_782
  let c256_i32_783 : BitVec 32 := 256#32
  let v1655 : BitVec 32 := Scalar.muli v1654 c256_i32_783
  let v1656 : BitVec 32 := v1655
  let v1667 : Index := Scalar.indexCast v1656
  let c0_787 : Index := 0#32
  ![v1667.toNat, 0]
def k0_mult184 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_790 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_789 : BitVec 32 := 1#32
  let v1671 : BitVec 32 := Scalar.addi v1645 c1_i32_789
  let v1672 : BitVec 32 := Scalar.muli c8_i32_790 v1671
  let v1673 : BitVec 32 := Scalar.subi v2 v1672
  let c1_i32_791 : BitVec 32 := 1#32
  let v1674 : BitVec 32 := Scalar.addi v1673 c1_i32_791
  let c0_i32_792 : BitVec 32 := 0#32
  let v1675 : BitVec 32 := Scalar.maxsi v1674 c0_i32_792
  let c256_i32_793 : BitVec 32 := 256#32
  let v1676 : BitVec 32 := Scalar.muli v1675 c256_i32_793
  v1676
def k0_mult185 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_800 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_799 : BitVec 32 := 1#32
  let v1692 : BitVec 32 := Scalar.addi v1645 c1_i32_799
  let v1693 : BitVec 32 := Scalar.muli c8_i32_800 v1692
  let v1694 : BitVec 32 := Scalar.subi v2 v1693
  let c2_i32_801 : BitVec 32 := 2#32
  let v1695 : BitVec 32 := Scalar.addi v1694 c2_i32_801
  let c0_i32_802 : BitVec 32 := 0#32
  let v1696 : BitVec 32 := Scalar.maxsi v1695 c0_i32_802
  let c256_i32_803 : BitVec 32 := 256#32
  let v1697 : BitVec 32 := Scalar.muli v1696 c256_i32_803
  v1697
def k0_mult186 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_810 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_809 : BitVec 32 := 1#32
  let v1713 : BitVec 32 := Scalar.addi v1645 c1_i32_809
  let v1714 : BitVec 32 := Scalar.muli c8_i32_810 v1713
  let v1715 : BitVec 32 := Scalar.subi v2 v1714
  let c3_i32_811 : BitVec 32 := 3#32
  let v1716 : BitVec 32 := Scalar.addi v1715 c3_i32_811
  let c0_i32_812 : BitVec 32 := 0#32
  let v1717 : BitVec 32 := Scalar.maxsi v1716 c0_i32_812
  let c256_i32_813 : BitVec 32 := 256#32
  let v1718 : BitVec 32 := Scalar.muli v1717 c256_i32_813
  v1718
def k0_mult187 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_820 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_819 : BitVec 32 := 1#32
  let v1734 : BitVec 32 := Scalar.addi v1645 c1_i32_819
  let v1735 : BitVec 32 := Scalar.muli c8_i32_820 v1734
  let v1736 : BitVec 32 := Scalar.subi v2 v1735
  let c4_i32_821 : BitVec 32 := 4#32
  let v1737 : BitVec 32 := Scalar.addi v1736 c4_i32_821
  let c0_i32_822 : BitVec 32 := 0#32
  let v1738 : BitVec 32 := Scalar.maxsi v1737 c0_i32_822
  let c256_i32_823 : BitVec 32 := 256#32
  let v1739 : BitVec 32 := Scalar.muli v1738 c256_i32_823
  v1739
def k0_mult188 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_830 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_829 : BitVec 32 := 1#32
  let v1755 : BitVec 32 := Scalar.addi v1645 c1_i32_829
  let v1756 : BitVec 32 := Scalar.muli c8_i32_830 v1755
  let v1757 : BitVec 32 := Scalar.subi v2 v1756
  let c5_i32_831 : BitVec 32 := 5#32
  let v1758 : BitVec 32 := Scalar.addi v1757 c5_i32_831
  let c0_i32_832 : BitVec 32 := 0#32
  let v1759 : BitVec 32 := Scalar.maxsi v1758 c0_i32_832
  let c256_i32_833 : BitVec 32 := 256#32
  let v1760 : BitVec 32 := Scalar.muli v1759 c256_i32_833
  v1760
def k0_mult189 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_840 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_839 : BitVec 32 := 1#32
  let v1776 : BitVec 32 := Scalar.addi v1645 c1_i32_839
  let v1777 : BitVec 32 := Scalar.muli c8_i32_840 v1776
  let v1778 : BitVec 32 := Scalar.subi v2 v1777
  let c6_i32_841 : BitVec 32 := 6#32
  let v1779 : BitVec 32 := Scalar.addi v1778 c6_i32_841
  let c0_i32_842 : BitVec 32 := 0#32
  let v1780 : BitVec 32 := Scalar.maxsi v1779 c0_i32_842
  let c256_i32_843 : BitVec 32 := 256#32
  let v1781 : BitVec 32 := Scalar.muli v1780 c256_i32_843
  v1781
def k0_mult190 (i : grid0.Coords) (v822 : BitVec 32) : BitVec 32 :=
  let arg1 : BitVec 32 := BitVec.ofNat 32 (i 1).val
  let c32_i32 : BitVec 32 := 32#32
  let v2 : BitVec 32 := Scalar.addi arg1 c32_i32
  let c8_i32_850 : BitVec 32 := 8#32
  let c7_i32_361 : BitVec 32 := 7#32
  let v823 : BitVec 32 := Scalar.addi v2 c7_i32_361
  let c8_i32_362 : BitVec 32 := 8#32
  let v824 : BitVec 32 := Scalar.divsi v823 c8_i32_362
  let v825 : BitVec 32 := Scalar.minsi v824 v822
  let c0_i32_363 : BitVec 32 := 0#32
  let v826 : BitVec 32 := Scalar.maxsi v825 c0_i32_363
  let c1_i32_774 : BitVec 32 := 1#32
  let v1644 : BitVec 32 := Scalar.subi v826 c1_i32_774
  let c0_i32_775 : BitVec 32 := 0#32
  let v1645 : BitVec 32 := Scalar.maxsi v1644 c0_i32_775
  let c1_i32_849 : BitVec 32 := 1#32
  let v1797 : BitVec 32 := Scalar.addi v1645 c1_i32_849
  let v1798 : BitVec 32 := Scalar.muli c8_i32_850 v1797
  let v1799 : BitVec 32 := Scalar.subi v2 v1798
  let c7_i32_851 : BitVec 32 := 7#32
  let v1800 : BitVec 32 := Scalar.addi v1799 c7_i32_851
  let c0_i32_852 : BitVec 32 := 0#32
  let v1801 : BitVec 32 := Scalar.maxsi v1800 c0_i32_852
  let c256_i32_853 : BitVec 32 := 256#32
  let v1802 : BitVec 32 := Scalar.muli v1801 c256_i32_853
  v1802

def k0_chk3_0 (i : grid0.Coords) (v822 : BitVec 32) : Prop :=
  ((k0_t6_loop i v822).OK) ∧
  (∀ k0_t6 : Fin (k0_t6_loop i v822).trips, 256 ∣ (k0_mult103 i v822 k0_t6).toNat) ∧
  (∀ k0_t6 : Fin (k0_t6_loop i v822).trips, ∀ (r : Fin 8), ∀ a, (k0_off14 i v822 k0_t6 (BitVec.ofNat 32 r.val)) a + S256x128.size a ≤ S16384x128.size a) ∧
  (∀ k0_t6 : Fin (k0_t6_loop i v822).trips, 256 ∣ (k0_mult104 i v822 k0_t6).toNat) ∧
  (∀ k0_t6 : Fin (k0_t6_loop i v822).trips, 256 ∣ (k0_mult105 i v822 k0_t6).toNat) ∧
  (∀ k0_t6 : Fin (k0_t6_loop i v822).trips, 256 ∣ (k0_mult106 i v822 k0_t6).toNat) ∧
  (∀ k0_t6 : Fin (k0_t6_loop i v822).trips, 256 ∣ (k0_mult107 i v822 k0_t6).toNat) ∧
  (∀ k0_t6 : Fin (k0_t6_loop i v822).trips, 256 ∣ (k0_mult108 i v822 k0_t6).toNat) ∧
  (∀ k0_t6 : Fin (k0_t6_loop i v822).trips, 256 ∣ (k0_mult109 i v822 k0_t6).toNat) ∧
  (∀ k0_t6 : Fin (k0_t6_loop i v822).trips, 256 ∣ (k0_mult110 i v822 k0_t6).toNat) ∧
  (∀ k0_t6 : Fin (k0_t6_loop i v822).trips, 256 ∣ (k0_mult111 i v822 k0_t6).toNat) ∧
  (∀ k0_t6 : Fin (k0_t6_loop i v822).trips, ∀ (r : Fin 8), ∀ a, (k0_off15 i v822 k0_t6 (BitVec.ofNat 32 r.val)) a + S256x256.size a ≤ S18176x256.size a) ∧
  (∀ k0_t6 : Fin (k0_t6_loop i v822).trips, 256 ∣ (k0_mult112 i v822 k0_t6).toNat) ∧
  (∀ k0_t6 : Fin (k0_t6_loop i v822).trips, 256 ∣ (k0_mult113 i v822 k0_t6).toNat) ∧
  (∀ k0_t6 : Fin (k0_t6_loop i v822).trips, 256 ∣ (k0_mult114 i v822 k0_t6).toNat) ∧
  (∀ k0_t6 : Fin (k0_t6_loop i v822).trips, 256 ∣ (k0_mult115 i v822 k0_t6).toNat) ∧
  (∀ k0_t6 : Fin (k0_t6_loop i v822).trips, 256 ∣ (k0_mult116 i v822 k0_t6).toNat) ∧
  (∀ k0_t6 : Fin (k0_t6_loop i v822).trips, 256 ∣ (k0_mult117 i v822 k0_t6).toNat) ∧
  (∀ k0_t6 : Fin (k0_t6_loop i v822).trips, 256 ∣ (k0_mult118 i v822 k0_t6).toNat) ∧
  ((k0_t7_loop i v822).OK) ∧
  (∀ k0_t7 : Fin (k0_t7_loop i v822).trips, 256 ∣ (k0_mult119 i v822 k0_t7).toNat) ∧
  (∀ k0_t7 : Fin (k0_t7_loop i v822).trips, ∀ (r : Fin 8), ∀ a, (k0_off16 i v822 k0_t7 (BitVec.ofNat 32 r.val)) a + S256x128.size a ≤ S16384x128.size a) ∧
  (∀ k0_t7 : Fin (k0_t7_loop i v822).trips, 256 ∣ (k0_mult120 i v822 k0_t7).toNat) ∧
  (∀ k0_t7 : Fin (k0_t7_loop i v822).trips, 256 ∣ (k0_mult121 i v822 k0_t7).toNat) ∧
  (∀ k0_t7 : Fin (k0_t7_loop i v822).trips, 256 ∣ (k0_mult122 i v822 k0_t7).toNat) ∧
  (∀ k0_t7 : Fin (k0_t7_loop i v822).trips, 256 ∣ (k0_mult123 i v822 k0_t7).toNat) ∧
  (∀ k0_t7 : Fin (k0_t7_loop i v822).trips, 256 ∣ (k0_mult124 i v822 k0_t7).toNat) ∧
  (∀ k0_t7 : Fin (k0_t7_loop i v822).trips, 256 ∣ (k0_mult125 i v822 k0_t7).toNat) ∧
  (∀ k0_t7 : Fin (k0_t7_loop i v822).trips, 256 ∣ (k0_mult126 i v822 k0_t7).toNat) ∧
  (∀ k0_t7 : Fin (k0_t7_loop i v822).trips, 256 ∣ (k0_mult127 i v822 k0_t7).toNat) ∧
  (∀ k0_t7 : Fin (k0_t7_loop i v822).trips, ∀ (r : Fin 8), ∀ a, (k0_off17 i v822 k0_t7 (BitVec.ofNat 32 r.val)) a + S256x256.size a ≤ S18176x256.size a) ∧
  (∀ k0_t7 : Fin (k0_t7_loop i v822).trips, 256 ∣ (k0_mult128 i v822 k0_t7).toNat)
def k0_chk3_1 (i : grid0.Coords) (v822 : BitVec 32) : Prop :=
  (∀ k0_t7 : Fin (k0_t7_loop i v822).trips, 256 ∣ (k0_mult129 i v822 k0_t7).toNat) ∧
  (∀ k0_t7 : Fin (k0_t7_loop i v822).trips, 256 ∣ (k0_mult130 i v822 k0_t7).toNat) ∧
  (∀ k0_t7 : Fin (k0_t7_loop i v822).trips, 256 ∣ (k0_mult131 i v822 k0_t7).toNat) ∧
  (∀ k0_t7 : Fin (k0_t7_loop i v822).trips, 256 ∣ (k0_mult132 i v822 k0_t7).toNat) ∧
  (∀ k0_t7 : Fin (k0_t7_loop i v822).trips, 256 ∣ (k0_mult133 i v822 k0_t7).toNat) ∧
  (∀ k0_t7 : Fin (k0_t7_loop i v822).trips, 256 ∣ (k0_mult134 i v822 k0_t7).toNat) ∧
  (256 ∣ (k0_mult183 i v822).toNat) ∧
  (∀ (r : Fin 8), ∀ a, (k0_off24 i v822 (BitVec.ofNat 32 r.val)) a + S256x128.size a ≤ S16384x128.size a) ∧
  (256 ∣ (k0_mult184 i v822).toNat) ∧
  (256 ∣ (k0_mult185 i v822).toNat) ∧
  (256 ∣ (k0_mult186 i v822).toNat) ∧
  (256 ∣ (k0_mult187 i v822).toNat) ∧
  (256 ∣ (k0_mult188 i v822).toNat) ∧
  (256 ∣ (k0_mult189 i v822).toNat) ∧
  (256 ∣ (k0_mult190 i v822).toNat)
def k0_chk3 (i : grid0.Coords) (v822 : BitVec 32) : Prop :=
  k0_chk3_0 i v822 ∧
  k0_chk3_1 i v822
theorem k0_t6_ok : ∀ (i : grid0.Coords) (v822 : BitVec 32) (k0_hw3 : k0_chk3 i v822), (k0_t6_loop i v822).OK := fun i v822 k0_hw3 => k0_hw3.1.1
theorem k0_mult103_dvd : ∀ (i : grid0.Coords) (v822 : BitVec 32) (k0_hw3 : k0_chk3 i v822) (k0_t6 : Fin (k0_t6_loop i v822).trips), 256 ∣ (k0_mult103 i v822 k0_t6).toNat := fun i v822 k0_hw3 k0_t6 => k0_hw3.1.2.1 k0_t6
theorem k0_off14_inb : ∀ (i : grid0.Coords) (v822 : BitVec 32) (k0_hw3 : k0_chk3 i v822) (k0_t6 : Fin (k0_t6_loop i v822).trips), ∀ (r : Fin 8), ∀ a, (k0_off14 i v822 k0_t6 (BitVec.ofNat 32 r.val)) a + S256x128.size a ≤ S16384x128.size a := fun i v822 k0_hw3 k0_t6 r => k0_hw3.1.2.2.1 k0_t6 r
theorem k0_mult104_dvd : ∀ (i : grid0.Coords) (v822 : BitVec 32) (k0_hw3 : k0_chk3 i v822) (k0_t6 : Fin (k0_t6_loop i v822).trips), 256 ∣ (k0_mult104 i v822 k0_t6).toNat := fun i v822 k0_hw3 k0_t6 => k0_hw3.1.2.2.2.1 k0_t6
theorem k0_mult105_dvd : ∀ (i : grid0.Coords) (v822 : BitVec 32) (k0_hw3 : k0_chk3 i v822) (k0_t6 : Fin (k0_t6_loop i v822).trips), 256 ∣ (k0_mult105 i v822 k0_t6).toNat := fun i v822 k0_hw3 k0_t6 => k0_hw3.1.2.2.2.2.1 k0_t6
theorem k0_mult106_dvd : ∀ (i : grid0.Coords) (v822 : BitVec 32) (k0_hw3 : k0_chk3 i v822) (k0_t6 : Fin (k0_t6_loop i v822).trips), 256 ∣ (k0_mult106 i v822 k0_t6).toNat := fun i v822 k0_hw3 k0_t6 => k0_hw3.1.2.2.2.2.2.1 k0_t6
theorem k0_mult107_dvd : ∀ (i : grid0.Coords) (v822 : BitVec 32) (k0_hw3 : k0_chk3 i v822) (k0_t6 : Fin (k0_t6_loop i v822).trips), 256 ∣ (k0_mult107 i v822 k0_t6).toNat := fun i v822 k0_hw3 k0_t6 => k0_hw3.1.2.2.2.2.2.2.1 k0_t6
theorem k0_mult108_dvd : ∀ (i : grid0.Coords) (v822 : BitVec 32) (k0_hw3 : k0_chk3 i v822) (k0_t6 : Fin (k0_t6_loop i v822).trips), 256 ∣ (k0_mult108 i v822 k0_t6).toNat := fun i v822 k0_hw3 k0_t6 => k0_hw3.1.2.2.2.2.2.2.2.1 k0_t6
theorem k0_mult109_dvd : ∀ (i : grid0.Coords) (v822 : BitVec 32) (k0_hw3 : k0_chk3 i v822) (k0_t6 : Fin (k0_t6_loop i v822).trips), 256 ∣ (k0_mult109 i v822 k0_t6).toNat := fun i v822 k0_hw3 k0_t6 => k0_hw3.1.2.2.2.2.2.2.2.2.1 k0_t6
theorem k0_mult110_dvd : ∀ (i : grid0.Coords) (v822 : BitVec 32) (k0_hw3 : k0_chk3 i v822) (k0_t6 : Fin (k0_t6_loop i v822).trips), 256 ∣ (k0_mult110 i v822 k0_t6).toNat := fun i v822 k0_hw3 k0_t6 => k0_hw3.1.2.2.2.2.2.2.2.2.2.1 k0_t6
theorem k0_mult111_dvd : ∀ (i : grid0.Coords) (v822 : BitVec 32) (k0_hw3 : k0_chk3 i v822) (k0_t6 : Fin (k0_t6_loop i v822).trips), 256 ∣ (k0_mult111 i v822 k0_t6).toNat := fun i v822 k0_hw3 k0_t6 => k0_hw3.1.2.2.2.2.2.2.2.2.2.2.1 k0_t6
theorem k0_off15_inb : ∀ (i : grid0.Coords) (v822 : BitVec 32) (k0_hw3 : k0_chk3 i v822) (k0_t6 : Fin (k0_t6_loop i v822).trips), ∀ (r : Fin 8), ∀ a, (k0_off15 i v822 k0_t6 (BitVec.ofNat 32 r.val)) a + S256x256.size a ≤ S18176x256.size a := fun i v822 k0_hw3 k0_t6 r => k0_hw3.1.2.2.2.2.2.2.2.2.2.2.2.1 k0_t6 r
theorem k0_mult112_dvd : ∀ (i : grid0.Coords) (v822 : BitVec 32) (k0_hw3 : k0_chk3 i v822) (k0_t6 : Fin (k0_t6_loop i v822).trips), 256 ∣ (k0_mult112 i v822 k0_t6).toNat := fun i v822 k0_hw3 k0_t6 => k0_hw3.1.2.2.2.2.2.2.2.2.2.2.2.2.1 k0_t6
theorem k0_mult113_dvd : ∀ (i : grid0.Coords) (v822 : BitVec 32) (k0_hw3 : k0_chk3 i v822) (k0_t6 : Fin (k0_t6_loop i v822).trips), 256 ∣ (k0_mult113 i v822 k0_t6).toNat := fun i v822 k0_hw3 k0_t6 => k0_hw3.1.2.2.2.2.2.2.2.2.2.2.2.2.2.1 k0_t6
theorem k0_mult114_dvd : ∀ (i : grid0.Coords) (v822 : BitVec 32) (k0_hw3 : k0_chk3 i v822) (k0_t6 : Fin (k0_t6_loop i v822).trips), 256 ∣ (k0_mult114 i v822 k0_t6).toNat := fun i v822 k0_hw3 k0_t6 => k0_hw3.1.2.2.2.2.2.2.2.2.2.2.2.2.2.2.1 k0_t6
theorem k0_mult115_dvd : ∀ (i : grid0.Coords) (v822 : BitVec 32) (k0_hw3 : k0_chk3 i v822) (k0_t6 : Fin (k0_t6_loop i v822).trips), 256 ∣ (k0_mult115 i v822 k0_t6).toNat := fun i v822 k0_hw3 k0_t6 => k0_hw3.1.2.2.2.2.2.2.2.2.2.2.2.2.2.2.2.1 k0_t6
theorem k0_mult116_dvd : ∀ (i : grid0.Coords) (v822 : BitVec 32) (k0_hw3 : k0_chk3 i v822) (k0_t6 : Fin (k0_t6_loop i v822).trips), 256 ∣ (k0_mult116 i v822 k0_t6).toNat := fun i v822 k0_hw3 k0_t6 => k0_hw3.1.2.2.2.2.2.2.2.2.2.2.2.2.2.2.2.2.1 k0_t6
theorem k0_mult117_dvd : ∀ (i : grid0.Coords) (v822 : BitVec 32) (k0_hw3 : k0_chk3 i v822) (k0_t6 : Fin (k0_t6_loop i v822).trips), 256 ∣ (k0_mult117 i v822 k0_t6).toNat := fun i v822 k0_hw3 k0_t6 => k0_hw3.1.2.2.2.2.2.2.2.2.2.2.2.2.2.2.2.2.2.1 k0_t6
theorem k0_mult118_dvd : ∀ (i : grid0.Coords) (v822 : BitVec 32) (k0_hw3 : k0_chk3 i v822) (k0_t6 : Fin (k0_t6_loop i v822).trips), 256 ∣ (k0_mult118 i v822 k0_t6).toNat := fun i v822 k0_hw3 k0_t6 => k0_hw3.1.2.2.2.2.2.2.2.2.2.2.2.2.2.2.2.2.2.2.1 k0_t6
theorem k0_t7_ok : ∀ (i : grid0.Coords) (v822 : BitVec 32) (k0_hw3 : k0_chk3 i v822), (k0_t7_loop i v822).OK := fun i v822 k0_hw3 => k0_hw3.1.2.2.2.2.2.2.2.2.2.2.2.2.2.2.2.2.2.2.2.1
theorem k0_mult119_dvd : ∀ (i : grid0.Coords) (v822 : BitVec 32) (k0_hw3 : k0_chk3 i v822) (k0_t7 : Fin (k0_t7_loop i v822).trips), 256 ∣ (k0_mult119 i v822 k0_t7).toNat := fun i v822 k0_hw3 k0_t7 => k0_hw3.1.2.2.2.2.2.2.2.2.2.2.2.2.2.2.2.2.2.2.2.2.1 k0_t7
theorem k0_off16_inb : ∀ (i : grid0.Coords) (v822 : BitVec 32) (k0_hw3 : k0_chk3 i v822) (k0_t7 : Fin (k0_t7_loop i v822).trips), ∀ (r : Fin 8), ∀ a, (k0_off16 i v822 k0_t7 (BitVec.ofNat 32 r.val)) a + S256x128.size a ≤ S16384x128.size a := fun i v822 k0_hw3 k0_t7 r => k0_hw3.1.2.2.2.2.2.2.2.2.2.2.2.2.2.2.2.2.2.2.2.2.2.1 k0_t7 r
theorem k0_mult120_dvd : ∀ (i : grid0.Coords) (v822 : BitVec 32) (k0_hw3 : k0_chk3 i v822) (k0_t7 : Fin (k0_t7_loop i v822).trips), 256 ∣ (k0_mult120 i v822 k0_t7).toNat := fun i v822 k0_hw3 k0_t7 => k0_hw3.1.2.2.2.2.2.2.2.2.2.2.2.2.2.2.2.2.2.2.2.2.2.2.1 k0_t7
theorem k0_mult121_dvd : ∀ (i : grid0.Coords) (v822 : BitVec 32) (k0_hw3 : k0_chk3 i v822) (k0_t7 : Fin (k0_t7_loop i v822).trips), 256 ∣ (k0_mult121 i v822 k0_t7).toNat := fun i v822 k0_hw3 k0_t7 => k0_hw3.1.2.2.2.2.2.2.2.2.2.2.2.2.2.2.2.2.2.2.2.2.2.2.2.1 k0_t7
theorem k0_mult122_dvd : ∀ (i : grid0.Coords) (v822 : BitVec 32) (k0_hw3 : k0_chk3 i v822) (k0_t7 : Fin (k0_t7_loop i v822).trips), 256 ∣ (k0_mult122 i v822 k0_t7).toNat := fun i v822 k0_hw3 k0_t7 => k0_hw3.1.2.2.2.2.2.2.2.2.2.2.2.2.2.2.2.2.2.2.2.2.2.2.2.2.1 k0_t7
theorem k0_mult123_dvd : ∀ (i : grid0.Coords) (v822 : BitVec 32) (k0_hw3 : k0_chk3 i v822) (k0_t7 : Fin (k0_t7_loop i v822).trips), 256 ∣ (k0_mult123 i v822 k0_t7).toNat := fun i v822 k0_hw3 k0_t7 => k0_hw3.1.2.2.2.2.2.2.2.2.2.2.2.2.2.2.2.2.2.2.2.2.2.2.2.2.2.1 k0_t7
theorem k0_mult124_dvd : ∀ (i : grid0.Coords) (v822 : BitVec 32) (k0_hw3 : k0_chk3 i v822) (k0_t7 : Fin (k0_t7_loop i v822).trips), 256 ∣ (k0_mult124 i v822 k0_t7).toNat := fun i v822 k0_hw3 k0_t7 => k0_hw3.1.2.2.2.2.2.2.2.2.2.2.2.2.2.2.2.2.2.2.2.2.2.2.2.2.2.2.1 k0_t7
theorem k0_mult125_dvd : ∀ (i : grid0.Coords) (v822 : BitVec 32) (k0_hw3 : k0_chk3 i v822) (k0_t7 : Fin (k0_t7_loop i v822).trips), 256 ∣ (k0_mult125 i v822 k0_t7).toNat := fun i v822 k0_hw3 k0_t7 => k0_hw3.1.2.2.2.2.2.2.2.2.2.2.2.2.2.2.2.2.2.2.2.2.2.2.2.2.2.2.2.1 k0_t7
theorem k0_mult126_dvd : ∀ (i : grid0.Coords) (v822 : BitVec 32) (k0_hw3 : k0_chk3 i v822) (k0_t7 : Fin (k0_t7_loop i v822).trips), 256 ∣ (k0_mult126 i v822 k0_t7).toNat := fun i v822 k0_hw3 k0_t7 => k0_hw3.1.2.2.2.2.2.2.2.2.2.2.2.2.2.2.2.2.2.2.2.2.2.2.2.2.2.2.2.2.1 k0_t7
theorem k0_mult127_dvd : ∀ (i : grid0.Coords) (v822 : BitVec 32) (k0_hw3 : k0_chk3 i v822) (k0_t7 : Fin (k0_t7_loop i v822).trips), 256 ∣ (k0_mult127 i v822 k0_t7).toNat := fun i v822 k0_hw3 k0_t7 => k0_hw3.1.2.2.2.2.2.2.2.2.2.2.2.2.2.2.2.2.2.2.2.2.2.2.2.2.2.2.2.2.2.1 k0_t7
theorem k0_off17_inb : ∀ (i : grid0.Coords) (v822 : BitVec 32) (k0_hw3 : k0_chk3 i v822) (k0_t7 : Fin (k0_t7_loop i v822).trips), ∀ (r : Fin 8), ∀ a, (k0_off17 i v822 k0_t7 (BitVec.ofNat 32 r.val)) a + S256x256.size a ≤ S18176x256.size a := fun i v822 k0_hw3 k0_t7 r => k0_hw3.1.2.2.2.2.2.2.2.2.2.2.2.2.2.2.2.2.2.2.2.2.2.2.2.2.2.2.2.2.2.2.1 k0_t7 r
theorem k0_mult128_dvd : ∀ (i : grid0.Coords) (v822 : BitVec 32) (k0_hw3 : k0_chk3 i v822) (k0_t7 : Fin (k0_t7_loop i v822).trips), 256 ∣ (k0_mult128 i v822 k0_t7).toNat := fun i v822 k0_hw3 k0_t7 => k0_hw3.1.2.2.2.2.2.2.2.2.2.2.2.2.2.2.2.2.2.2.2.2.2.2.2.2.2.2.2.2.2.2.2 k0_t7
theorem k0_mult129_dvd : ∀ (i : grid0.Coords) (v822 : BitVec 32) (k0_hw3 : k0_chk3 i v822) (k0_t7 : Fin (k0_t7_loop i v822).trips), 256 ∣ (k0_mult129 i v822 k0_t7).toNat := fun i v822 k0_hw3 k0_t7 => k0_hw3.2.1 k0_t7
theorem k0_mult130_dvd : ∀ (i : grid0.Coords) (v822 : BitVec 32) (k0_hw3 : k0_chk3 i v822) (k0_t7 : Fin (k0_t7_loop i v822).trips), 256 ∣ (k0_mult130 i v822 k0_t7).toNat := fun i v822 k0_hw3 k0_t7 => k0_hw3.2.2.1 k0_t7
theorem k0_mult131_dvd : ∀ (i : grid0.Coords) (v822 : BitVec 32) (k0_hw3 : k0_chk3 i v822) (k0_t7 : Fin (k0_t7_loop i v822).trips), 256 ∣ (k0_mult131 i v822 k0_t7).toNat := fun i v822 k0_hw3 k0_t7 => k0_hw3.2.2.2.1 k0_t7
theorem k0_mult132_dvd : ∀ (i : grid0.Coords) (v822 : BitVec 32) (k0_hw3 : k0_chk3 i v822) (k0_t7 : Fin (k0_t7_loop i v822).trips), 256 ∣ (k0_mult132 i v822 k0_t7).toNat := fun i v822 k0_hw3 k0_t7 => k0_hw3.2.2.2.2.1 k0_t7
theorem k0_mult133_dvd : ∀ (i : grid0.Coords) (v822 : BitVec 32) (k0_hw3 : k0_chk3 i v822) (k0_t7 : Fin (k0_t7_loop i v822).trips), 256 ∣ (k0_mult133 i v822 k0_t7).toNat := fun i v822 k0_hw3 k0_t7 => k0_hw3.2.2.2.2.2.1 k0_t7
theorem k0_mult134_dvd : ∀ (i : grid0.Coords) (v822 : BitVec 32) (k0_hw3 : k0_chk3 i v822) (k0_t7 : Fin (k0_t7_loop i v822).trips), 256 ∣ (k0_mult134 i v822 k0_t7).toNat := fun i v822 k0_hw3 k0_t7 => k0_hw3.2.2.2.2.2.2.1 k0_t7
theorem k0_mult183_dvd : ∀ (i : grid0.Coords) (v822 : BitVec 32) (k0_hw3 : k0_chk3 i v822), 256 ∣ (k0_mult183 i v822).toNat := fun i v822 k0_hw3 => k0_hw3.2.2.2.2.2.2.2.1
theorem k0_off24_inb : ∀ (i : grid0.Coords) (v822 : BitVec 32) (k0_hw3 : k0_chk3 i v822), ∀ (r : Fin 8), ∀ a, (k0_off24 i v822 (BitVec.ofNat 32 r.val)) a + S256x128.size a ≤ S16384x128.size a := fun i v822 k0_hw3 r => k0_hw3.2.2.2.2.2.2.2.2.1 r
theorem k0_mult184_dvd : ∀ (i : grid0.Coords) (v822 : BitVec 32) (k0_hw3 : k0_chk3 i v822), 256 ∣ (k0_mult184 i v822).toNat := fun i v822 k0_hw3 => k0_hw3.2.2.2.2.2.2.2.2.2.1
theorem k0_mult185_dvd : ∀ (i : grid0.Coords) (v822 : BitVec 32) (k0_hw3 : k0_chk3 i v822), 256 ∣ (k0_mult185 i v822).toNat := fun i v822 k0_hw3 => k0_hw3.2.2.2.2.2.2.2.2.2.2.1
theorem k0_mult186_dvd : ∀ (i : grid0.Coords) (v822 : BitVec 32) (k0_hw3 : k0_chk3 i v822), 256 ∣ (k0_mult186 i v822).toNat := fun i v822 k0_hw3 => k0_hw3.2.2.2.2.2.2.2.2.2.2.2.1
theorem k0_mult187_dvd : ∀ (i : grid0.Coords) (v822 : BitVec 32) (k0_hw3 : k0_chk3 i v822), 256 ∣ (k0_mult187 i v822).toNat := fun i v822 k0_hw3 => k0_hw3.2.2.2.2.2.2.2.2.2.2.2.2.1
theorem k0_mult188_dvd : ∀ (i : grid0.Coords) (v822 : BitVec 32) (k0_hw3 : k0_chk3 i v822), 256 ∣ (k0_mult188 i v822).toNat := fun i v822 k0_hw3 => k0_hw3.2.2.2.2.2.2.2.2.2.2.2.2.2.1
theorem k0_mult189_dvd : ∀ (i : grid0.Coords) (v822 : BitVec 32) (k0_hw3 : k0_chk3 i v822), 256 ∣ (k0_mult189 i v822).toNat := fun i v822 k0_hw3 => k0_hw3.2.2.2.2.2.2.2.2.2.2.2.2.2.2.1
theorem k0_mult190_dvd : ∀ (i : grid0.Coords) (v822 : BitVec 32) (k0_hw3 : k0_chk3 i v822), 256 ∣ (k0_mult190 i v822).toNat := fun i v822 k0_hw3 => k0_hw3.2.2.2.2.2.2.2.2.2.2.2.2.2.2.2

def k0_mult191 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_870 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_869 : BitVec 32 := 1#32
  let v1843 : BitVec 32 := Scalar.addi v1838 c1_i32_869
  let v1844 : BitVec 32 := Scalar.muli c8_i32_870 v1843
  let v1845 : BitVec 32 := Scalar.subi v3 v1844
  let c0_i32_871 : BitVec 32 := 0#32
  let v1846 : BitVec 32 := Scalar.addi v1845 c0_i32_871
  let c0_i32_872 : BitVec 32 := 0#32
  let v1847 : BitVec 32 := Scalar.maxsi v1846 c0_i32_872
  let c256_i32_873 : BitVec 32 := 256#32
  let v1848 : BitVec 32 := Scalar.muli v1847 c256_i32_873
  v1848
def k0_off25 (i : grid0.Coords) (v1052 : BitVec 32) (c0_i32_871 : BitVec 32) : Fin 2 → Nat :=
  let arg1 : BitVec 32 := BitVec.ofNat 32 (i 1).val
  let c48_i32 : BitVec 32 := 48#32
  let v3 : BitVec 32 := Scalar.addi arg1 c48_i32
  let c8_i32_870 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_869 : BitVec 32 := 1#32
  let v1843 : BitVec 32 := Scalar.addi v1838 c1_i32_869
  let v1844 : BitVec 32 := Scalar.muli c8_i32_870 v1843
  let v1845 : BitVec 32 := Scalar.subi v3 v1844
  let v1846 : BitVec 32 := Scalar.addi v1845 c0_i32_871
  let c0_i32_872 : BitVec 32 := 0#32
  let v1847 : BitVec 32 := Scalar.maxsi v1846 c0_i32_872
  let c256_i32_873 : BitVec 32 := 256#32
  let v1848 : BitVec 32 := Scalar.muli v1847 c256_i32_873
  let v1849 : BitVec 32 := v1848
  let v1860 : Index := Scalar.indexCast v1849
  let c0_877 : Index := 0#32
  ![v1860.toNat, 0]
def k0_mult192 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_880 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_879 : BitVec 32 := 1#32
  let v1864 : BitVec 32 := Scalar.addi v1838 c1_i32_879
  let v1865 : BitVec 32 := Scalar.muli c8_i32_880 v1864
  let v1866 : BitVec 32 := Scalar.subi v3 v1865
  let c1_i32_881 : BitVec 32 := 1#32
  let v1867 : BitVec 32 := Scalar.addi v1866 c1_i32_881
  let c0_i32_882 : BitVec 32 := 0#32
  let v1868 : BitVec 32 := Scalar.maxsi v1867 c0_i32_882
  let c256_i32_883 : BitVec 32 := 256#32
  let v1869 : BitVec 32 := Scalar.muli v1868 c256_i32_883
  v1869
def k0_mult193 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_890 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_889 : BitVec 32 := 1#32
  let v1885 : BitVec 32 := Scalar.addi v1838 c1_i32_889
  let v1886 : BitVec 32 := Scalar.muli c8_i32_890 v1885
  let v1887 : BitVec 32 := Scalar.subi v3 v1886
  let c2_i32_891 : BitVec 32 := 2#32
  let v1888 : BitVec 32 := Scalar.addi v1887 c2_i32_891
  let c0_i32_892 : BitVec 32 := 0#32
  let v1889 : BitVec 32 := Scalar.maxsi v1888 c0_i32_892
  let c256_i32_893 : BitVec 32 := 256#32
  let v1890 : BitVec 32 := Scalar.muli v1889 c256_i32_893
  v1890
def k0_mult194 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_900 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_899 : BitVec 32 := 1#32
  let v1906 : BitVec 32 := Scalar.addi v1838 c1_i32_899
  let v1907 : BitVec 32 := Scalar.muli c8_i32_900 v1906
  let v1908 : BitVec 32 := Scalar.subi v3 v1907
  let c3_i32_901 : BitVec 32 := 3#32
  let v1909 : BitVec 32 := Scalar.addi v1908 c3_i32_901
  let c0_i32_902 : BitVec 32 := 0#32
  let v1910 : BitVec 32 := Scalar.maxsi v1909 c0_i32_902
  let c256_i32_903 : BitVec 32 := 256#32
  let v1911 : BitVec 32 := Scalar.muli v1910 c256_i32_903
  v1911
def k0_mult195 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_910 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_909 : BitVec 32 := 1#32
  let v1927 : BitVec 32 := Scalar.addi v1838 c1_i32_909
  let v1928 : BitVec 32 := Scalar.muli c8_i32_910 v1927
  let v1929 : BitVec 32 := Scalar.subi v3 v1928
  let c4_i32_911 : BitVec 32 := 4#32
  let v1930 : BitVec 32 := Scalar.addi v1929 c4_i32_911
  let c0_i32_912 : BitVec 32 := 0#32
  let v1931 : BitVec 32 := Scalar.maxsi v1930 c0_i32_912
  let c256_i32_913 : BitVec 32 := 256#32
  let v1932 : BitVec 32 := Scalar.muli v1931 c256_i32_913
  v1932
def k0_mult196 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_920 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_919 : BitVec 32 := 1#32
  let v1948 : BitVec 32 := Scalar.addi v1838 c1_i32_919
  let v1949 : BitVec 32 := Scalar.muli c8_i32_920 v1948
  let v1950 : BitVec 32 := Scalar.subi v3 v1949
  let c5_i32_921 : BitVec 32 := 5#32
  let v1951 : BitVec 32 := Scalar.addi v1950 c5_i32_921
  let c0_i32_922 : BitVec 32 := 0#32
  let v1952 : BitVec 32 := Scalar.maxsi v1951 c0_i32_922
  let c256_i32_923 : BitVec 32 := 256#32
  let v1953 : BitVec 32 := Scalar.muli v1952 c256_i32_923
  v1953
def k0_mult197 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_930 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_929 : BitVec 32 := 1#32
  let v1969 : BitVec 32 := Scalar.addi v1838 c1_i32_929
  let v1970 : BitVec 32 := Scalar.muli c8_i32_930 v1969
  let v1971 : BitVec 32 := Scalar.subi v3 v1970
  let c6_i32_931 : BitVec 32 := 6#32
  let v1972 : BitVec 32 := Scalar.addi v1971 c6_i32_931
  let c0_i32_932 : BitVec 32 := 0#32
  let v1973 : BitVec 32 := Scalar.maxsi v1972 c0_i32_932
  let c256_i32_933 : BitVec 32 := 256#32
  let v1974 : BitVec 32 := Scalar.muli v1973 c256_i32_933
  v1974
def k0_mult198 (i : grid0.Coords) (v1052 : BitVec 32) : BitVec 32 :=
  let arg1 : BitVec 32 := BitVec.ofNat 32 (i 1).val
  let c48_i32 : BitVec 32 := 48#32
  let v3 : BitVec 32 := Scalar.addi arg1 c48_i32
  let c8_i32_940 : BitVec 32 := 8#32
  let c7_i32_478 : BitVec 32 := 7#32
  let v1053 : BitVec 32 := Scalar.addi v3 c7_i32_478
  let c8_i32_479 : BitVec 32 := 8#32
  let v1054 : BitVec 32 := Scalar.divsi v1053 c8_i32_479
  let v1055 : BitVec 32 := Scalar.minsi v1054 v1052
  let c0_i32_480 : BitVec 32 := 0#32
  let v1056 : BitVec 32 := Scalar.maxsi v1055 c0_i32_480
  let c1_i32_864 : BitVec 32 := 1#32
  let v1837 : BitVec 32 := Scalar.subi v1056 c1_i32_864
  let c0_i32_865 : BitVec 32 := 0#32
  let v1838 : BitVec 32 := Scalar.maxsi v1837 c0_i32_865
  let c1_i32_939 : BitVec 32 := 1#32
  let v1990 : BitVec 32 := Scalar.addi v1838 c1_i32_939
  let v1991 : BitVec 32 := Scalar.muli c8_i32_940 v1990
  let v1992 : BitVec 32 := Scalar.subi v3 v1991
  let c7_i32_941 : BitVec 32 := 7#32
  let v1993 : BitVec 32 := Scalar.addi v1992 c7_i32_941
  let c0_i32_942 : BitVec 32 := 0#32
  let v1994 : BitVec 32 := Scalar.maxsi v1993 c0_i32_942
  let c256_i32_943 : BitVec 32 := 256#32
  let v1995 : BitVec 32 := Scalar.muli v1994 c256_i32_943
  v1995

def k0_chk4_0 (i : grid0.Coords) (v1052 : BitVec 32) : Prop :=
  ((k0_t8_loop i v1052).OK) ∧
  (∀ k0_t8 : Fin (k0_t8_loop i v1052).trips, 256 ∣ (k0_mult135 i v1052 k0_t8).toNat) ∧
  (∀ k0_t8 : Fin (k0_t8_loop i v1052).trips, ∀ (r : Fin 8), ∀ a, (k0_off18 i v1052 k0_t8 (BitVec.ofNat 32 r.val)) a + S256x128.size a ≤ S16384x128.size a) ∧
  (∀ k0_t8 : Fin (k0_t8_loop i v1052).trips, 256 ∣ (k0_mult136 i v1052 k0_t8).toNat) ∧
  (∀ k0_t8 : Fin (k0_t8_loop i v1052).trips, 256 ∣ (k0_mult137 i v1052 k0_t8).toNat) ∧
  (∀ k0_t8 : Fin (k0_t8_loop i v1052).trips, 256 ∣ (k0_mult138 i v1052 k0_t8).toNat) ∧
  (∀ k0_t8 : Fin (k0_t8_loop i v1052).trips, 256 ∣ (k0_mult139 i v1052 k0_t8).toNat) ∧
  (∀ k0_t8 : Fin (k0_t8_loop i v1052).trips, 256 ∣ (k0_mult140 i v1052 k0_t8).toNat) ∧
  (∀ k0_t8 : Fin (k0_t8_loop i v1052).trips, 256 ∣ (k0_mult141 i v1052 k0_t8).toNat) ∧
  (∀ k0_t8 : Fin (k0_t8_loop i v1052).trips, 256 ∣ (k0_mult142 i v1052 k0_t8).toNat) ∧
  (∀ k0_t8 : Fin (k0_t8_loop i v1052).trips, 256 ∣ (k0_mult143 i v1052 k0_t8).toNat) ∧
  (∀ k0_t8 : Fin (k0_t8_loop i v1052).trips, ∀ (r : Fin 8), ∀ a, (k0_off19 i v1052 k0_t8 (BitVec.ofNat 32 r.val)) a + S256x256.size a ≤ S18176x256.size a) ∧
  (∀ k0_t8 : Fin (k0_t8_loop i v1052).trips, 256 ∣ (k0_mult144 i v1052 k0_t8).toNat) ∧
  (∀ k0_t8 : Fin (k0_t8_loop i v1052).trips, 256 ∣ (k0_mult145 i v1052 k0_t8).toNat) ∧
  (∀ k0_t8 : Fin (k0_t8_loop i v1052).trips, 256 ∣ (k0_mult146 i v1052 k0_t8).toNat) ∧
  (∀ k0_t8 : Fin (k0_t8_loop i v1052).trips, 256 ∣ (k0_mult147 i v1052 k0_t8).toNat) ∧
  (∀ k0_t8 : Fin (k0_t8_loop i v1052).trips, 256 ∣ (k0_mult148 i v1052 k0_t8).toNat) ∧
  (∀ k0_t8 : Fin (k0_t8_loop i v1052).trips, 256 ∣ (k0_mult149 i v1052 k0_t8).toNat) ∧
  (∀ k0_t8 : Fin (k0_t8_loop i v1052).trips, 256 ∣ (k0_mult150 i v1052 k0_t8).toNat) ∧
  ((k0_t9_loop i v1052).OK) ∧
  (∀ k0_t9 : Fin (k0_t9_loop i v1052).trips, 256 ∣ (k0_mult151 i v1052 k0_t9).toNat) ∧
  (∀ k0_t9 : Fin (k0_t9_loop i v1052).trips, ∀ (r : Fin 8), ∀ a, (k0_off20 i v1052 k0_t9 (BitVec.ofNat 32 r.val)) a + S256x128.size a ≤ S16384x128.size a) ∧
  (∀ k0_t9 : Fin (k0_t9_loop i v1052).trips, 256 ∣ (k0_mult152 i v1052 k0_t9).toNat) ∧
  (∀ k0_t9 : Fin (k0_t9_loop i v1052).trips, 256 ∣ (k0_mult153 i v1052 k0_t9).toNat) ∧
  (∀ k0_t9 : Fin (k0_t9_loop i v1052).trips, 256 ∣ (k0_mult154 i v1052 k0_t9).toNat) ∧
  (∀ k0_t9 : Fin (k0_t9_loop i v1052).trips, 256 ∣ (k0_mult155 i v1052 k0_t9).toNat) ∧
  (∀ k0_t9 : Fin (k0_t9_loop i v1052).trips, 256 ∣ (k0_mult156 i v1052 k0_t9).toNat) ∧
  (∀ k0_t9 : Fin (k0_t9_loop i v1052).trips, 256 ∣ (k0_mult157 i v1052 k0_t9).toNat) ∧
  (∀ k0_t9 : Fin (k0_t9_loop i v1052).trips, 256 ∣ (k0_mult158 i v1052 k0_t9).toNat) ∧
  (∀ k0_t9 : Fin (k0_t9_loop i v1052).trips, 256 ∣ (k0_mult159 i v1052 k0_t9).toNat) ∧
  (∀ k0_t9 : Fin (k0_t9_loop i v1052).trips, ∀ (r : Fin 8), ∀ a, (k0_off21 i v1052 k0_t9 (BitVec.ofNat 32 r.val)) a + S256x256.size a ≤ S18176x256.size a) ∧
  (∀ k0_t9 : Fin (k0_t9_loop i v1052).trips, 256 ∣ (k0_mult160 i v1052 k0_t9).toNat)
def k0_chk4_1 (i : grid0.Coords) (v1052 : BitVec 32) : Prop :=
  (∀ k0_t9 : Fin (k0_t9_loop i v1052).trips, 256 ∣ (k0_mult161 i v1052 k0_t9).toNat) ∧
  (∀ k0_t9 : Fin (k0_t9_loop i v1052).trips, 256 ∣ (k0_mult162 i v1052 k0_t9).toNat) ∧
  (∀ k0_t9 : Fin (k0_t9_loop i v1052).trips, 256 ∣ (k0_mult163 i v1052 k0_t9).toNat) ∧
  (∀ k0_t9 : Fin (k0_t9_loop i v1052).trips, 256 ∣ (k0_mult164 i v1052 k0_t9).toNat) ∧
  (∀ k0_t9 : Fin (k0_t9_loop i v1052).trips, 256 ∣ (k0_mult165 i v1052 k0_t9).toNat) ∧
  (∀ k0_t9 : Fin (k0_t9_loop i v1052).trips, 256 ∣ (k0_mult166 i v1052 k0_t9).toNat) ∧
  (256 ∣ (k0_mult191 i v1052).toNat) ∧
  (∀ (r : Fin 8), ∀ a, (k0_off25 i v1052 (BitVec.ofNat 32 r.val)) a + S256x128.size a ≤ S16384x128.size a) ∧
  (256 ∣ (k0_mult192 i v1052).toNat) ∧
  (256 ∣ (k0_mult193 i v1052).toNat) ∧
  (256 ∣ (k0_mult194 i v1052).toNat) ∧
  (256 ∣ (k0_mult195 i v1052).toNat) ∧
  (256 ∣ (k0_mult196 i v1052).toNat) ∧
  (256 ∣ (k0_mult197 i v1052).toNat) ∧
  (256 ∣ (k0_mult198 i v1052).toNat)
def k0_chk4 (i : grid0.Coords) (v1052 : BitVec 32) : Prop :=
  k0_chk4_0 i v1052 ∧
  k0_chk4_1 i v1052
theorem k0_t8_ok : ∀ (i : grid0.Coords) (v1052 : BitVec 32) (k0_hw4 : k0_chk4 i v1052), (k0_t8_loop i v1052).OK := fun i v1052 k0_hw4 => k0_hw4.1.1
theorem k0_mult135_dvd : ∀ (i : grid0.Coords) (v1052 : BitVec 32) (k0_hw4 : k0_chk4 i v1052) (k0_t8 : Fin (k0_t8_loop i v1052).trips), 256 ∣ (k0_mult135 i v1052 k0_t8).toNat := fun i v1052 k0_hw4 k0_t8 => k0_hw4.1.2.1 k0_t8
theorem k0_off18_inb : ∀ (i : grid0.Coords) (v1052 : BitVec 32) (k0_hw4 : k0_chk4 i v1052) (k0_t8 : Fin (k0_t8_loop i v1052).trips), ∀ (r : Fin 8), ∀ a, (k0_off18 i v1052 k0_t8 (BitVec.ofNat 32 r.val)) a + S256x128.size a ≤ S16384x128.size a := fun i v1052 k0_hw4 k0_t8 r => k0_hw4.1.2.2.1 k0_t8 r
theorem k0_mult136_dvd : ∀ (i : grid0.Coords) (v1052 : BitVec 32) (k0_hw4 : k0_chk4 i v1052) (k0_t8 : Fin (k0_t8_loop i v1052).trips), 256 ∣ (k0_mult136 i v1052 k0_t8).toNat := fun i v1052 k0_hw4 k0_t8 => k0_hw4.1.2.2.2.1 k0_t8
theorem k0_mult137_dvd : ∀ (i : grid0.Coords) (v1052 : BitVec 32) (k0_hw4 : k0_chk4 i v1052) (k0_t8 : Fin (k0_t8_loop i v1052).trips), 256 ∣ (k0_mult137 i v1052 k0_t8).toNat := fun i v1052 k0_hw4 k0_t8 => k0_hw4.1.2.2.2.2.1 k0_t8
theorem k0_mult138_dvd : ∀ (i : grid0.Coords) (v1052 : BitVec 32) (k0_hw4 : k0_chk4 i v1052) (k0_t8 : Fin (k0_t8_loop i v1052).trips), 256 ∣ (k0_mult138 i v1052 k0_t8).toNat := fun i v1052 k0_hw4 k0_t8 => k0_hw4.1.2.2.2.2.2.1 k0_t8
theorem k0_mult139_dvd : ∀ (i : grid0.Coords) (v1052 : BitVec 32) (k0_hw4 : k0_chk4 i v1052) (k0_t8 : Fin (k0_t8_loop i v1052).trips), 256 ∣ (k0_mult139 i v1052 k0_t8).toNat := fun i v1052 k0_hw4 k0_t8 => k0_hw4.1.2.2.2.2.2.2.1 k0_t8
theorem k0_mult140_dvd : ∀ (i : grid0.Coords) (v1052 : BitVec 32) (k0_hw4 : k0_chk4 i v1052) (k0_t8 : Fin (k0_t8_loop i v1052).trips), 256 ∣ (k0_mult140 i v1052 k0_t8).toNat := fun i v1052 k0_hw4 k0_t8 => k0_hw4.1.2.2.2.2.2.2.2.1 k0_t8
theorem k0_mult141_dvd : ∀ (i : grid0.Coords) (v1052 : BitVec 32) (k0_hw4 : k0_chk4 i v1052) (k0_t8 : Fin (k0_t8_loop i v1052).trips), 256 ∣ (k0_mult141 i v1052 k0_t8).toNat := fun i v1052 k0_hw4 k0_t8 => k0_hw4.1.2.2.2.2.2.2.2.2.1 k0_t8
theorem k0_mult142_dvd : ∀ (i : grid0.Coords) (v1052 : BitVec 32) (k0_hw4 : k0_chk4 i v1052) (k0_t8 : Fin (k0_t8_loop i v1052).trips), 256 ∣ (k0_mult142 i v1052 k0_t8).toNat := fun i v1052 k0_hw4 k0_t8 => k0_hw4.1.2.2.2.2.2.2.2.2.2.1 k0_t8
theorem k0_mult143_dvd : ∀ (i : grid0.Coords) (v1052 : BitVec 32) (k0_hw4 : k0_chk4 i v1052) (k0_t8 : Fin (k0_t8_loop i v1052).trips), 256 ∣ (k0_mult143 i v1052 k0_t8).toNat := fun i v1052 k0_hw4 k0_t8 => k0_hw4.1.2.2.2.2.2.2.2.2.2.2.1 k0_t8
theorem k0_off19_inb : ∀ (i : grid0.Coords) (v1052 : BitVec 32) (k0_hw4 : k0_chk4 i v1052) (k0_t8 : Fin (k0_t8_loop i v1052).trips), ∀ (r : Fin 8), ∀ a, (k0_off19 i v1052 k0_t8 (BitVec.ofNat 32 r.val)) a + S256x256.size a ≤ S18176x256.size a := fun i v1052 k0_hw4 k0_t8 r => k0_hw4.1.2.2.2.2.2.2.2.2.2.2.2.1 k0_t8 r
theorem k0_mult144_dvd : ∀ (i : grid0.Coords) (v1052 : BitVec 32) (k0_hw4 : k0_chk4 i v1052) (k0_t8 : Fin (k0_t8_loop i v1052).trips), 256 ∣ (k0_mult144 i v1052 k0_t8).toNat := fun i v1052 k0_hw4 k0_t8 => k0_hw4.1.2.2.2.2.2.2.2.2.2.2.2.2.1 k0_t8
theorem k0_mult145_dvd : ∀ (i : grid0.Coords) (v1052 : BitVec 32) (k0_hw4 : k0_chk4 i v1052) (k0_t8 : Fin (k0_t8_loop i v1052).trips), 256 ∣ (k0_mult145 i v1052 k0_t8).toNat := fun i v1052 k0_hw4 k0_t8 => k0_hw4.1.2.2.2.2.2.2.2.2.2.2.2.2.2.1 k0_t8
theorem k0_mult146_dvd : ∀ (i : grid0.Coords) (v1052 : BitVec 32) (k0_hw4 : k0_chk4 i v1052) (k0_t8 : Fin (k0_t8_loop i v1052).trips), 256 ∣ (k0_mult146 i v1052 k0_t8).toNat := fun i v1052 k0_hw4 k0_t8 => k0_hw4.1.2.2.2.2.2.2.2.2.2.2.2.2.2.2.1 k0_t8
theorem k0_mult147_dvd : ∀ (i : grid0.Coords) (v1052 : BitVec 32) (k0_hw4 : k0_chk4 i v1052) (k0_t8 : Fin (k0_t8_loop i v1052).trips), 256 ∣ (k0_mult147 i v1052 k0_t8).toNat := fun i v1052 k0_hw4 k0_t8 => k0_hw4.1.2.2.2.2.2.2.2.2.2.2.2.2.2.2.2.1 k0_t8
theorem k0_mult148_dvd : ∀ (i : grid0.Coords) (v1052 : BitVec 32) (k0_hw4 : k0_chk4 i v1052) (k0_t8 : Fin (k0_t8_loop i v1052).trips), 256 ∣ (k0_mult148 i v1052 k0_t8).toNat := fun i v1052 k0_hw4 k0_t8 => k0_hw4.1.2.2.2.2.2.2.2.2.2.2.2.2.2.2.2.2.1 k0_t8
theorem k0_mult149_dvd : ∀ (i : grid0.Coords) (v1052 : BitVec 32) (k0_hw4 : k0_chk4 i v1052) (k0_t8 : Fin (k0_t8_loop i v1052).trips), 256 ∣ (k0_mult149 i v1052 k0_t8).toNat := fun i v1052 k0_hw4 k0_t8 => k0_hw4.1.2.2.2.2.2.2.2.2.2.2.2.2.2.2.2.2.2.1 k0_t8
theorem k0_mult150_dvd : ∀ (i : grid0.Coords) (v1052 : BitVec 32) (k0_hw4 : k0_chk4 i v1052) (k0_t8 : Fin (k0_t8_loop i v1052).trips), 256 ∣ (k0_mult150 i v1052 k0_t8).toNat := fun i v1052 k0_hw4 k0_t8 => k0_hw4.1.2.2.2.2.2.2.2.2.2.2.2.2.2.2.2.2.2.2.1 k0_t8
theorem k0_t9_ok : ∀ (i : grid0.Coords) (v1052 : BitVec 32) (k0_hw4 : k0_chk4 i v1052), (k0_t9_loop i v1052).OK := fun i v1052 k0_hw4 => k0_hw4.1.2.2.2.2.2.2.2.2.2.2.2.2.2.2.2.2.2.2.2.1
theorem k0_mult151_dvd : ∀ (i : grid0.Coords) (v1052 : BitVec 32) (k0_hw4 : k0_chk4 i v1052) (k0_t9 : Fin (k0_t9_loop i v1052).trips), 256 ∣ (k0_mult151 i v1052 k0_t9).toNat := fun i v1052 k0_hw4 k0_t9 => k0_hw4.1.2.2.2.2.2.2.2.2.2.2.2.2.2.2.2.2.2.2.2.2.1 k0_t9
theorem k0_off20_inb : ∀ (i : grid0.Coords) (v1052 : BitVec 32) (k0_hw4 : k0_chk4 i v1052) (k0_t9 : Fin (k0_t9_loop i v1052).trips), ∀ (r : Fin 8), ∀ a, (k0_off20 i v1052 k0_t9 (BitVec.ofNat 32 r.val)) a + S256x128.size a ≤ S16384x128.size a := fun i v1052 k0_hw4 k0_t9 r => k0_hw4.1.2.2.2.2.2.2.2.2.2.2.2.2.2.2.2.2.2.2.2.2.2.1 k0_t9 r
theorem k0_mult152_dvd : ∀ (i : grid0.Coords) (v1052 : BitVec 32) (k0_hw4 : k0_chk4 i v1052) (k0_t9 : Fin (k0_t9_loop i v1052).trips), 256 ∣ (k0_mult152 i v1052 k0_t9).toNat := fun i v1052 k0_hw4 k0_t9 => k0_hw4.1.2.2.2.2.2.2.2.2.2.2.2.2.2.2.2.2.2.2.2.2.2.2.1 k0_t9
theorem k0_mult153_dvd : ∀ (i : grid0.Coords) (v1052 : BitVec 32) (k0_hw4 : k0_chk4 i v1052) (k0_t9 : Fin (k0_t9_loop i v1052).trips), 256 ∣ (k0_mult153 i v1052 k0_t9).toNat := fun i v1052 k0_hw4 k0_t9 => k0_hw4.1.2.2.2.2.2.2.2.2.2.2.2.2.2.2.2.2.2.2.2.2.2.2.2.1 k0_t9
theorem k0_mult154_dvd : ∀ (i : grid0.Coords) (v1052 : BitVec 32) (k0_hw4 : k0_chk4 i v1052) (k0_t9 : Fin (k0_t9_loop i v1052).trips), 256 ∣ (k0_mult154 i v1052 k0_t9).toNat := fun i v1052 k0_hw4 k0_t9 => k0_hw4.1.2.2.2.2.2.2.2.2.2.2.2.2.2.2.2.2.2.2.2.2.2.2.2.2.1 k0_t9
theorem k0_mult155_dvd : ∀ (i : grid0.Coords) (v1052 : BitVec 32) (k0_hw4 : k0_chk4 i v1052) (k0_t9 : Fin (k0_t9_loop i v1052).trips), 256 ∣ (k0_mult155 i v1052 k0_t9).toNat := fun i v1052 k0_hw4 k0_t9 => k0_hw4.1.2.2.2.2.2.2.2.2.2.2.2.2.2.2.2.2.2.2.2.2.2.2.2.2.2.1 k0_t9
theorem k0_mult156_dvd : ∀ (i : grid0.Coords) (v1052 : BitVec 32) (k0_hw4 : k0_chk4 i v1052) (k0_t9 : Fin (k0_t9_loop i v1052).trips), 256 ∣ (k0_mult156 i v1052 k0_t9).toNat := fun i v1052 k0_hw4 k0_t9 => k0_hw4.1.2.2.2.2.2.2.2.2.2.2.2.2.2.2.2.2.2.2.2.2.2.2.2.2.2.2.1 k0_t9
theorem k0_mult157_dvd : ∀ (i : grid0.Coords) (v1052 : BitVec 32) (k0_hw4 : k0_chk4 i v1052) (k0_t9 : Fin (k0_t9_loop i v1052).trips), 256 ∣ (k0_mult157 i v1052 k0_t9).toNat := fun i v1052 k0_hw4 k0_t9 => k0_hw4.1.2.2.2.2.2.2.2.2.2.2.2.2.2.2.2.2.2.2.2.2.2.2.2.2.2.2.2.1 k0_t9
theorem k0_mult158_dvd : ∀ (i : grid0.Coords) (v1052 : BitVec 32) (k0_hw4 : k0_chk4 i v1052) (k0_t9 : Fin (k0_t9_loop i v1052).trips), 256 ∣ (k0_mult158 i v1052 k0_t9).toNat := fun i v1052 k0_hw4 k0_t9 => k0_hw4.1.2.2.2.2.2.2.2.2.2.2.2.2.2.2.2.2.2.2.2.2.2.2.2.2.2.2.2.2.1 k0_t9
theorem k0_mult159_dvd : ∀ (i : grid0.Coords) (v1052 : BitVec 32) (k0_hw4 : k0_chk4 i v1052) (k0_t9 : Fin (k0_t9_loop i v1052).trips), 256 ∣ (k0_mult159 i v1052 k0_t9).toNat := fun i v1052 k0_hw4 k0_t9 => k0_hw4.1.2.2.2.2.2.2.2.2.2.2.2.2.2.2.2.2.2.2.2.2.2.2.2.2.2.2.2.2.2.1 k0_t9
theorem k0_off21_inb : ∀ (i : grid0.Coords) (v1052 : BitVec 32) (k0_hw4 : k0_chk4 i v1052) (k0_t9 : Fin (k0_t9_loop i v1052).trips), ∀ (r : Fin 8), ∀ a, (k0_off21 i v1052 k0_t9 (BitVec.ofNat 32 r.val)) a + S256x256.size a ≤ S18176x256.size a := fun i v1052 k0_hw4 k0_t9 r => k0_hw4.1.2.2.2.2.2.2.2.2.2.2.2.2.2.2.2.2.2.2.2.2.2.2.2.2.2.2.2.2.2.2.1 k0_t9 r
theorem k0_mult160_dvd : ∀ (i : grid0.Coords) (v1052 : BitVec 32) (k0_hw4 : k0_chk4 i v1052) (k0_t9 : Fin (k0_t9_loop i v1052).trips), 256 ∣ (k0_mult160 i v1052 k0_t9).toNat := fun i v1052 k0_hw4 k0_t9 => k0_hw4.1.2.2.2.2.2.2.2.2.2.2.2.2.2.2.2.2.2.2.2.2.2.2.2.2.2.2.2.2.2.2.2 k0_t9
theorem k0_mult161_dvd : ∀ (i : grid0.Coords) (v1052 : BitVec 32) (k0_hw4 : k0_chk4 i v1052) (k0_t9 : Fin (k0_t9_loop i v1052).trips), 256 ∣ (k0_mult161 i v1052 k0_t9).toNat := fun i v1052 k0_hw4 k0_t9 => k0_hw4.2.1 k0_t9
theorem k0_mult162_dvd : ∀ (i : grid0.Coords) (v1052 : BitVec 32) (k0_hw4 : k0_chk4 i v1052) (k0_t9 : Fin (k0_t9_loop i v1052).trips), 256 ∣ (k0_mult162 i v1052 k0_t9).toNat := fun i v1052 k0_hw4 k0_t9 => k0_hw4.2.2.1 k0_t9
theorem k0_mult163_dvd : ∀ (i : grid0.Coords) (v1052 : BitVec 32) (k0_hw4 : k0_chk4 i v1052) (k0_t9 : Fin (k0_t9_loop i v1052).trips), 256 ∣ (k0_mult163 i v1052 k0_t9).toNat := fun i v1052 k0_hw4 k0_t9 => k0_hw4.2.2.2.1 k0_t9
theorem k0_mult164_dvd : ∀ (i : grid0.Coords) (v1052 : BitVec 32) (k0_hw4 : k0_chk4 i v1052) (k0_t9 : Fin (k0_t9_loop i v1052).trips), 256 ∣ (k0_mult164 i v1052 k0_t9).toNat := fun i v1052 k0_hw4 k0_t9 => k0_hw4.2.2.2.2.1 k0_t9
theorem k0_mult165_dvd : ∀ (i : grid0.Coords) (v1052 : BitVec 32) (k0_hw4 : k0_chk4 i v1052) (k0_t9 : Fin (k0_t9_loop i v1052).trips), 256 ∣ (k0_mult165 i v1052 k0_t9).toNat := fun i v1052 k0_hw4 k0_t9 => k0_hw4.2.2.2.2.2.1 k0_t9
theorem k0_mult166_dvd : ∀ (i : grid0.Coords) (v1052 : BitVec 32) (k0_hw4 : k0_chk4 i v1052) (k0_t9 : Fin (k0_t9_loop i v1052).trips), 256 ∣ (k0_mult166 i v1052 k0_t9).toNat := fun i v1052 k0_hw4 k0_t9 => k0_hw4.2.2.2.2.2.2.1 k0_t9
theorem k0_mult191_dvd : ∀ (i : grid0.Coords) (v1052 : BitVec 32) (k0_hw4 : k0_chk4 i v1052), 256 ∣ (k0_mult191 i v1052).toNat := fun i v1052 k0_hw4 => k0_hw4.2.2.2.2.2.2.2.1
theorem k0_off25_inb : ∀ (i : grid0.Coords) (v1052 : BitVec 32) (k0_hw4 : k0_chk4 i v1052), ∀ (r : Fin 8), ∀ a, (k0_off25 i v1052 (BitVec.ofNat 32 r.val)) a + S256x128.size a ≤ S16384x128.size a := fun i v1052 k0_hw4 r => k0_hw4.2.2.2.2.2.2.2.2.1 r
theorem k0_mult192_dvd : ∀ (i : grid0.Coords) (v1052 : BitVec 32) (k0_hw4 : k0_chk4 i v1052), 256 ∣ (k0_mult192 i v1052).toNat := fun i v1052 k0_hw4 => k0_hw4.2.2.2.2.2.2.2.2.2.1
theorem k0_mult193_dvd : ∀ (i : grid0.Coords) (v1052 : BitVec 32) (k0_hw4 : k0_chk4 i v1052), 256 ∣ (k0_mult193 i v1052).toNat := fun i v1052 k0_hw4 => k0_hw4.2.2.2.2.2.2.2.2.2.2.1
theorem k0_mult194_dvd : ∀ (i : grid0.Coords) (v1052 : BitVec 32) (k0_hw4 : k0_chk4 i v1052), 256 ∣ (k0_mult194 i v1052).toNat := fun i v1052 k0_hw4 => k0_hw4.2.2.2.2.2.2.2.2.2.2.2.1
theorem k0_mult195_dvd : ∀ (i : grid0.Coords) (v1052 : BitVec 32) (k0_hw4 : k0_chk4 i v1052), 256 ∣ (k0_mult195 i v1052).toNat := fun i v1052 k0_hw4 => k0_hw4.2.2.2.2.2.2.2.2.2.2.2.2.1
theorem k0_mult196_dvd : ∀ (i : grid0.Coords) (v1052 : BitVec 32) (k0_hw4 : k0_chk4 i v1052), 256 ∣ (k0_mult196 i v1052).toNat := fun i v1052 k0_hw4 => k0_hw4.2.2.2.2.2.2.2.2.2.2.2.2.2.1
theorem k0_mult197_dvd : ∀ (i : grid0.Coords) (v1052 : BitVec 32) (k0_hw4 : k0_chk4 i v1052), 256 ∣ (k0_mult197 i v1052).toNat := fun i v1052 k0_hw4 => k0_hw4.2.2.2.2.2.2.2.2.2.2.2.2.2.2.1
theorem k0_mult198_dvd : ∀ (i : grid0.Coords) (v1052 : BitVec 32) (k0_hw4 : k0_chk4 i v1052), 256 ∣ (k0_mult198 i v1052).toNat := fun i v1052 k0_hw4 => k0_hw4.2.2.2.2.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![c0_i32.toNat, v1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ * (Real.log 2)⁻¹ : ℝ) : EReal)
  | "underflow" => some ⊤
  | "unmask" => some ⊤
  | _ => none
-- ==== ReferenceIdeal.lean ====
abbrev S16384x6144 : Shape := ⟨2, ![16384, 6144]⟩
abbrev S16 : Shape := ⟨1, ![16]⟩
abbrev S1x16384x6144 : Shape := ⟨3, ![1, 16384, 6144]⟩
abbrev S1x16384x2048 : Shape := ⟨3, ![1, 16384, 2048]⟩
abbrev S1x16384x16x128 : Shape := ⟨4, ![1, 16384, 16, 128]⟩
abbrev S1x16x16384x128 : Shape := ⟨4, ![1, 16, 16384, 128]⟩
abbrev S1x16x64x256x128 : Shape := ⟨5, ![1, 16, 64, 256, 128]⟩
abbrev S_ : Shape := ⟨0, ![]⟩
abbrev S1x16x64x128 : Shape := ⟨4, ![1, 16, 64, 128]⟩
abbrev S16384 : Shape := ⟨1, ![16384]⟩
abbrev S1x16x16384x64 : Shape := ⟨4, ![1, 16, 16384, 64]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S1x16x16384x3 : Shape := ⟨4, ![1, 16, 16384, 3]⟩
abbrev S3 : Shape := ⟨1, ![3]⟩
abbrev S1x3 : Shape := ⟨2, ![1, 3]⟩
abbrev S16384x3 : Shape := ⟨2, ![16384, 3]⟩
abbrev S1x16x1x1 : Shape := ⟨4, ![1, 16, 1, 1]⟩
abbrev S1x16x1x1x1 : Shape := ⟨5, ![1, 16, 1, 1, 1]⟩
abbrev S1 : Shape := ⟨1, ![1]⟩
abbrev S1x1x1x1 : Shape := ⟨4, ![1, 1, 1, 1]⟩
abbrev S1x16x16384x3x1 : Shape := ⟨5, ![1, 16, 16384, 3, 1]⟩
abbrev S1x16x16384x3x3 : Shape := ⟨5, ![1, 16, 16384, 3, 3]⟩
abbrev S1x16x16384x3x256x128 : Shape := ⟨6, ![1, 16, 16384, 3, 256, 128]⟩
abbrev S256 : Shape := ⟨1, ![256]⟩
abbrev S1x1x1x1x256 : Shape := ⟨5, ![1, 1, 1, 1, 256]⟩
abbrev S1x16x16384x3x256 : Shape := ⟨5, ![1, 16, 16384, 3, 256]⟩
abbrev S16384x1x1 : Shape := ⟨3, ![16384, 1, 1]⟩
abbrev S1x1x16384x1x1 : Shape := ⟨5, ![1, 1, 16384, 1, 1]⟩
abbrev S16384x3x1 : Shape := ⟨3, ![16384, 3, 1]⟩
abbrev S1x1x16384x1 : Shape := ⟨4, ![1, 1, 16384, 1]⟩
abbrev S1x16x16384x1 : Shape := ⟨4, ![1, 16, 16384, 1]⟩
abbrev S1x16x16384x1x1 : Shape := ⟨5, ![1, 16, 16384, 1, 1]⟩
abbrev S1x16x16384x1x3 : Shape := ⟨5, ![1, 16, 16384, 1, 3]⟩
abbrev S1x16x16384x1x256x128 : Shape := ⟨6, ![1, 16, 16384, 1, 256, 128]⟩
abbrev S1x256 : Shape := ⟨2, ![1, 256]⟩
abbrev S16384x256 : Shape := ⟨2, ![16384, 256]⟩
abbrev S1x16x16384x1x256 : Shape := ⟨5, ![1, 16, 16384, 1, 256]⟩
abbrev S1x16x16384x256 : Shape := ⟨4, ![1, 16, 16384, 256]⟩
abbrev S1x1x16384x256 : Shape := ⟨4, ![1, 1, 16384, 256]⟩
abbrev S1x16x16384x768 : Shape := ⟨4, ![1, 16, 16384, 768]⟩
abbrev S1x16x16384x1024 : Shape := ⟨4, ![1, 16, 16384, 1024]⟩
abbrev S1x16x16384 : Shape := ⟨3, ![1, 16, 16384]⟩
abbrev S1x16x16384x256x128 : Shape := ⟨5, ![1, 16, 16384, 256, 128]⟩
abbrev S4x4096x2048 : Shape := ⟨3, ![4, 4096, 2048]⟩

abbrev nBuf : Space → Nat
  | .hbm => 266
  | .vmem => 0
  | .smem => 0
  | _ => 0

abbrev hbmTy0_0 (i : Nat) : BufTy := match i % 128 with
  | 0 => ⟨S16384x6144, .bf16⟩
  | 1 => ⟨S16, .f32⟩
  | 2 => ⟨S16384x6144, .f32⟩
  | 3 => ⟨S1x16384x6144, .f32⟩
  | 4 => ⟨S1x16384x2048, .f32⟩
  | 5 => ⟨S1x16384x2048, .f32⟩
  | 6 => ⟨S1x16384x2048, .f32⟩
  | 7 => ⟨S1x16384x16x128, .f32⟩
  | 8 => ⟨S1x16x16384x128, .f32⟩
  | 9 => ⟨S1x16384x16x128, .f32⟩
  | 10 => ⟨S1x16x16384x128, .f32⟩
  | 11 => ⟨S1x16384x16x128, .f32⟩
  | 12 => ⟨S1x16x16384x128, .f32⟩
  | 13 => ⟨S1x16x64x256x128, .f32⟩
  | 14 => ⟨S1x16x64x256x128, .f32⟩
  | 15 => ⟨S_, .f32⟩
  | 16 => ⟨S1x16x64x128, .f32⟩
  | 17 => ⟨S_, .f32⟩
  | 18 => ⟨S1x16x64x128, .f32⟩
  | 19 => ⟨S1x16x64x128, .f32⟩
  | 20 => ⟨S16384, .i32⟩
  | 21 => ⟨S_, .i32⟩
  | 22 => ⟨S_, .i32⟩
  | 23 => ⟨S16384, .i32⟩
  | 24 => ⟨S16384, .i32⟩
  | 25 => ⟨S16384, .i32⟩
  | 26 => ⟨S_, .i32⟩
  | 27 => ⟨S16384, .i32⟩
  | 28 => ⟨S16384, .i1⟩
  | 29 => ⟨S16384, .i32⟩
  | 30 => ⟨S16384, .i32⟩
  | 31 => ⟨S_, .i32⟩
  | 32 => ⟨S16384, .i32⟩
  | 33 => ⟨S16384, .i1⟩
  | 34 => ⟨S16384, .i1⟩
  | 35 => ⟨S_, .i32⟩
  | 36 => ⟨S16384, .i32⟩
  | 37 => ⟨S16384, .i32⟩
  | 38 => ⟨S16384, .i32⟩
  | 39 => ⟨S1x16x16384x64, .f32⟩
  | 40 => ⟨S64, .i32⟩
  | 41 => ⟨S1x64, .i32⟩
  | 42 => ⟨S16384x1, .i32⟩
  | 43 => ⟨S16384x64, .i32⟩
  | 44 => ⟨S16384x64, .i32⟩
  | 45 => ⟨S16384x64, .i1⟩
  | 46 => ⟨S_, .f32⟩
  | 47 => ⟨S_, .f32⟩
  | 48 => ⟨S1x16x16384x64, .i1⟩
  | 49 => ⟨S1x16x16384x64, .f32⟩
  | 50 => ⟨S1x16x16384x64, .f32⟩
  | 51 => ⟨S1x16x16384x3, .f32⟩
  | 52 => ⟨S1x16x16384x3, .i32⟩
  | 53 => ⟨S3, .i32⟩
  | 54 => ⟨S1x3, .i32⟩
  | 55 => ⟨S16384x1, .i32⟩
  | 56 => ⟨S16384x3, .i32⟩
  | 57 => ⟨S16384x3, .i32⟩
  | 58 => ⟨S16384x3, .i1⟩
  | 59 => ⟨S1x16x1x1, .f32⟩
  | 60 => ⟨S1x16x1x1x1, .f32⟩
  | 61 => ⟨S1, .i32⟩
  | 62 => ⟨S1x1x1x1, .i32⟩
  | 63 => ⟨S16, .i32⟩
  | 64 => ⟨S1x16x1x1, .i32⟩
  | 65 => ⟨S16384, .i32⟩
  | 66 => ⟨S_, .i32⟩
  | 67 => ⟨S1x1x1x1, .i32⟩
  | 68 => ⟨S1x1x1x1, .i1⟩
  | 69 => ⟨S_, .i32⟩
  | 70 => ⟨S1x1x1x1, .i32⟩
  | 71 => ⟨S1x1x1x1, .i32⟩
  | 72 => ⟨S1x1x1x1, .i32⟩
  | 73 => ⟨S_, .i32⟩
  | 74 => ⟨S1x16x1x1, .i32⟩
  | 75 => ⟨S1x16x1x1, .i1⟩
  | 76 => ⟨S_, .i32⟩
  | 77 => ⟨S1x16x1x1, .i32⟩
  | 78 => ⟨S1x16x1x1, .i32⟩
  | 79 => ⟨S1x16x1x1, .i32⟩
  | 80 => ⟨S_, .i32⟩
  | 81 => ⟨S1x16x16384x3, .i32⟩
  | 82 => ⟨S1x16x16384x3, .i1⟩
  | 83 => ⟨S_, .i32⟩
  | 84 => ⟨S1x16x16384x3, .i32⟩
  | 85 => ⟨S1x16x16384x3, .i32⟩
  | 86 => ⟨S1x16x16384x3, .i32⟩
  | 87 => ⟨S1x16x16384x3, .i32⟩
  | 88 => ⟨S1x16x16384x3, .i32⟩
  | 89 => ⟨S1x16x16384x3x1, .i32⟩
  | 90 => ⟨S1x16x16384x3x1, .i32⟩
  | 91 => ⟨S1x16x16384x3x1, .i32⟩
  | 92 => ⟨S1x16x16384x3x3, .i32⟩
  | 93 => ⟨S1x16x16384x3x256x128, .f32⟩
  | 94 => ⟨S_, .i32⟩
  | 95 => ⟨S1x1x1x1, .i32⟩
  | 96 => ⟨S1x1x1x1, .i1⟩
  | 97 => ⟨S_, .i32⟩
  | 98 => ⟨S1x1x1x1, .i32⟩
  | 99 => ⟨S1x1x1x1, .i32⟩
  | 100 => ⟨S1x1x1x1, .i32⟩
  | 101 => ⟨S_, .i32⟩
  | 102 => ⟨S1x16x1x1, .i32⟩
  | 103 => ⟨S1x16x1x1, .i1⟩
  | 104 => ⟨S_, .i32⟩
  | 105 => ⟨S1x16x1x1, .i32⟩
  | 106 => ⟨S1x16x1x1, .i32⟩
  | 107 => ⟨S1x16x1x1, .i32⟩
  | 108 => ⟨S_, .i32⟩
  | 109 => ⟨S1x16x16384x3, .i32⟩
  | 110 => ⟨S1x16x16384x3, .i1⟩
  | 111 => ⟨S_, .i32⟩
  | 112 => ⟨S1x16x16384x3, .i32⟩
  | 113 => ⟨S1x16x16384x3, .i32⟩
  | 114 => ⟨S1x16x16384x3, .i32⟩
  | 115 => ⟨S1x16x16384x3, .i32⟩
  | 116 => ⟨S1x16x16384x3, .i32⟩
  | 117 => ⟨S1x16x16384x3x1, .i32⟩
  | 118 => ⟨S1x16x16384x3x1, .i32⟩
  | 119 => ⟨S1x16x16384x3x1, .i32⟩
  | 120 => ⟨S1x16x16384x3x3, .i32⟩
  | 121 => ⟨S1x16x16384x3x256x128, .f32⟩
  | 122 => ⟨S1x16x16384x3x1, .i32⟩
  | 123 => ⟨S_, .i32⟩
  | 124 => ⟨S1x16x16384x3x1, .i32⟩
  | 125 => ⟨S1x16x16384x3x1, .i32⟩
  | 126 => ⟨S256, .i32⟩
  | 127 => ⟨S1x1x1x1x256, .i32⟩
  | _ => ⟨S16384x6144, .bf16⟩

abbrev hbmTy0_1 (i : Nat) : BufTy := match i % 128 with
  | 0 => ⟨S1x16x16384x3x256, .i32⟩
  | 1 => ⟨S1x16x16384x3x256, .i32⟩
  | 2 => ⟨S1x16x16384x3x256, .i32⟩
  | 3 => ⟨S1x16x16384x3x256, .f32⟩
  | 4 => ⟨S_, .f32⟩
  | 5 => ⟨S1x16x16384x3x256, .f32⟩
  | 6 => ⟨S1x16x16384x3x256, .f32⟩
  | 7 => ⟨S16384x1x1, .i32⟩
  | 8 => ⟨S1x1x16384x1x1, .i32⟩
  | 9 => ⟨S1x16x16384x3x256, .i32⟩
  | 10 => ⟨S1x16x16384x3x256, .i32⟩
  | 11 => ⟨S1x16x16384x3x256, .f32⟩
  | 12 => ⟨S1x16x16384x3x256, .f32⟩
  | 13 => ⟨S1x16x16384x3x256, .f32⟩
  | 14 => ⟨S1x16x16384x3x256, .f32⟩
  | 15 => ⟨S16384x3x1, .i1⟩
  | 16 => ⟨S_, .f32⟩
  | 17 => ⟨S_, .f32⟩
  | 18 => ⟨S1x16x16384x3x256, .i1⟩
  | 19 => ⟨S1x16x16384x3x256, .f32⟩
  | 20 => ⟨S1x16x16384x3x256, .f32⟩
  | 21 => ⟨S1x1x16384x1, .i32⟩
  | 22 => ⟨S_, .i32⟩
  | 23 => ⟨S1x1x1x1, .i32⟩
  | 24 => ⟨S1x1x1x1, .i1⟩
  | 25 => ⟨S_, .i32⟩
  | 26 => ⟨S1x1x1x1, .i32⟩
  | 27 => ⟨S1x1x1x1, .i32⟩
  | 28 => ⟨S1x1x1x1, .i32⟩
  | 29 => ⟨S_, .i32⟩
  | 30 => ⟨S1x16x1x1, .i32⟩
  | 31 => ⟨S1x16x1x1, .i1⟩
  | 32 => ⟨S_, .i32⟩
  | 33 => ⟨S1x16x1x1, .i32⟩
  | 34 => ⟨S1x16x1x1, .i32⟩
  | 35 => ⟨S1x16x1x1, .i32⟩
  | 36 => ⟨S_, .i32⟩
  | 37 => ⟨S1x1x16384x1, .i32⟩
  | 38 => ⟨S1x1x16384x1, .i1⟩
  | 39 => ⟨S_, .i32⟩
  | 40 => ⟨S1x1x16384x1, .i32⟩
  | 41 => ⟨S1x1x16384x1, .i32⟩
  | 42 => ⟨S1x1x16384x1, .i32⟩
  | 43 => ⟨S1x16x16384x1, .i32⟩
  | 44 => ⟨S1x16x16384x1, .i32⟩
  | 45 => ⟨S1x16x16384x1, .i32⟩
  | 46 => ⟨S1x16x16384x1x1, .i32⟩
  | 47 => ⟨S1x16x16384x1x1, .i32⟩
  | 48 => ⟨S1x16x16384x1x1, .i32⟩
  | 49 => ⟨S1x16x16384x1x3, .i32⟩
  | 50 => ⟨S1x16x16384x1x256x128, .f32⟩
  | 51 => ⟨S1x1x16384x1, .i32⟩
  | 52 => ⟨S_, .i32⟩
  | 53 => ⟨S1x1x1x1, .i32⟩
  | 54 => ⟨S1x1x1x1, .i1⟩
  | 55 => ⟨S_, .i32⟩
  | 56 => ⟨S1x1x1x1, .i32⟩
  | 57 => ⟨S1x1x1x1, .i32⟩
  | 58 => ⟨S1x1x1x1, .i32⟩
  | 59 => ⟨S_, .i32⟩
  | 60 => ⟨S1x16x1x1, .i32⟩
  | 61 => ⟨S1x16x1x1, .i1⟩
  | 62 => ⟨S_, .i32⟩
  | 63 => ⟨S1x16x1x1, .i32⟩
  | 64 => ⟨S1x16x1x1, .i32⟩
  | 65 => ⟨S1x16x1x1, .i32⟩
  | 66 => ⟨S_, .i32⟩
  | 67 => ⟨S1x1x16384x1, .i32⟩
  | 68 => ⟨S1x1x16384x1, .i1⟩
  | 69 => ⟨S_, .i32⟩
  | 70 => ⟨S1x1x16384x1, .i32⟩
  | 71 => ⟨S1x1x16384x1, .i32⟩
  | 72 => ⟨S1x1x16384x1, .i32⟩
  | 73 => ⟨S1x16x16384x1, .i32⟩
  | 74 => ⟨S1x16x16384x1, .i32⟩
  | 75 => ⟨S1x16x16384x1, .i32⟩
  | 76 => ⟨S1x16x16384x1x1, .i32⟩
  | 77 => ⟨S1x16x16384x1x1, .i32⟩
  | 78 => ⟨S1x16x16384x1x1, .i32⟩
  | 79 => ⟨S1x16x16384x1x3, .i32⟩
  | 80 => ⟨S1x16x16384x1x256x128, .f32⟩
  | 81 => ⟨S16384x1, .i32⟩
  | 82 => ⟨S_, .i32⟩
  | 83 => ⟨S16384x1, .i32⟩
  | 84 => ⟨S16384x1, .i32⟩
  | 85 => ⟨S256, .i32⟩
  | 86 => ⟨S1x256, .i32⟩
  | 87 => ⟨S16384x256, .i32⟩
  | 88 => ⟨S16384x256, .i32⟩
  | 89 => ⟨S16384x256, .i32⟩
  | 90 => ⟨S1x16x16384x1x256, .f32⟩
  | 91 => ⟨S1x16x16384x256, .f32⟩
  | 92 => ⟨S_, .f32⟩
  | 93 => ⟨S1x16x16384x256, .f32⟩
  | 94 => ⟨S1x16x16384x256, .f32⟩
  | 95 => ⟨S16384x1, .i32⟩
  | 96 => ⟨S16384x256, .i32⟩
  | 97 => ⟨S16384x256, .i32⟩
  | 98 => ⟨S16384x256, .f32⟩
  | 99 => ⟨S1x1x16384x256, .f32⟩
  | 100 => ⟨S1x16x16384x256, .f32⟩
  | 101 => ⟨S1x16x16384x256, .f32⟩
  | 102 => ⟨S1x16x16384x256, .f32⟩
  | 103 => ⟨S1x16x16384x256, .f32⟩
  | 104 => ⟨S16384x1, .i32⟩
  | 105 => ⟨S16384x256, .i32⟩
  | 106 => ⟨S16384x256, .i1⟩
  | 107 => ⟨S_, .f32⟩
  | 108 => ⟨S_, .f32⟩
  | 109 => ⟨S1x16x16384x256, .i1⟩
  | 110 => ⟨S1x16x16384x256, .f32⟩
  | 111 => ⟨S1x16x16384x256, .f32⟩
  | 112 => ⟨S1x16x16384x768, .f32⟩
  | 113 => ⟨S1x16x16384x1024, .f32⟩
  | 114 => ⟨S_, .f32⟩
  | 115 => ⟨S1x16x16384, .f32⟩
  | 116 => ⟨S_, .f32⟩
  | 117 => ⟨S1x16x16384, .f32⟩
  | 118 => ⟨S1x16x16384, .f32⟩
  | 119 => ⟨S1x16x16384x1, .f32⟩
  | 120 => ⟨S1x16x16384x1024, .f32⟩
  | 121 => ⟨S1x16x16384x1024, .f32⟩
  | 122 => ⟨S1x16x16384x1024, .f32⟩
  | 123 => ⟨S_, .f32⟩
  | 124 => ⟨S1x16x16384, .f32⟩
  | 125 => ⟨S1x16x16384x1, .f32⟩
  | 126 => ⟨S1x16x16384x1024, .f32⟩
  | 127 => ⟨S1x16x16384x1024, .f32⟩
  | _ => ⟨S16384x6144, .bf16⟩

abbrev hbmTy0_2 (i : Nat) : BufTy := match i % 128 with
  | 0 => ⟨S1x16x16384x768, .f32⟩
  | 1 => ⟨S1x16x16384x3x256, .f32⟩
  | 2 => ⟨S1x16x16384x256, .f32⟩
  | 3 => ⟨S1x16x16384x128, .f32⟩
  | 4 => ⟨S1x16x16384x256x128, .f32⟩
  | 5 => ⟨S1x16x16384x128, .f32⟩
  | 6 => ⟨S1x16x16384x128, .f32⟩
  | 7 => ⟨S1x16384x16x128, .f32⟩
  | 8 => ⟨S4x4096x2048, .f32⟩
  | 9 => ⟨S4x4096x2048, .bf16⟩
  | _ => ⟨S16384x6144, .bf16⟩

abbrev hbmTy (i : Nat) : BufTy := match i / 128 with
  | 0 => hbmTy0_0 i
  | 1 => hbmTy0_1 i
  | 2 => hbmTy0_2 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_values : Ref sig .tc := ⟨.hbm, 51, rfl⟩
abbrev main_indices : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_c_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_c_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_7 : Ref sig .tc := ⟨.hbm, 80, rfl⟩
abbrev main_v49 : Ref sig .tc := ⟨.hbm, 81, rfl⟩
abbrev main_v50 : Ref sig .tc := ⟨.hbm, 82, rfl⟩
abbrev main_c_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_9 : Ref sig .tc := ⟨.hbm, 94, rfl⟩
abbrev main_v61 : Ref sig .tc := ⟨.hbm, 95, rfl⟩
abbrev main_v62 : Ref sig .tc := ⟨.hbm, 96, rfl⟩
abbrev main_c_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_11 : Ref sig .tc := ⟨.hbm, 101, rfl⟩
abbrev main_v66 : Ref sig .tc := ⟨.hbm, 102, rfl⟩
abbrev main_v67 : Ref sig .tc := ⟨.hbm, 103, rfl⟩
abbrev main_c_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_13 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_16 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_17 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_v103 : Ref sig .tc := ⟨.hbm, 148, rfl⟩
abbrev main_v104 : Ref sig .tc := ⟨.hbm, 149, rfl⟩
abbrev main_c_18 : Ref sig .tc := ⟨.hbm, 150, rfl⟩
abbrev main_v105 : Ref sig .tc := ⟨.hbm, 151, rfl⟩
abbrev main_v106 : Ref sig .tc := ⟨.hbm, 152, rfl⟩
abbrev main_c_19 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_c_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_22 : Ref sig .tc := ⟨.hbm, 164, rfl⟩
abbrev main_v115 : Ref sig .tc := ⟨.hbm, 165, rfl⟩
abbrev main_v116 : Ref sig .tc := ⟨.hbm, 166, rfl⟩
abbrev main_c_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_24 : Ref sig .tc := ⟨.hbm, 180, rfl⟩
abbrev main_v129 : Ref sig .tc := ⟨.hbm, 181, rfl⟩
abbrev main_v130 : Ref sig .tc := ⟨.hbm, 182, rfl⟩
abbrev main_c_25 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_26 : Ref sig .tc := ⟨.hbm, 187, rfl⟩
abbrev main_v134 : Ref sig .tc := ⟨.hbm, 188, rfl⟩
abbrev main_v135 : Ref sig .tc := ⟨.hbm, 189, rfl⟩
abbrev main_c_27 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_28 : Ref sig .tc := ⟨.hbm, 194, rfl⟩
abbrev main_v139 : Ref sig .tc := ⟨.hbm, 195, rfl⟩
abbrev main_v140 : Ref sig .tc := ⟨.hbm, 196, rfl⟩
abbrev main_c_29 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_c_30 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_31 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_32 : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_cst_33 : Ref sig .tc := ⟨.hbm, 242, rfl⟩
abbrev main_v179 : Ref sig .tc := ⟨.hbm, 243, rfl⟩
abbrev main_cst_34 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_35 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S1x16384x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v24 : BitVec 1 := Scalar.cmpi .eq arg1 c21_i32
  let v25 : BitVec 32 := Scalar.extui v24
  let c0_i32_14 : BitVec 32 := 0#32
  let v26 : BitVec 1 := Scalar.cmpi .ne v25 c0_i32_14
  v26

@[reducible] def k0_t1_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c256_i32 : BitVec 32 := 256#32
  let v28 : BitVec 32 := Scalar.muli arg11 c256_i32
  v28
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c256_i32 : BitVec 32 := 256#32
  let v28 : BitVec 32 := Scalar.muli arg11 c256_i32
  let v29 : BitVec 32 := v28
  let v30 : Index := Scalar.indexCast v29
  let c0_17 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S1x16384x2048 : Shape := ⟨3, ![1, 16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S_ : Shape := ⟨0, ![]⟩
abbrev S2048x5632 : Shape := ⟨2, ![2048, 5632]⟩
abbrev S5632x2048 : Shape := ⟨2, ![5632, 2048]⟩
abbrev S1x16384x5632 : Shape := ⟨3, ![1, 16384, 5632]⟩
abbrev S2048 : Shape := ⟨1, ![2048]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x16384x2048, .f32⟩
  | .hbm, ⟨8, _⟩ => ⟨S1x16384x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S1x16384x5632, .f32⟩
  | .hbm, ⟨13, _⟩ => ⟨S1x16384x5632, .f32⟩
  | .hbm, ⟨14, _⟩ => ⟨S1x16384x5632, .f32⟩
  | .hbm, ⟨15, _⟩ => ⟨S_, .f32⟩
  | .hbm, ⟨16, _⟩ => ⟨S1x16384x5632, .f32⟩
  | .hbm, ⟨17, _⟩ => ⟨S1x16384x5632, .f32⟩
  | .hbm, ⟨18, _⟩ => ⟨S_, .f32⟩
  | .hbm, ⟨19, _⟩ => ⟨S1x16384x5632, .f32⟩
  | .hbm, ⟨20, _⟩ => ⟨S1x16384x5632, .f32⟩
  | .hbm, ⟨21, _⟩ => ⟨S1x16384x5632, .f32⟩
  | .hbm, ⟨22, _⟩ => ⟨S1x16384x5632, .f32⟩
  | .hbm, ⟨23, _⟩ => ⟨S1x16384x5632, .f32⟩
  | .hbm, ⟨24, _⟩ => ⟨S1x16384x2048, .f32⟩
  | .hbm, ⟨25, _⟩ => ⟨S_, .f32⟩
  | .hbm, ⟨26, _⟩ => ⟨S1x16384x2048, .f32⟩
  | .hbm, ⟨27, _⟩ => ⟨S1x16384x2048, .f32⟩
  | .hbm, ⟨28, _⟩ => ⟨S1x16384x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S1x16384, .f32⟩
  | .hbm, ⟨33, _⟩ => ⟨S1x16384x1, .f32⟩
  | .hbm, ⟨34, _⟩ => ⟨S_, .f32⟩
  | .hbm, ⟨35, _⟩ => ⟨S1x16384x1, .f32⟩
  | .hbm, ⟨36, _⟩ => ⟨S1x16384x1, .f32⟩
  | .hbm, ⟨37, _⟩ => ⟨S1x16384x2048, .f32⟩
  | .hbm, ⟨38, _⟩ => ⟨S1x16384x2048, .f32⟩
  | .hbm, ⟨39, _⟩ => ⟨S1x16384x2048, .f32⟩
  | .hbm, ⟨40, _⟩ => ⟨S_, .f32⟩
  | .hbm, ⟨41, _⟩ => ⟨S1x16384, .f32⟩
  | .hbm, ⟨42, _⟩ => ⟨S1x16384x1, .f32⟩
  | .hbm, ⟨43, _⟩ => ⟨S_, .f32⟩
  | .hbm, ⟨44, _⟩ => ⟨S1x16384x1, .f32⟩
  | .hbm, ⟨45, _⟩ => ⟨S1x16384x1, .f32⟩
  | .hbm, ⟨46, _⟩ => ⟨S1x16384x2048, .f32⟩
  | .hbm, ⟨47, _⟩ => ⟨S1x16384x2048, .f32⟩
  | .hbm, ⟨48, _⟩ => ⟨S_, .f32⟩
  | .hbm, ⟨49, _⟩ => ⟨S1x16384x1, .f32⟩
  | .hbm, ⟨50, _⟩ => ⟨S1x16384x1, .f32⟩
  | .hbm, ⟨51, _⟩ => ⟨S1x16384x1, .f32⟩
  | .hbm, ⟨52, _⟩ => ⟨S1x16384x2048, .f32⟩
  | .hbm, ⟨53, _⟩ => ⟨S1x16384x2048, .f32⟩
  | .hbm, ⟨54, _⟩ => ⟨S1x1x2048, .f32⟩
  | .hbm, ⟨55, _⟩ => ⟨S1x16384x2048, .f32⟩
  | .hbm, ⟨56, _⟩ => ⟨S1x16384x2048, .f32⟩
  | .hbm, ⟨57, _⟩ => ⟨S1x1x2048, .f32⟩
  | .hbm, ⟨58, _⟩ => ⟨S1x16384x2048, .f32⟩
  | .hbm, ⟨59, _⟩ => ⟨S1x16384x2048, .f32⟩
  | .hbm, ⟨60, _⟩ => ⟨S16384x2048, .f32⟩
  | .hbm, ⟨61, _⟩ => ⟨S16384x2048, .f32⟩
  | .hbm, ⟨62, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel3.lean ====
abbrev S16384x2048 : Shape := ⟨2, ![16384, 2048]⟩
abbrev S1x2048x12288 : Shape := ⟨3, ![1, 2048, 12288]⟩
abbrev S2048x12288 : Shape := ⟨2, ![2048, 12288]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S2048x12288, .f32⟩
  | .hbm, ⟨3, _⟩ => ⟨S2048x6144, .f32⟩
  | .hbm, ⟨4, _⟩ => ⟨S2048x6144, .bf16⟩
  | .hbm, ⟨5, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S1x2048x12288 : Shape := ⟨3, ![1, 2048, 12288]⟩
abbrev S2048x12288 : Shape := ⟨2, ![2048, 12288]⟩
abbrev S2048x6144 : Shape := ⟨2, ![2048, 6144]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S16384x2048, .f32⟩
  | .hbm, ⟨3, _⟩ => ⟨S2048x12288, .f32⟩
  | .hbm, ⟨4, _⟩ => ⟨S2048x6144, .f32⟩
  | .hbm, ⟨5, _⟩ => ⟨S16384x6144, .f32⟩
  | .hbm, ⟨6, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x2048 : Shape := ⟨2, ![16384, 2048]⟩
abbrev S1x2048x12288 : Shape := ⟨3, ![1, 2048, 12288]⟩
abbrev S2048x12288 : Shape := ⟨2, ![2048, 12288]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S2048x12288, .f32⟩
  | .hbm, ⟨3, _⟩ => ⟨S2048x4096, .f32⟩
  | .hbm, ⟨4, _⟩ => ⟨S2048x4096, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S1x2048x12288 : Shape := ⟨3, ![1, 2048, 12288]⟩
abbrev S2048x12288 : Shape := ⟨2, ![2048, 12288]⟩
abbrev S2048x4096 : Shape := ⟨2, ![2048, 4096]⟩
abbrev S16384x4096 : Shape := ⟨2, ![16384, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S16384x2048, .f32⟩
  | .hbm, ⟨3, _⟩ => ⟨S2048x12288, .f32⟩
  | .hbm, ⟨4, _⟩ => ⟨S2048x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S16384x2048 : Shape := ⟨2, ![16384, 2048]⟩
abbrev S1x2048x12288 : Shape := ⟨3, ![1, 2048, 12288]⟩
abbrev S2048x12288 : Shape := ⟨2, ![2048, 12288]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S2048x12288, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S1x2048x12288 : Shape := ⟨3, ![1, 2048, 12288]⟩
abbrev S2048x12288 : Shape := ⟨2, ![2048, 12288]⟩
abbrev S2048x2048 : Shape := ⟨2, ![2048, 2048]⟩
abbrev S16384x1024 : Shape := ⟨2, ![16384, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S16384x2048, .f32⟩
  | .hbm, ⟨3, _⟩ => ⟨S2048x12288, .f32⟩
  | .hbm, ⟨4, _⟩ => ⟨S2048x2048, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S16384x2048 : Shape := ⟨2, ![16384, 2048]⟩
abbrev S16384x1024 : Shape := ⟨2, ![16384, 1024]⟩
abbrev S16384x4096 : Shape := ⟨2, ![16384, 4096]⟩
abbrev S1x2048x2048 : Shape := ⟨3, ![1, 2048, 2048]⟩
abbrev S1x1024x2048 : Shape := ⟨3, ![1, 1024, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x4096, .bf16⟩
  | .hbm, ⟨3, _⟩ => ⟨S1x2048x2048, .f32⟩
  | .hbm, ⟨4, _⟩ => ⟨S1x1024x2048, .f32⟩
  | .hbm, ⟨5, _⟩ => ⟨S2048x2048, .f32⟩
  | .hbm, ⟨6, _⟩ => ⟨S2048x2048, .bf16⟩
  | .hbm, ⟨7, _⟩ => ⟨S1024x2048, .f32⟩
  | .hbm, ⟨8, _⟩ => ⟨S1024x2048, .bf16⟩
  | .hbm, ⟨9, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16384x2048 : Shape := ⟨2, ![16384, 2048]⟩
abbrev S16384x1024 : Shape := ⟨2, ![16384, 1024]⟩
abbrev S16384x4096 : Shape := ⟨2, ![16384, 4096]⟩
abbrev S1x2048x2048 : Shape := ⟨3, ![1, 2048, 2048]⟩
abbrev S1x1024x2048 : Shape := ⟨3, ![1, 1024, 2048]⟩
abbrev S2048x2048 : Shape := ⟨2, ![2048, 2048]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x4096, .bf16⟩
  | .hbm, ⟨3, _⟩ => ⟨S1x2048x2048, .f32⟩
  | .hbm, ⟨4, _⟩ => ⟨S1x1024x2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S16384x4096, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S16384x2048 : Shape := ⟨2, ![16384, 2048]⟩
abbrev S1x16384x2048 : Shape := ⟨3, ![1, 16384, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x16384x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x2048 : Shape := ⟨2, ![16384, 2048]⟩
abbrev S1x16384x2048 : Shape := ⟨3, ![1, 16384, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x16384x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S16384x1024 : Shape := ⟨2, ![16384, 1024]⟩
abbrev S1x31x1x1024 : Shape := ⟨4, ![1, 31, 1, 1024]⟩
abbrev S1x1024 : Shape := ⟨2, ![1, 1024]⟩
abbrev S31x1x1024 : Shape := ⟨3, ![31, 1, 1024]⟩
abbrev S31x1024 : Shape := ⟨2, ![31, 1024]⟩
abbrev S1024 : Shape := ⟨1, ![1024]⟩
abbrev S31x8x1024 : Shape := ⟨3, ![31, 8, 1024]⟩
abbrev S32x1024 : Shape := ⟨2, ![32, 1024]⟩
abbrev S256x1024 : Shape := ⟨2, ![256, 1024]⟩
abbrev S288x1024 : Shape := ⟨2, ![288, 1024]⟩
abbrev S64x256 : Shape := ⟨2, ![64, 256]⟩
abbrev S88x256 : Shape := ⟨2, ![88, 256]⟩
abbrev S1x8x256 : Shape := ⟨3, ![1, 8, 256]⟩
abbrev S8x256 : Shape := ⟨2, ![8, 256]⟩
abbrev S80x256 : Shape := ⟨2, ![80, 256]⟩
abbrev S1x256 : Shape := ⟨2, ![1, 256]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x31x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1x1024, .f32⟩
  | .hbm, ⟨6, _⟩ => ⟨S31x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S31x1x1024, .f32⟩
  | .hbm, ⟨14, _⟩ => ⟨S31x8x1024, .f32⟩
  | .hbm, ⟨15, _⟩ => ⟨S16384x1024, .bf16⟩
  | .local _ .vmem, ⟨0, _⟩ => ⟨S32x1024, .f32⟩
  | .local _ .vmem, ⟨1, _⟩ => ⟨S32x1024, .f32⟩
  | .local _ .vmem, ⟨2, _⟩ => ⟨S256x1024, .f32⟩
  | .local _ .vmem, ⟨3, _⟩ => ⟨S256x1024, .f32⟩
  | .local _ .vmem, ⟨4, _⟩ => ⟨S31x8x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S288x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x1024 : Shape := ⟨2, ![16384, 1024]⟩
abbrev S1x31x1x1024 : Shape := ⟨4, ![1, 31, 1, 1024]⟩
abbrev S1x1024 : Shape := ⟨2, ![1, 1024]⟩
abbrev S_ : Shape := ⟨0, ![]⟩
abbrev S16414x1024 : Shape := ⟨2, ![16414, 1024]⟩
abbrev S1x1x1x1024 : Shape := ⟨4, ![1, 1, 1, 1024]⟩
abbrev S1024 : Shape := ⟨1, ![1024]⟩
abbrev S16384 : Shape := ⟨1, ![16384]⟩
abbrev S16384x1 : Shape := ⟨2, ![16384, 1]⟩

abbrev nBuf : Space → Nat
  | .hbm => 241
  | .vmem => 0
  | .smem => 0
  | _ => 0

abbrev hbmTy0_0 (i : Nat) : BufTy := match i % 128 with
  | 0 => ⟨S16384x1024, .f32⟩
  | 1 => ⟨S1x31x1x1024, .f32⟩
  | 2 => ⟨S1x1024, .f32⟩
  | 3 => ⟨S1x1024, .f32⟩
  | 4 => ⟨S1x1024, .f32⟩
  | 5 => ⟨S_, .i32⟩
  | 6 => ⟨S_, .f32⟩
  | 7 => ⟨S16414x1024, .f32⟩
  | 8 => ⟨S16384x1024, .f32⟩
  | 9 => ⟨S1x1x1x1024, .f32⟩
  | 10 => ⟨S1x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S1x1x1x1024, .f32⟩
  | 18 => ⟨S1x1024, .f32⟩
  | 19 => ⟨S16384x1024, .f32⟩
  | 20 => ⟨S16384x1024, .f32⟩
  | 21 => ⟨S16384x1024, .f32⟩
  | 22 => ⟨S16384x1024, .f32⟩
  | 23 => ⟨S1x1x1x1024, .f32⟩
  | 24 => ⟨S1x1024, .f32⟩
  | 25 => ⟨S16384x1024, .f32⟩
  | 26 => ⟨S16384x1024, .f32⟩
  | 27 => ⟨S16384x1024, .f32⟩
  | 28 => ⟨S16384x1024, .f32⟩
  | 29 => ⟨S1x1x1x1024, .f32⟩
  | 30 => ⟨S1x1024, .f32⟩
  | 31 => ⟨S16384x1024, .f32⟩
  | 32 => ⟨S16384x1024, .f32⟩
  | 33 => ⟨S16384x1024, .f32⟩
  | 34 => ⟨S16384x1024, .f32⟩
  | 35 => ⟨S1x1x1x1024, .f32⟩
  | 36 => ⟨S1x1024, .f32⟩
  | 37 => ⟨S16384x1024, .f32⟩
  | 38 => ⟨S16384x1024, .f32⟩
  | 39 => ⟨S16384x1024, .f32⟩
  | 40 => ⟨S16384x1024, .f32⟩
  | 41 => ⟨S1x1x1x1024, .f32⟩
  | 42 => ⟨S1x1024, .f32⟩
  | 43 => ⟨S16384x1024, .f32⟩
  | 44 => ⟨S16384x1024, .f32⟩
  | 45 => ⟨S16384x1024, .f32⟩
  | 46 => ⟨S16384x1024, .f32⟩
  | 47 => ⟨S1x1x1x1024, .f32⟩
  | 48 => ⟨S1x1024, .f32⟩
  | 49 => ⟨S16384x1024, .f32⟩
  | 50 => ⟨S16384x1024, .f32⟩
  | 51 => ⟨S16384x1024, .f32⟩
  | 52 => ⟨S16384x1024, .f32⟩
  | 53 => ⟨S1x1x1x1024, .f32⟩
  | 54 => ⟨S1x1024, .f32⟩
  | 55 => ⟨S16384x1024, .f32⟩
  | 56 => ⟨S16384x1024, .f32⟩
  | 57 => ⟨S16384x1024, .f32⟩
  | 58 => ⟨S16384x1024, .f32⟩
  | 59 => ⟨S1x1x1x1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S1x1x1x1024, .f32⟩
  | 66 => ⟨S1x1024, .f32⟩
  | 67 => ⟨S16384x1024, .f32⟩
  | 68 => ⟨S16384x1024, .f32⟩
  | 69 => ⟨S16384x1024, .f32⟩
  | 70 => ⟨S16384x1024, .f32⟩
  | 71 => ⟨S1x1x1x1024, .f32⟩
  | 72 => ⟨S1x1024, .f32⟩
  | 73 => ⟨S16384x1024, .f32⟩
  | 74 => ⟨S16384x1024, .f32⟩
  | 75 => ⟨S16384x1024, .f32⟩
  | 76 => ⟨S16384x1024, .f32⟩
  | 77 => ⟨S1x1x1x1024, .f32⟩
  | 78 => ⟨S1x1024, .f32⟩
  | 79 => ⟨S16384x1024, .f32⟩
  | 80 => ⟨S16384x1024, .f32⟩
  | 81 => ⟨S16384x1024, .f32⟩
  | 82 => ⟨S16384x1024, .f32⟩
  | 83 => ⟨S1x1x1x1024, .f32⟩
  | 84 => ⟨S1x1024, .f32⟩
  | 85 => ⟨S16384x1024, .f32⟩
  | 86 => ⟨S16384x1024, .f32⟩
  | 87 => ⟨S16384x1024, .f32⟩
  | 88 => ⟨S16384x1024, .f32⟩
  | 89 => ⟨S1x1x1x1024, .f32⟩
  | 90 => ⟨S1x1024, .f32⟩
  | 91 => ⟨S16384x1024, .f32⟩
  | 92 => ⟨S16384x1024, .f32⟩
  | 93 => ⟨S16384x1024, .f32⟩
  | 94 => ⟨S16384x1024, .f32⟩
  | 95 => ⟨S1x1x1x1024, .f32⟩
  | 96 => ⟨S1x1024, .f32⟩
  | 97 => ⟨S16384x1024, .f32⟩
  | 98 => ⟨S16384x1024, .f32⟩
  | 99 => ⟨S16384x1024, .f32⟩
  | 100 => ⟨S16384x1024, .f32⟩
  | 101 => ⟨S1x1x1x1024, .f32⟩
  | 102 => ⟨S1x1024, .f32⟩
  | 103 => ⟨S16384x1024, .f32⟩
  | 104 => ⟨S16384x1024, .f32⟩
  | 105 => ⟨S16384x1024, .f32⟩
  | 106 => ⟨S16384x1024, .f32⟩
  | 107 => ⟨S1x1x1x1024, .f32⟩
  | 108 => ⟨S1x1024, .f32⟩
  | 109 => ⟨S16384x1024, .f32⟩
  | 110 => ⟨S16384x1024, .f32⟩
  | 111 => ⟨S16384x1024, .f32⟩
  | 112 => ⟨S16384x1024, .f32⟩
  | 113 => ⟨S1x1x1x1024, .f32⟩
  | 114 => ⟨S1x1024, .f32⟩
  | 115 => ⟨S16384x1024, .f32⟩
  | 116 => ⟨S16384x1024, .f32⟩
  | 117 => ⟨S16384x1024, .f32⟩
  | 118 => ⟨S16384x1024, .f32⟩
  | 119 => ⟨S1x1x1x1024, .f32⟩
  | 120 => ⟨S1x1024, .f32⟩
  | 121 => ⟨S16384x1024, .f32⟩
  | 122 => ⟨S16384x1024, .f32⟩
  | 123 => ⟨S16384x1024, .f32⟩
  | 124 => ⟨S16384x1024, .f32⟩
  | 125 => ⟨S1x1x1x1024, .f32⟩
  | 126 => ⟨S1x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S1x1x1x1024, .f32⟩
  | 4 => ⟨S1x1024, .f32⟩
  | 5 => ⟨S16384x1024, .f32⟩
  | 6 => ⟨S16384x1024, .f32⟩
  | 7 => ⟨S16384x1024, .f32⟩
  | 8 => ⟨S16384x1024, .f32⟩
  | 9 => ⟨S1x1x1x1024, .f32⟩
  | 10 => ⟨S1x1024, .f32⟩
  | 11 => ⟨S16384x1024, .f32⟩
  | 12 => ⟨S16384x1024, .f32⟩
  | 13 => ⟨S16384x1024, .f32⟩
  | 14 => ⟨S16384x1024, .f32⟩
  | 15 => ⟨S1x1x1x1024, .f32⟩
  | 16 => ⟨S1x1024, .f32⟩
  | 17 => ⟨S16384x1024, .f32⟩
  | 18 => ⟨S16384x1024, .f32⟩
  | 19 => ⟨S16384x1024, .f32⟩
  | 20 => ⟨S16384x1024, .f32⟩
  | 21 => ⟨S1x1x1x1024, .f32⟩
  | 22 => ⟨S1x1024, .f32⟩
  | 23 => ⟨S16384x1024, .f32⟩
  | 24 => ⟨S16384x1024, .f32⟩
  | 25 => ⟨S16384x1024, .f32⟩
  | 26 => ⟨S16384x1024, .f32⟩
  | 27 => ⟨S1x1x1x1024, .f32⟩
  | 28 => ⟨S1x1024, .f32⟩
  | 29 => ⟨S16384x1024, .f32⟩
  | 30 => ⟨S16384x1024, .f32⟩
  | 31 => ⟨S16384x1024, .f32⟩
  | 32 => ⟨S16384x1024, .f32⟩
  | 33 => ⟨S1x1x1x1024, .f32⟩
  | 34 => ⟨S1x1024, .f32⟩
  | 35 => ⟨S16384x1024, .f32⟩
  | 36 => ⟨S16384x1024, .f32⟩
  | 37 => ⟨S16384x1024, .f32⟩
  | 38 => ⟨S16384x1024, .f32⟩
  | 39 => ⟨S1x1x1x1024, .f32⟩
  | 40 => ⟨S1x1024, .f32⟩
  | 41 => ⟨S16384x1024, .f32⟩
  | 42 => ⟨S16384x1024, .f32⟩
  | 43 => ⟨S16384x1024, .f32⟩
  | 44 => ⟨S16384x1024, .f32⟩
  | 45 => ⟨S1x1x1x1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S1x1x1x1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S1x1x1x1024, .f32⟩
  | 58 => ⟨S1x1024, .f32⟩
  | 59 => ⟨S16384x1024, .f32⟩
  | 60 => ⟨S16384x1024, .f32⟩
  | 61 => ⟨S16384x1024, .f32⟩
  | 62 => ⟨S16384x1024, .f32⟩
  | 63 => ⟨S1x1x1x1024, .f32⟩
  | 64 => ⟨S1x1024, .f32⟩
  | 65 => ⟨S16384x1024, .f32⟩
  | 66 => ⟨S16384x1024, .f32⟩
  | 67 => ⟨S16384x1024, .f32⟩
  | 68 => ⟨S1024, .f32⟩
  | 69 => ⟨S1x1024, .f32⟩
  | 70 => ⟨S16384x1024, .f32⟩
  | 71 => ⟨S16384x1024, .f32⟩
  | 72 => ⟨S1024, .f32⟩
  | 73 => ⟨S1024, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S16384x1024, .f32⟩
  | 81 => ⟨S16384x1024, .f32⟩
  | 82 => ⟨S16384x1024, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S16384x1024, .f32⟩
  | 90 => ⟨S16384x1024, .f32⟩
  | 91 => ⟨S_, .f32⟩
  | 92 => ⟨S16384x1, .f32⟩
  | 93 => ⟨S16384x1, .f32⟩
  | 94 => ⟨S16384x1, .f32⟩
  | 95 => ⟨S16384x1024, .f32⟩
  | 96 => ⟨S16384x1024, .f32⟩
  | 97 => ⟨S1x1024, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_cst_0 : Ref sig .tc := ⟨.hbm, 202, rfl⟩
abbrev main_v194 : Ref sig .tc := ⟨.hbm, 203, rfl⟩
abbrev main_v195 : Ref sig .tc := ⟨.hbm, 204, rfl⟩
abbrev main_cst_1 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_cst_2 : Ref sig .tc := ⟨.hbm, 211, rfl⟩
abbrev main_v201 : Ref sig .tc := ⟨.hbm, 212, rfl⟩
abbrev main_v202 : Ref sig .tc := ⟨.hbm, 213, rfl⟩
abbrev main_cst_3 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_cst_4 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_call1_v0 : Ref sig .tc := ⟨.hbm, 231, rfl⟩
abbrev main_call1_v1 : Ref sig .tc := ⟨.hbm, 232, rfl⟩
abbrev main_call1_cst : Ref sig .tc := ⟨.hbm, 233, rfl⟩
abbrev main_call1_v2 : Ref sig .tc := ⟨.hbm, 234, rfl⟩
abbrev main_call1_v3 : Ref sig .tc := ⟨.hbm, 235, rfl⟩
abbrev main_call1_cst_0 : Ref sig .tc := ⟨.hbm, 236, rfl⟩
abbrev main_call1_v4 : Ref sig .tc := ⟨.hbm, 237, rfl⟩
abbrev main_call1_v5 : Ref sig .tc := ⟨.hbm, 238, rfl⟩
abbrev main_v218 : Ref sig .tc := ⟨.hbm, 239, rfl⟩
abbrev main_v219 : Ref sig .tc := ⟨.hbm, 240, rfl⟩

abbrev nD : Nat := 1
abbrev τ : Topo := Topo.v7x

variable {F : FTy → Type} [FloatOps F]
-- ==== Proof.Att.Word.lean ====
/- The integer words of the attention kernel: how many chunks of past blocks a query block visits, how often its loop
   over them runs, and at which rows its loads start, each as a natural number. -/
module

public import Idealize.ShloMosaic.Lib.Scf
public import Idealize.ShloMosaic.Lib.WordArith
public import Idealize.ShloMosaic.Lib.LoopRemainder

@[expose] public section

namespace Att

open Idealize.ShloMosaic

/-- Every multiple of the block length, wrapped to 32 bits, is still divisible by the block length. -/
theorem dvd256 (x : BitVec 32) : 256 ∣ (Scalar.muli x 256#32).toNat := by
  show 256 ∣ (x * 256#32).toNat
  rw [BitVec.toNat_mul]
  exact (Nat.dvd_mod_iff (by decide)).2 (Dvd.intro_left _ rfl)

/-- The word `q + 16 u` of a query block, from the grid's second coordinate. -/
abbrev qW (p : ℕ) (U : BitVec 32) : BitVec 32 := Scalar.addi (BitVec.ofNat 32 p) U

/-- The number of chunks visited: the number that hold past blocks, capped by the number found live, at least zero. -/
abbrev cntW (w v : BitVec 32) : BitVec 32 := Scalar.maxsi (Scalar.minsi (Scalar.divsi (Scalar.addi w 7#32) 8#32) v) 0#32

theorem div8 : ∀ q : Fin 64, Scalar.divsi (Scalar.addi (BitVec.ofNat 32 q.val) 7#32) 8#32 = BitVec.ofNat 32 ((q.val + 7) / 8) := by
  decide +kernel

theorem clamp_le (a v : BitVec 32) (ha : a.toNat ≤ 8) : (Scalar.maxsi (Scalar.minsi a v) 0#32).toNat ≤ a.toNat := by
  have h0 : (0#32 : BitVec 32).toInt = 0 := by decide
  show (if (0#32 : BitVec 32).slt (if a.slt v then a else v) then (if a.slt v then a else v) else 0#32).toNat ≤ _
  have ea : a.toInt = a.toNat := BitVec.toInt_eq_toNat_of_lt (by omega)
  by_cases h1 : a.slt v = true
  · simp only [h1, if_true]
    split <;> simp
  · simp only [h1]
    by_cases h2 : (0#32 : BitVec 32).slt v = true
    · have hp := BitVec.slt_iff_toInt_lt.1 h2
      rw [h0] at hp
      have hn : ¬ a.toInt < v.toInt := fun h => h1 (BitVec.slt_iff_toInt_lt.2 h)
      have hv : v.toInt = v.toNat := by
        rw [BitVec.toInt_eq_toNat_cond] at hp ⊢
        split_ifs at hp ⊢ with hc
        · rfl
        · have := v.isLt; omega
      simp [h2]
      omega
    · simp [h2]

/-- The chunk count as a natural number. -/
abbrev cntN (w v : BitVec 32) : ℕ := (cntW w v).toNat

theorem cnt_le (q : ℕ) (hq : q < 64) (w v : BitVec 32) (hw : w = BitVec.ofNat 32 q) : cntN w v ≤ (q + 7) / 8 := by
  subst hw
  have h := div8 ⟨q, hq⟩
  dsimp only at h
  unfold cntN cntW
  rw [h]
  have e : (BitVec.ofNat 32 ((q + 7) / 8)).toNat = (q + 7) / 8 := by
    rw [BitVec.toNat_ofNat]; exact Nat.mod_eq_of_lt (by omega)
  have := clamp_le (BitVec.ofNat 32 ((q + 7) / 8)) v (by rw [e]; omega)
  rw [e] at this
  exact this

theorem cntW_eq (w v : BitVec 32) : cntW w v = BitVec.ofNat 32 (cntN w v) := by simp [cntN]

/-- The last word of the main loop's range, from the number of chunks. -/
abbrev ubW (n : BitVec 32) : BitVec 32 :=
  Scalar.addi 0#32 (Scalar.muli (Scalar.divsi (Scalar.subi (Scalar.subi n 1#32) 0#32) 1#32) 1#32)

theorem main_trips : ∀ n : Fin 9, Scf.trips 0#32 (ubW (BitVec.ofNat 32 n.val)) 1#32 = n.val - 1 := by decide +kernel
theorem main_ok : ∀ n : Fin 9, Scf.OK 0#32 (ubW (BitVec.ofNat 32 n.val)) 1#32 := by decide +kernel
theorem rem_ok : ∀ n : Fin 9, Scf.OK (ubW (BitVec.ofNat 32 n.val))
    (Scalar.addi 0#32 (Scalar.subi (Scalar.subi (BitVec.ofNat 32 n.val) 1#32) 0#32)) 1#32 := by decide +kernel

theorem iv_eq (k : ℕ) : Scf.iv 0#32 1#32 k = BitVec.ofNat 32 k := by
  unfold Scf.iv; simp

/-- The row at which tile `r` of chunk `c`'s values starts. -/
abbrev vW (w c r : BitVec 32) : BitVec 32 :=
  Scalar.muli (Scalar.maxsi (Scalar.addi (Scalar.subi w (Scalar.muli 8#32 (Scalar.addi c 1#32))) r) 0#32) 256#32
/-- The row at which tile `r` of chunk `c`'s augmented keys starts. -/
abbrev kW (w c r : BitVec 32) : BitVec 32 :=
  Scalar.muli (Scalar.addi (Scalar.maxsi (Scalar.addi (Scalar.subi w (Scalar.muli 8#32 (Scalar.addi c 1#32))) 7#32) 0#32) r) 256#32
/-- The same for the first chunk, as the prologue computes it. -/
abbrev k0W (w r : BitVec 32) : BitVec 32 :=
  Scalar.muli (Scalar.addi (Scalar.maxsi (Scalar.addi (Scalar.subi w 8#32) 7#32) 0#32) r) 256#32

set_option maxRecDepth 100000 in
theorem vW_nat : ∀ (q : Fin 64) (c : Fin 9) (r : Fin 8),
    (vW (BitVec.ofNat 32 q.val) (BitVec.ofNat 32 c.val) (BitVec.ofNat 32 r.val)).toNat = (q.val + r.val - 8 * (c.val + 1)) * 256 := by
  decide +kernel
set_option maxRecDepth 100000 in
theorem kW_nat : ∀ (q : Fin 64) (c : Fin 9) (r : Fin 8),
    (kW (BitVec.ofNat 32 q.val) (BitVec.ofNat 32 c.val) (BitVec.ofNat 32 r.val)).toNat = (q.val + 7 - 8 * (c.val + 1) + r.val) * 256 := by
  decide +kernel
theorem k0W_nat : ∀ (q : Fin 64) (r : Fin 8),
    (k0W (BitVec.ofNat 32 q.val) (BitVec.ofNat 32 r.val)).toNat = (q.val + 7 - 8 + r.val) * 256 := by
  decide +kernel
theorem qW_eq : ∀ (p : Fin 16) (u : Fin 4), qW p.val (BitVec.ofNat 32 (16 * u.val)) = BitVec.ofNat 32 (p.val + 16 * u.val) := by
  decide +kernel
theorem succ_eq : ∀ c : Fin 9, Scalar.addi (BitVec.ofNat 32 c.val) 1#32 = BitVec.ofNat 32 (c.val + 1) := by decide +kernel
/-- The last chunk's index, at least zero. -/
theorem pred_eq : ∀ n : Fin 9, Scalar.maxsi (Scalar.subi (BitVec.ofNat 32 n.val) 1#32) 0#32 = BitVec.ofNat 32 (n.val - 1) := by decide +kernel

/-! ## The same, from the words the program forms -/

variable {q : ℕ} {w v : BitVec 32}

theorem loop_trips (hq : q < 64) (hw : w = BitVec.ofNat 32 q) : Scf.trips 0#32 (ubW (cntW w v)) 1#32 = cntN w v - 1 := by
  have h := cnt_le q hq w v hw
  rw [cntW_eq]; exact main_trips ⟨cntN w v, by omega⟩
theorem loop_ok (hq : q < 64) (hw : w = BitVec.ofNat 32 q) : Scf.OK 0#32 (ubW (cntW w v)) 1#32 := by
  have h := cnt_le q hq w v hw
  rw [cntW_eq]; exact main_ok ⟨cntN w v, by omega⟩
theorem loop_rem_ok (hq : q < 64) (hw : w = BitVec.ofNat 32 q) : Scf.OK (ubW (cntW w v))
    (Scalar.addi 0#32 (Scalar.subi (Scalar.subi (cntW w v) 1#32) 0#32)) 1#32 := by
  have h := cnt_le q hq w v hw
  rw [cntW_eq]; exact rem_ok ⟨cntN w v, by omega⟩

theorem vOff_loop (hq : q < 64) (hw : w = BitVec.ofNat 32 q) (k : ℕ) (hk : k < 8) (r : Fin 8) :
    (Scalar.indexCast (vW w (Scf.iv 0#32 1#32 k) (BitVec.ofNat 32 r.val))).toNat = (q + r.val - 8 * (k + 1)) * 256 := by
  subst hw; rw [iv_eq]; exact vW_nat ⟨q, hq⟩ ⟨k, by omega⟩ r
theorem kOff_loop (hq : q < 64) (hw : w = BitVec.ofNat 32 q) (k : ℕ) (hk : k < 8) (r : Fin 8) :
    (Scalar.indexCast (kW w (Scalar.addi (Scf.iv 0#32 1#32 k) 1#32) (BitVec.ofNat 32 r.val))).toNat
      = (q + 7 - 8 * (k + 2) + r.val) * 256 := by
  subst hw; rw [iv_eq, succ_eq ⟨k, by omega⟩]; exact kW_nat ⟨q, hq⟩ ⟨k + 1, by omega⟩ r
theorem kOff_first (hq : q < 64) (hw : w = BitVec.ofNat 32 q) (r : Fin 8) :
    (Scalar.indexCast (k0W w (BitVec.ofNat 32 r.val))).toNat = (q + 7 - 8 + r.val) * 256 := by
  subst hw; exact k0W_nat ⟨q, hq⟩ r
theorem vOff_last (hq : q < 64) (hw : w = BitVec.ofNat 32 q) (r : Fin 8) :
    (Scalar.indexCast (vW w (Scalar.maxsi (Scalar.subi (cntW w v) 1#32) 0#32) (BitVec.ofNat 32 r.val))).toNat
      = (q + r.val - 8 * (cntN w v - 1 + 1)) * 256 := by
  have h := cnt_le q hq w v hw
  rw [cntW_eq, pred_eq ⟨cntN w v, by omega⟩]
  subst hw
  exact vW_nat ⟨q, hq⟩ ⟨cntN (BitVec.ofNat 32 q) v - 1, by omega⟩ r

theorem trip_lt (hq : q < 64) (hw : w = BitVec.ofNat 32 q) (k : Fin (Scf.trips 0#32 (ubW (cntW w v)) 1#32)) : k.val < 8 := by
  have h := cnt_le q hq w v hw
  have := lt_of_lt_of_eq k.isLt (loop_trips hq hw)
  omega

/-- A block of 256 rows that starts at block `b` of an array of `256 N` rows, `b < N`, is inside it. -/
theorem inb2 {off : Fin 2 → ℕ} {x : ℕ} {N m : ℕ} {sz tot : Fin 2 → ℕ} (h : off = ![x, 0]) (hx : ∃ b, b < N ∧ x = b * 256)
    (hsz : sz = ![256, m]) (htot : tot = ![N * 256, m]) : ∀ a, off a + sz a ≤ tot a := by
  obtain ⟨b, hb, rfl⟩ := hx
  subst h hsz htot
  intro a
  match a with
  | ⟨0, _⟩ => show b * 256 + 256 ≤ N * 256; omega
  | ⟨1, _⟩ => show 0 + m ≤ m; omega

end Att
-- ==== Proof.Att.Chk.lean ====
/- The side conditions the attention kernel's body assumes of the words it computes hold for every word. -/
module

public import proofs.«01_k».proof.KernelIdeal
public import proofs.«01_k».proof.Proof.Att.Word

@[expose] public section

namespace Cert.KernelIdeal.Att

open Cert.KernelIdeal Idealize.ShloMosaic Idealize.SL.Sem _root_.Att

variable (i : grid0.Coords) (v : BitVec 32)

theorem p_lt : (i 1).val < 16 := (i 1).isLt
theorem w0_eq : qW (i 1).val 0#32 = BitVec.ofNat 32 ((i 1).val + 16 * 0) := qW_eq ⟨(i 1).val, p_lt i⟩ 0
theorem w1_eq : qW (i 1).val 16#32 = BitVec.ofNat 32 ((i 1).val + 16 * 1) := qW_eq ⟨(i 1).val, p_lt i⟩ 1
theorem w2_eq : qW (i 1).val 32#32 = BitVec.ofNat 32 ((i 1).val + 16 * 2) := qW_eq ⟨(i 1).val, p_lt i⟩ 2
theorem w3_eq : qW (i 1).val 48#32 = BitVec.ofNat 32 ((i 1).val + 16 * 3) := qW_eq ⟨(i 1).val, p_lt i⟩ 3

/-- The block number of query group `u` is below 64. -/
theorem q_lt (u : ℕ) (hu : u < 4) : (i 1).val + 16 * u < 64 := by have := p_lt i; omega

/-- A value load of the main loop stays inside the values. -/
theorem vIn_loop {q : ℕ} {w : BitVec 32} (hq : q < 64) (hw : w = BitVec.ofNat 32 q)
    (k : Fin (Scf.trips 0#32 (ubW (cntW w v)) 1#32)) (r : Fin 8) :
    ∀ a, (![(Scalar.indexCast (vW w (Scf.iv 0#32 1#32 k.val) (BitVec.ofNat 32 r.val))).toNat, 0] : Fin 2 → ℕ) a + S256x128.size a
      ≤ S16384x128.size a :=
  inb2 (N := 64) (m := 128) (congrArg (fun z => ![z, 0]) (vOff_loop hq hw k.val (trip_lt hq hw k) r)) ⟨_, by omega, rfl⟩ rfl rfl

/-- A key load of the main loop stays inside the augmented keys. -/
theorem kIn_loop {q : ℕ} {w : BitVec 32} (hq : q < 64) (hw : w = BitVec.ofNat 32 q)
    (k : Fin (Scf.trips 0#32 (ubW (cntW w v)) 1#32)) (r : Fin 8) :
    ∀ a, (![(Scalar.indexCast (kW w (Scalar.addi (Scf.iv 0#32 1#32 k.val) 1#32) (BitVec.ofNat 32 r.val))).toNat, 0] : Fin 2 → ℕ) a
      + S256x256.size a ≤ S18176x256.size a :=
  inb2 (N := 71) (m := 256) (congrArg (fun z => ![z, 0]) (kOff_loop hq hw k.val (trip_lt hq hw k) r)) ⟨_, by omega, rfl⟩ rfl rfl

/-- A value load of the last pass stays inside the values. -/
theorem vIn_last {q : ℕ} {w : BitVec 32} (hq : q < 64) (hw : w = BitVec.ofNat 32 q) (r : Fin 8) :
    ∀ a, (![(Scalar.indexCast (vW w (Scalar.maxsi (Scalar.subi (cntW w v) 1#32) 0#32) (BitVec.ofNat 32 r.val))).toNat, 0] : Fin 2 → ℕ) a
      + S256x128.size a ≤ S16384x128.size a :=
  inb2 (N := 64) (m := 128) (congrArg (fun z => ![z, 0]) (vOff_last (v := v) hq hw r)) ⟨_, by omega, rfl⟩ rfl rfl

theorem chk1 : k0_chk1 i v :=
  have hq := q_lt i 0 (by decide)
  have hw := w0_eq i
  ⟨⟨loop_ok hq hw, fun _ => dvd256 _, vIn_loop v hq hw, fun _ => dvd256 _, fun _ => dvd256 _, fun _ => dvd256 _, fun _ => dvd256 _, fun _ => dvd256 _, fun _ => dvd256 _, fun _ => dvd256 _, fun _ => dvd256 _, kIn_loop v hq hw, fun _ => dvd256 _, fun _ => dvd256 _, fun _ => dvd256 _, fun _ => dvd256 _, fun _ => dvd256 _, fun _ => dvd256 _, fun _ => dvd256 _, loop_rem_ok hq hw, fun _ => dvd256 _, fun k => (Scf.rem_no_trip _ _ k).elim, fun _ => dvd256 _, fun _ => dvd256 _, fun _ => dvd256 _, fun _ => dvd256 _, fun _ => dvd256 _, fun _ => dvd256 _, fun _ => dvd256 _, fun _ => dvd256 _, fun k => (Scf.rem_no_trip _ _ k).elim, fun _ => dvd256 _⟩,
    ⟨fun _ => dvd256 _, fun _ => dvd256 _, fun _ => dvd256 _, fun _ => dvd256 _, fun _ => dvd256 _, fun _ => dvd256 _, dvd256 _, vIn_last v hq hw, dvd256 _, dvd256 _, dvd256 _, dvd256 _, dvd256 _, dvd256 _, dvd256 _⟩⟩

theorem chk2 : k0_chk2 i v :=
  have hq := q_lt i 1 (by decide)
  have hw := w1_eq i
  ⟨⟨loop_ok hq hw, fun _ => dvd256 _, vIn_loop v hq hw, fun _ => dvd256 _, fun _ => dvd256 _, fun _ => dvd256 _, fun _ => dvd256 _, fun _ => dvd256 _, fun _ => dvd256 _, fun _ => dvd256 _, fun _ => dvd256 _, kIn_loop v hq hw, fun _ => dvd256 _, fun _ => dvd256 _, fun _ => dvd256 _, fun _ => dvd256 _, fun _ => dvd256 _, fun _ => dvd256 _, fun _ => dvd256 _, loop_rem_ok hq hw, fun _ => dvd256 _, fun k => (Scf.rem_no_trip _ _ k).elim, fun _ => dvd256 _, fun _ => dvd256 _, fun _ => dvd256 _, fun _ => dvd256 _, fun _ => dvd256 _, fun _ => dvd256 _, fun _ => dvd256 _, fun _ => dvd256 _, fun k => (Scf.rem_no_trip _ _ k).elim, fun _ => dvd256 _⟩,
    ⟨fun _ => dvd256 _, fun _ => dvd256 _, fun _ => dvd256 _, fun _ => dvd256 _, fun _ => dvd256 _, fun _ => dvd256 _, dvd256 _, vIn_last v hq hw, dvd256 _, dvd256 _, dvd256 _, dvd256 _, dvd256 _, dvd256 _, dvd256 _⟩⟩

theorem chk3 : k0_chk3 i v :=
  have hq := q_lt i 2 (by decide)
  have hw := w2_eq i
  ⟨⟨loop_ok hq hw, fun _ => dvd256 _, vIn_loop v hq hw, fun _ => dvd256 _, fun _ => dvd256 _, fun _ => dvd256 _, fun _ => dvd256 _, fun _ => dvd256 _, fun _ => dvd256 _, fun _ => dvd256 _, fun _ => dvd256 _, kIn_loop v hq hw, fun _ => dvd256 _, fun _ => dvd256 _, fun _ => dvd256 _, fun _ => dvd256 _, fun _ => dvd256 _, fun _ => dvd256 _, fun _ => dvd256 _, loop_rem_ok hq hw, fun _ => dvd256 _, fun k => (Scf.rem_no_trip _ _ k).elim, fun _ => dvd256 _, fun _ => dvd256 _, fun _ => dvd256 _, fun _ => dvd256 _, fun _ => dvd256 _, fun _ => dvd256 _, fun _ => dvd256 _, fun _ => dvd256 _, fun k => (Scf.rem_no_trip _ _ k).elim, fun _ => dvd256 _⟩,
    ⟨fun _ => dvd256 _, fun _ => dvd256 _, fun _ => dvd256 _, fun _ => dvd256 _, fun _ => dvd256 _, fun _ => dvd256 _, dvd256 _, vIn_last v hq hw, dvd256 _, dvd256 _, dvd256 _, dvd256 _, dvd256 _, dvd256 _, dvd256 _⟩⟩

theorem chk4 : k0_chk4 i v :=
  have hq := q_lt i 3 (by decide)
  have hw := w3_eq i
  ⟨⟨loop_ok hq hw, fun _ => dvd256 _, vIn_loop v hq hw, fun _ => dvd256 _, fun _ => dvd256 _, fun _ => dvd256 _, fun _ => dvd256 _, fun _ => dvd256 _, fun _ => dvd256 _, fun _ => dvd256 _, fun _ => dvd256 _, kIn_loop v hq hw, fun _ => dvd256 _, fun _ => dvd256 _, fun _ => dvd256 _, fun _ => dvd256 _, fun _ => dvd256 _, fun _ => dvd256 _, fun _ => dvd256 _, loop_rem_ok hq hw, fun _ => dvd256 _, fun k => (Scf.rem_no_trip _ _ k).elim, fun _ => dvd256 _, fun _ => dvd256 _, fun _ => dvd256 _, fun _ => dvd256 _, fun _ => dvd256 _, fun _ => dvd256 _, fun _ => dvd256 _, fun _ => dvd256 _, fun k => (Scf.rem_no_trip _ _ k).elim, fun _ => dvd256 _⟩,
    ⟨fun _ => dvd256 _, fun _ => dvd256 _, fun _ => dvd256 _, fun _ => dvd256 _, fun _ => dvd256 _, fun _ => dvd256 _, dvd256 _, vIn_last v hq hw, dvd256 _, dvd256 _, dvd256 _, dvd256 _, dvd256 _, dvd256 _, dvd256 _⟩⟩

end Cert.KernelIdeal.Att
-- ==== Proof.Att.RunA.lean ====
/- What one grid point of the attention kernel leaves in memory, at the first point of a head. -/
module

public import proofs.«01_k».proof.Proof.Att.Chk
public import proofs.«01_k».proof.Proof.Gen.KernelIdeal.Loops
public import proofs.«01_k».proof.Proof.Gen.KernelIdeal.Frame

@[expose] public section

set_option maxRecDepth 65536

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 40000000 in
set_option sl_exec.resultNames true in
/-- The body at the first point of a head: the pieces it leaves in the result's buffer, in the keys' arrays it prepares and in
    the queries prepared for the next point. -/
def runA (c : Dev nD) (i : grid0.Coords) (arg2 : Memref sig .tc .vmem S4x256x128 .bf16) (harg2 : arg2.IsWhole) (arg3 : Memref sig .tc .vmem S4x256x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x1x256 .f32) (harg6 : arg6.IsWhole) (arg7 : Memref sig .tc .vmem S4x256x128 .bf16) (harg7 : arg7.IsWhole) (arg8 : Memref sig .tc .vmem S18176x256 .bf16) (harg8 : arg8.IsWhole) (arg9 : Memref sig .tc .vmem S128x128 .f32) (harg9 : arg9.IsWhole) (arg10 : Memref sig .tc .vmem S8x128 .f32) (harg10 : arg10.IsWhole) (arg11 : Memref sig .tc .vmem S4x256x256 .bf16) (harg11 : arg11.IsWhole) (arg12 : Memref sig .tc .vmem S4x256x256 .bf16) (harg12 : arg12.IsWhole) (arg13 : Memref sig .tc .vmem S4x256x2048 .f32) (harg13 : arg13.IsWhole) (hc : k0_cond1 i = 1#1)
    (x2 : Vec F S4x256x128 .bf16) (x3 : Vec F S4x256x128 .bf16) (x4 : Vec F S16384x128 .bf16) (x5 : Vec F S16384x128 .bf16) (x6 : Vec F S1x1x256 .f32) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    Σ' (L7 : List (View.Piece (Elt F) S4x256x128 .bf16)) (L8 : List (View.Piece (Elt F) S18176x256 .bf16)) (L9 : List (View.Piece (Elt F) S128x128 .f32)) (L10 : List (View.Piece (Elt F) S8x128 .f32)), { L12 : List (View.Piece (Elt F) S4x256x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8)) ∗ (∃ f, (arg9.view.loc (c : Thread nD τ) ↦[arg9.view.set]{fullShare} arg9.view.writes (Elt F) f L9)) ∗ (∃ f, (arg10.view.loc (c : Thread nD τ) ↦[arg10.view.set]{fullShare} arg10.view.writes (Elt F) f L10)) ∗ (∃ f, (arg11.view.loc (c : Thread nD τ) ↦[arg11.view.set]{fullShare} f)) ∗ (∃ f, (arg12.view.loc (c : Thread nD τ) ↦[arg12.view.set]{fullShare} arg12.view.writes (Elt F) f L12)) ∗ (∃ f, (arg13.view.loc (c : Thread nD τ) ↦[arg13.view.set]{fullShare} f))) -∗ K ⟨⟩))
          ⊢ wp frame (wpE (defs₀ (F := F)) Variants.none c none) E (cc0_moba_attn i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_moba_attn_eq_skeleton]; unfold cc0_moba_attn_skel
    simp only [k0_part139_eq_skeleton]; unfold k0_part139_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton]
    unfold k0_part89_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, H7, H8, H9, H10, H11, H12, H13, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc | sl_exact chk1 _ _ | sl_exact chk2 _ _ | sl_exact chk3 _ _ | sl_exact chk4 _ _)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Att
-- ==== Proof.Att.RunB.lean ====
/- What one grid point of the attention kernel leaves in memory, at a point that is not the first of its head. -/
module

public import proofs.«01_k».proof.Proof.Att.Chk
public import proofs.«01_k».proof.Proof.Gen.KernelIdeal.Loops
public import proofs.«01_k».proof.Proof.Gen.KernelIdeal.Frame

@[expose] public section

set_option maxRecDepth 65536

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 40000000 in
set_option sl_exec.resultNames true in
/-- The body at a point that is not the first of its head: the pieces it leaves in the result's buffer and in the queries
    prepared for the next point, the keys' arrays unchanged. -/
def runB (c : Dev nD) (i : grid0.Coords) (arg2 : Memref sig .tc .vmem S4x256x128 .bf16) (harg2 : arg2.IsWhole) (arg3 : Memref sig .tc .vmem S4x256x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x1x256 .f32) (harg6 : arg6.IsWhole) (arg7 : Memref sig .tc .vmem S4x256x128 .bf16) (harg7 : arg7.IsWhole) (arg8 : Memref sig .tc .vmem S18176x256 .bf16) (harg8 : arg8.IsWhole) (arg9 : Memref sig .tc .vmem S128x128 .f32) (harg9 : arg9.IsWhole) (arg10 : Memref sig .tc .vmem S8x128 .f32) (harg10 : arg10.IsWhole) (arg11 : Memref sig .tc .vmem S4x256x256 .bf16) (harg11 : arg11.IsWhole) (arg12 : Memref sig .tc .vmem S4x256x256 .bf16) (harg12 : arg12.IsWhole) (arg13 : Memref sig .tc .vmem S4x256x2048 .f32) (harg13 : arg13.IsWhole) (hc : ¬ k0_cond1 i = 1#1)
    (x2 : Vec F S4x256x128 .bf16) (x3 : Vec F S4x256x128 .bf16) (x4 : Vec F S16384x128 .bf16) (x5 : Vec F S16384x128 .bf16) (x6 : Vec F S1x1x256 .f32) (x8 : Vec F S18176x256 .bf16) (x9 : Vec F S128x128 .f32) (x10 : Vec F S8x128 .f32) (x12 : Vec F S4x256x256 .bf16) (f7 : BufTy.Contents (Elt F) arg7.view.ty) (f11 : BufTy.Contents (Elt F) arg11.view.ty) (f13 : BufTy.Contents (Elt F) arg13.view.ty) :
    Σ' (L7 : List (View.Piece (Elt F) S4x256x128 .bf16)), { L12 : List (View.Piece (Elt F) S4x256x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} f7) ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} f11) ∗ owns (c : Thread nD τ) arg12 fullShare x12 ∗ (arg13.view.loc (c : Thread nD τ) ↦[arg13.view.set]{fullShare} f13)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ owns (c : Thread nD τ) arg8 fullShare x8 ∗ owns (c : Thread nD τ) arg9 fullShare x9 ∗ owns (c : Thread nD τ) arg10 fullShare x10 ∗ (∃ f, (arg11.view.loc (c : Thread nD τ) ↦[arg11.view.set]{fullShare} f)) ∗ (∃ f, (arg12.view.loc (c : Thread nD τ) ↦[arg12.view.set]{fullShare} arg12.view.writes (Elt F) f L12)) ∗ (∃ f, (arg13.view.loc (c : Thread nD τ) ↦[arg13.view.set]{fullShare} f))) -∗ K ⟨⟩))
          ⊢ wp frame (wpE (defs₀ (F := F)) Variants.none c none) E (cc0_moba_attn i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_moba_attn_eq_skeleton]; unfold cc0_moba_attn_skel
    simp only [k0_part139_eq_skeleton]; unfold k0_part139_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton]
    unfold owns
    iintro ⟨⟨%f2, %hf2, H2⟩, ⟨%f3, %hf3, H3⟩, ⟨%f4, %hf4, H4⟩, ⟨%f5, %hf5, H5⟩, ⟨%f6, %hf6, H6⟩, H7, ⟨%f8, %hf8, H8⟩, ⟨%f9, %hf9, H9⟩, ⟨%f10, %hf10, H10⟩, H11, ⟨%f12, %hf12, H12⟩, H13, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg12.eq_unread hf12
    sl_exec (disch := first | sl_exact hc | sl_exact chk1 _ _ | sl_exact chk2 _ _ | sl_exact chk3 _ _ | sl_exact chk4 _ _)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    iexists _; iexact H13

end Cert.KernelIdeal.Att
-- ==== Proof.Att.Frame.lean ====
/- The frame of the attention kernel: it ends, whatever it computes, and the projections it reads end as they began. -/
module

public import proofs.«01_k».proof.Proof.Att.RunA
public import proofs.«01_k».proof.Proof.Att.RunB
public import Idealize.ShloMosaic.Lib.Claim

@[expose] public section

set_option maxRecDepth 65536

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Ownership of a buffer at some raw contents is ownership of it at the values those contents read as. -/
theorem owns_of_raw {ws : Space} {sh : Shape} {e : EltTy} (c : Dev nD) (a : Memref sig .tc ws sh e) (f : BufTy.Contents (Elt F) a.view.ty) :
    ((a.view.loc (c : Thread nD τ) ↦[a.view.set]{fullShare} f) : sProp 𝕄) ⊢ iprop(∃ d, owns (c : Thread nD τ) a fullShare d) := by
  unfold owns
  iintro H
  iexists _; iexists f; isplitr; · ipureintro; rfl
  iexact H

/-- And conversely. -/
theorem raw_of_owns {ws : Space} {sh : Shape} {e : EltTy} (c : Dev nD) (a : Memref sig .tc ws sh e) (d : Vec F sh e) :
    (owns (c : Thread nD τ) a fullShare d : sProp 𝕄) ⊢ iprop(∃ f : BufTy.Contents (Elt F) a.view.ty, (a.view.loc (c : Thread nD τ) ↦[a.view.set]{fullShare} f)) := by
  unfold owns
  iintro ⟨%f, %hf, H⟩
  iexists f; iexact H

set_option maxHeartbeats 4000000 in
/-- The body from any contents of the buffers it writes: it ends, with the buffers it only reads unchanged. -/
theorem runAny (c : Dev nD) (i : grid0.Coords) (arg2 : Memref sig .tc .vmem S4x256x128 .bf16) (harg2 : arg2.IsWhole) (arg3 : Memref sig .tc .vmem S4x256x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x1x256 .f32) (harg6 : arg6.IsWhole) (arg7 : Memref sig .tc .vmem S4x256x128 .bf16) (harg7 : arg7.IsWhole) (arg8 : Memref sig .tc .vmem S18176x256 .bf16) (harg8 : arg8.IsWhole) (arg9 : Memref sig .tc .vmem S128x128 .f32) (harg9 : arg9.IsWhole) (arg10 : Memref sig .tc .vmem S8x128 .f32) (harg10 : arg10.IsWhole) (arg11 : Memref sig .tc .vmem S4x256x256 .bf16) (harg11 : arg11.IsWhole) (arg12 : Memref sig .tc .vmem S4x256x256 .bf16) (harg12 : arg12.IsWhole) (arg13 : Memref sig .tc .vmem S4x256x2048 .f32) (harg13 : arg13.IsWhole)
    (x2 : Vec F S4x256x128 .bf16) (x3 : Vec F S4x256x128 .bf16) (x4 : Vec F S16384x128 .bf16) (x5 : Vec F S16384x128 .bf16) (x6 : Vec F S1x1x256 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_moba_attn i arg2 harg2 arg3 harg3 arg4 harg4 arg5 harg5 arg6 harg6 arg7 harg7 arg8 harg8 arg9 harg9 arg10 harg10 arg11 harg11 arg12 harg12 arg13 harg13) K := by
  by_cases hc : k0_cond1 i = 1#1
  · iintro ⟨H2, H3, H4, H5, H6, ⟨%d7, H7⟩, ⟨%d8, H8⟩, ⟨%d9, H9⟩, ⟨%d10, H10⟩, ⟨%d11, H11⟩, ⟨%d12, H12⟩, ⟨%d13, H13⟩, Hk⟩
    ihave H7 := (raw_of_owns c arg7 _) $$ H7; icases H7 with ⟨%f7, H7⟩
    ihave H8 := (raw_of_owns c arg8 _) $$ H8; icases H8 with ⟨%f8, H8⟩
    ihave H9 := (raw_of_owns c arg9 _) $$ H9; icases H9 with ⟨%f9, H9⟩
    ihave H10 := (raw_of_owns c arg10 _) $$ H10; icases H10 with ⟨%f10, H10⟩
    ihave H11 := (raw_of_owns c arg11 _) $$ H11; icases H11 with ⟨%f11, H11⟩
    ihave H12 := (raw_of_owns c arg12 _) $$ H12; icases H12 with ⟨%f12, H12⟩
    ihave H13 := (raw_of_owns c arg13 _) $$ H13; icases H13 with ⟨%f13, H13⟩
    iapply ((runA c i arg2 harg2 arg3 harg3 arg4 harg4 arg5 harg5 arg6 harg6 arg7 harg7 arg8 harg8 arg9 harg9 arg10 harg10 arg11 harg11 arg12 harg12 arg13 harg13 hc x2 x3 x4 x5 x6 f7 f8 f9 f10 f11 f12 f13).2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H2, H3, H4, H5, H6, ⟨%g7, H7⟩, ⟨%g8, H8⟩, ⟨%g9, H9⟩, ⟨%g10, H10⟩, ⟨%g11, H11⟩, ⟨%g12, H12⟩, ⟨%g13, H13⟩⟩
    iapply Hk
    isplitl [H2]; · iexact H2
    isplitl [H3]; · iexact H3
    isplitl [H4]; · iexact H4
    isplitl [H5]; · iexact H5
    isplitl [H6]; · iexact H6
    isplitl [H7]; · iapply (owns_of_raw c arg7 _); iexact H7
    isplitl [H8]; · iapply (owns_of_raw c arg8 _); iexact H8
    isplitl [H9]; · iapply (owns_of_raw c arg9 _); iexact H9
    isplitl [H10]; · iapply (owns_of_raw c arg10 _); iexact H10
    isplitl [H11]; · iapply (owns_of_raw c arg11 _); iexact H11
    isplitl [H12]; · iapply (owns_of_raw c arg12 _); iexact H12
    iapply (owns_of_raw c arg13 _); iexact H13
  · iintro ⟨H2, H3, H4, H5, H6, ⟨%d7, H7⟩, ⟨%d8, H8⟩, ⟨%d9, H9⟩, ⟨%d10, H10⟩, ⟨%d11, H11⟩, ⟨%d12, H12⟩, ⟨%d13, H13⟩, Hk⟩
    ihave H7 := (raw_of_owns c arg7 _) $$ H7; icases H7 with ⟨%f7, H7⟩
    ihave H11 := (raw_of_owns c arg11 _) $$ H11; icases H11 with ⟨%f11, H11⟩
    ihave H13 := (raw_of_owns c arg13 _) $$ H13; icases H13 with ⟨%f13, H13⟩
    iapply ((runB c i arg2 harg2 arg3 harg3 arg4 harg4 arg5 harg5 arg6 harg6 arg7 harg7 arg8 harg8 arg9 harg9 arg10 harg10 arg11 harg11 arg12 harg12 arg13 harg13 hc x2 x3 x4 x5 x6 d8 d9 d10 d12 f7 f11 f13).2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H2, H3, H4, H5, H6, ⟨%g7, H7⟩, H8, H9, H10, ⟨%g11, H11⟩, ⟨%g12, H12⟩, ⟨%g13, H13⟩⟩
    iapply Hk
    isplitl [H2]; · iexact H2
    isplitl [H3]; · iexact H3
    isplitl [H4]; · iexact H4
    isplitl [H5]; · iexact H5
    isplitl [H6]; · iexact H6
    isplitl [H7]; · iapply (owns_of_raw c arg7 _); iexact H7
    isplitl [H8]; · iexists _; iexact H8
    isplitl [H9]; · iexists _; iexact H9
    isplitl [H10]; · iexists _; iexact H10
    isplitl [H11]; · iapply (owns_of_raw c arg11 _); iexact H11
    isplitl [H12]; · iapply (owns_of_raw c arg12 _); iexact H12
    iapply (owns_of_raw c arg13 _); iexact H13

variable (m : (ℓ : Loc nD τ sig) → Buf (Elt F) ℓ) (ρ : Dev nD → PrngReg)

abbrev ms0_0 (t : Fin cfg0.N) : Memref sig .tc .vmem S4x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256x128 .bf16 := win0_5.stage (cfg0.slots t 5)
abbrev hs0_5 (t : Fin cfg0.N) : (ms0_5 t).IsWhole := hstage0_5 ((cfg0.slots t 5).cast nbuf0_5)
abbrev scM0_0 : Memref sig .tc .vmem S18176x256 .bf16 := Memref.whole cc0_scratch0
abbrev scM0_1 : Memref sig .tc .vmem S128x128 .f32 := Memref.whole cc0_scratch1
abbrev scM0_2 : Memref sig .tc .vmem S8x128 .f32 := Memref.whole cc0_scratch2
abbrev scM0_3 : Memref sig .tc .vmem S4x256x256 .bf16 := Memref.whole cc0_scratch3
abbrev scM0_4 : Memref sig .tc .vmem S4x256x256 .bf16 := Memref.whole cc0_scratch4
abbrev scM0_5 : Memref sig .tc .vmem S4x256x2048 .f32 := Memref.whole cc0_scratch5

/-- The invariant between points: the six scratch buffers at some contents, and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The one result's window is the one whose contents the frame does not name. -/
def forgets0 : Fin 6 → Bool := fun w => w.val == 5

/-- The frame's data: each input's buffer at its block after every point, the result's at contents nothing names. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (datsF m 0 c).A w = V m c (Pipeline.arrRef spec0 w) := by dsimp only [datsF]
theorem after0_0 (c : Dev nD) (t : Fin cfg0.N) : (datsF m 0 c).after 0 t = iblk m c 0 t := by dsimp only [datsF]
theorem after0_1 (c : Dev nD) (t : Fin cfg0.N) : (datsF m 0 c).after 1 t = iblk m c 1 t := by dsimp only [datsF]
theorem after0_2 (c : Dev nD) (t : Fin cfg0.N) : (datsF m 0 c).after 2 t = iblk m c 2 t := by dsimp only [datsF]
theorem after0_3 (c : Dev nD) (t : Fin cfg0.N) : (datsF m 0 c).after 3 t = iblk m c 3 t := by dsimp only [datsF]
theorem after0_4 (c : Dev nD) (t : Fin cfg0.N) : (datsF m 0 c).after 4 t = iblk m c 4 t := by dsimp only [datsF]
theorem before0_0 (c : Dev nD) (t : Fin cfg0.N) (d) : (datsF m 0 c).before 0 t d = iblk m c 0 t :=
  before0_0_of m (datsF m 0 c) (A_eq m c 0) (after0_0 m c) t d
theorem before0_1 (c : Dev nD) (t : Fin cfg0.N) (d) : (datsF m 0 c).before 1 t d = iblk m c 1 t :=
  before0_1_of m (datsF m 0 c) (A_eq m c 1) (after0_1 m c) t d
theorem before0_2 (c : Dev nD) (t : Fin cfg0.N) (d) : (datsF m 0 c).before 2 t d = iblk m c 2 t :=
  before0_2_of m (datsF m 0 c) (A_eq m c 2) (after0_2 m c) t d
theorem before0_3 (c : Dev nD) (t : Fin cfg0.N) (d) : (datsF m 0 c).before 3 t d = iblk m c 3 t :=
  before0_3_of m (datsF m 0 c) (A_eq m c 3) (after0_3 m c) t d
theorem before0_4 (c : Dev nD) (t : Fin cfg0.N) (d) : (datsF m 0 c).before 4 t d = iblk m c 4 t :=
  before0_4_of m (datsF m 0 c) (A_eq m c 4) (after0_4 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- What the body is called with at a point, -/
def bodyPre (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare d))

/-- and what it returns. -/
def bodyPost (c : Dev nD) (t : Fin cfg0.N) : sProp 𝕄 :=
  iprop((datsF m 0 c).Φ t.succ ∗ (datsF m 0 c).owesAt () t.succ
    ∗ (datsF m 0 c).leavesExact 0 t
    ∗ (datsF m 0 c).leavesExact 1 t
    ∗ (datsF m 0 c).leavesExact 2 t
    ∗ (datsF m 0 c).leavesExact 3 t
    ∗ (datsF m 0 c).leavesExact 4 t
    ∗ (∃ d, owns (c : Thread nD τ) (ms0_5 t) fullShare d))

set_option maxHeartbeats 2400000 in
/-- The body at any point takes the first to the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (datsF m 0 c).Φ t.succ = (datsF m 0 c).Φ t.castSucc from rfl,
    show (datsF m 0 c).owesAt () t.succ = (datsF m 0 c).owesAt () t.castSucc from rfl]
  rw [show (datsF m 0 c).Φ t.castSucc = Pipeline.ΦA spec0 c from rfl, PhiA0_eq]
  rw [show (datsF m 0 c).leavesExact 0 t = owns (c : Thread nD τ) (ms0_0 t) fullShare ((datsF m 0 c).after 0 t) from by
    unfold Dat.leavesExact; rw [liveAt0_0 t], after0_0]
  rw [show (datsF m 0 c).leavesExact 1 t = owns (c : Thread nD τ) (ms0_1 t) fullShare ((datsF m 0 c).after 1 t) from by
    unfold Dat.leavesExact; rw [liveAt0_1 t], after0_1]
  rw [show (datsF m 0 c).leavesExact 2 t = owns (c : Thread nD τ) (ms0_2 t) fullShare ((datsF m 0 c).after 2 t) from by
    unfold Dat.leavesExact; rw [liveAt0_2 t], after0_2]
  rw [show (datsF m 0 c).leavesExact 3 t = owns (c : Thread nD τ) (ms0_3 t) fullShare ((datsF m 0 c).after 3 t) from by
    unfold Dat.leavesExact; rw [liveAt0_3 t], after0_3]
  rw [show (datsF m 0 c).leavesExact 4 t = owns (c : Thread nD τ) (ms0_4 t) fullShare ((datsF m 0 c).after 4 t) from by
    unfold Dat.leavesExact; rw [liveAt0_4 t], after0_4]
  iintro ⟨⟨⟨HS0, HS1, HS2, HS3, HS4, HS5⟩, Hg⟩, Ho, ⟨%d0, H0⟩, ⟨%d1, H1⟩, ⟨%d2, H2⟩, ⟨%d3, H3⟩, ⟨%d4, H4⟩, H5⟩
  iapply (runAny c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point, the result's contents not named. -/
theorem body_obligation (c : Dev nD) : BodyObligation (datsF (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs' arrays as the region found them, and every counter at zero. -/
theorem run_main_quiescent : θ_run defs (onTc (τ := τ) (main (F := F))) (s₀ m ρ) (fun r => (Pipeline.RDat.FramePost (cfgs 0) (fun c => (datsF m 0 c).toRForget forgets0) (V m)) r ∧ r.2.sem = fun _ => 0) :=
  Pipeline.θ_run_frame_forget_shared (Q' := _) cfgs (datsF m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every run ends, the argument's array as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1.arr_in c 3 rfl).trans ((A_eq m c 3).trans (V_main_arg0 m c)), h.2⟩) (run_main_quiescent m ρ)

end Cert.KernelIdeal.Att

end
-- ==== Proof.Att.Claim.lean ====
module
public import proofs.«01_k».proof.Defs
public import proofs.«01_k».proof.Proof.Gen.ReferenceIdeal.Run
public import proofs.«01_k».proof.Proof.Att.Frame
public import proofs.«01_k».proof.Proof.AttK.Frame
@[expose] public section
set_option maxRecDepth 16384

/-! The attention call's frames, and the named constants. -/

noncomputable section

namespace Cert.Att
open Idealize.ShloMosaic Idealize.ShloMosaic.TcCoe Idealize.SL.Sem

theorem frame_kernel : Cert.quiescent_Kernel (hKernel := Cert.Kernel.Gen.facts) := fun m ρ _ => Cert.Kernel.Att.frame m ρ

theorem frame_ideal : Cert.quiescent_KernelIdeal (hKernelIdeal := Cert.KernelIdeal.Gen.facts) := fun m ρ _ => Cert.KernelIdeal.Att.frame m ρ

theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

end Cert.Att
-- ==== Proof.Ffn.RunC.lean ====
/- The feed-forward kernel at the last feed-forward tile of a row tile: what the body stores, whatever the second result's
   buffer held before. -/
module

public import proofs.«01_k».proof.Proof.Gen.Kernel2Ideal.Frame.RunB

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One round of the normalisation loop stores the same pieces whatever the second result's buffer held. -/
theorem tripL_any (𝒱 : Variants) (c : Dev nD) (bd : Option 𝒱.V) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (k0_h2 : k0_cond2 i = 1#1) (X2 : BufTy.Contents (Elt F) arg2.view.ty) (X6 : BufTy.Contents (Elt F) arg6.view.ty) (X7 : BufTy.Contents (Elt F) arg7.view.ty) (k : Fin k0_t1_loop.trips) (f8 : BufTy.Contents (Elt F) arg8.view.ty) (f9 g9 : BufTy.Contents (Elt F) arg9.view.ty) :
    tripL_k0_t1 (F := F) 𝒱 c bd i arg2 harg2 arg3 harg3 arg4 harg4 arg5 harg5 arg6 harg6 arg7 harg7 arg8 harg8 arg9 harg9 arg10 harg10 k0_h2 X2 X6 X7 k f8 f9 = tripL_k0_t1 (F := F) 𝒱 c bd i arg2 harg2 arg3 harg3 arg4 harg4 arg5 harg5 arg6 harg6 arg7 harg7 arg8 harg8 arg9 harg9 arg10 harg10 k0_h2 X2 X6 X7 k f8 g9 := by
  unfold tripL_k0_t1 trip_k0_t1; rfl

/-- So do all its rounds. -/
theorem pb_any (𝒱 : Variants) (c : Dev nD) (bd : Option 𝒱.V) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (k0_h2 : k0_cond2 i = 1#1) (X2 : BufTy.Contents (Elt F) arg2.view.ty) (X6 : BufTy.Contents (Elt F) arg6.view.ty) (X7 : BufTy.Contents (Elt F) arg7.view.ty) (f8 : BufTy.Contents (Elt F) arg8.view.ty) (f9 g9 : BufTy.Contents (Elt F) arg9.view.ty) (n : ℕ) :
    pb_k0_t1 (F := F) 𝒱 c bd i arg2 harg2 arg3 harg3 arg4 harg4 arg5 harg5 arg6 harg6 arg7 harg7 arg8 harg8 arg9 harg9 arg10 harg10 k0_h2 X2 X6 X7 f8 f9 n = pb_k0_t1 (F := F) 𝒱 c bd i arg2 harg2 arg3 harg3 arg4 harg4 arg5 harg5 arg6 harg6 arg7 harg7 arg8 harg8 arg9 harg9 arg10 harg10 k0_h2 X2 X6 X7 f8 g9 n := by
  induction n with
  | zero => rfl
  | succ n ih =>
    rw [pb_k0_t1.eq_2, pb_k0_t1.eq_2, ih]
    unfold pb_k0_t1Step
    split
    · rw [tripL_any 𝒱 c bd i arg2 harg2 arg3 harg3 arg4 harg4 arg5 harg5 arg6 harg6 arg7 harg7 arg8 harg8 arg9 harg9 arg10 harg10 k0_h2 X2 X6 X7 _ _ _ (arg9.view.writes (Elt F) g9 _)]
    · rfl

set_option maxHeartbeats 4000000 in
/-- The body there, the second result's buffer at given contents. -/
noncomputable def lastRun (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) (f7 : BufTy.Contents (Elt F) arg9.view.ty) :
    Σ' (L6 : List (View.Piece (Elt F) S1024x2048 .f32)), Σ' (L7 : List (View.Piece (Elt F) S1024x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (arg9.view.loc (c : Thread nD τ) ↦[arg9.view.set]{fullShare} f7) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_ffn_ln i arg2 harg2 arg3 harg3 arg4 harg4 arg5 harg5 arg6 harg6 arg7 harg7 arg8 harg8 arg9 harg9 arg10 harg10) K } := by
  refine ⟨?_, ?_, [], fun E K => ?run⟩
  case run =>
    simp only [cc0_ffn_ln_eq_skeleton]; unfold cc0_ffn_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact HS0

/-- The pieces do not depend on what the second result's buffer held. -/
theorem lastRun_any (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) (f7 g7 : BufTy.Contents (Elt F) arg9.view.ty) :
    (lastRun c i arg2 harg2 arg3 harg3 arg4 harg4 arg5 harg5 arg6 harg6 arg7 harg7 arg8 harg8 arg9 harg9 arg10 harg10 hc0 hc1 x0 x1 x2 x3 x4 x5 xo6 xs0 f7).1 = (lastRun c i arg2 harg2 arg3 harg3 arg4 harg4 arg5 harg5 arg6 harg6 arg7 harg7 arg8 harg8 arg9 harg9 arg10 harg10 hc0 hc1 x0 x1 x2 x3 x4 x5 xo6 xs0 g7).1 ∧ (lastRun c i arg2 harg2 arg3 harg3 arg4 harg4 arg5 harg5 arg6 harg6 arg7 harg7 arg8 harg8 arg9 harg9 arg10 harg10 hc0 hc1 x0 x1 x2 x3 x4 x5 xo6 xs0 f7).2.1 = (lastRun c i arg2 harg2 arg3 harg3 arg4 harg4 arg5 harg5 arg6 harg6 arg7 harg7 arg8 harg8 arg9 harg9 arg10 harg10 hc0 hc1 x0 x1 x2 x3 x4 x5 xo6 xs0 g7).2.1 := by
  unfold lastRun
  dsimp only
  constructor
  · rw [pb_any _ _ _ _ _ _ _ _ _ _ _ _ _ _ _ _ _ _ _ _ _ _ _ _ _ _ _ f7 g7]
  · rw [pb_any _ _ _ _ _ _ _ _ _ _ _ _ _ _ _ _ _ _ _ _ _ _ _ _ _ _ _ f7 g7]

set_option maxHeartbeats 1000000 in
/-- The body there, the second result's buffer at anything. -/
noncomputable def kernelRun0_C (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) :
    Σ' (L6 : List (View.Piece (Elt F) S1024x2048 .f32)), Σ' (L7 : List (View.Piece (Elt F) S1024x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_ffn_ln i arg2 harg2 arg3 harg3 arg4 harg4 arg5 harg5 arg6 harg6 arg7 harg7 arg8 harg8 arg9 harg9 arg10 harg10) K } :=
  ⟨(lastRun c i arg2 harg2 arg3 harg3 arg4 harg4 arg5 harg5 arg6 harg6 arg7 harg7 arg8 harg8 arg9 harg9 arg10 harg10 hc0 hc1 x0 x1 x2 x3 x4 x5 xo6 xs0 arg9.view.junk).1, (lastRun c i arg2 harg2 arg3 harg3 arg4 harg4 arg5 harg5 arg6 harg6 arg7 harg7 arg8 harg8 arg9 harg9 arg10 harg10 hc0 hc1 x0 x1 x2 x3 x4 x5 xo6 xs0 arg9.view.junk).2.1, [], fun E K => by
    have key : ∀ f7, _ := fun f7 => (lastRun c i arg2 harg2 arg3 harg3 arg4 harg4 arg5 harg5 arg6 harg6 arg7 harg7 arg8 harg8 arg9 harg9 arg10 harg10 hc0 hc1 x0 x1 x2 x3 x4 x5 xo6 xs0 f7).2.2.2 E K
    simp only [fun f7 => (lastRun_any c i arg2 harg2 arg3 harg3 arg4 harg4 arg5 harg5 arg6 harg6 arg7 harg7 arg8 harg8 arg9 harg9 arg10 harg10 hc0 hc1 x0 x1 x2 x3 x4 x5 xo6 xs0 f7 arg9.view.junk).1, fun f7 => (lastRun_any c i arg2 harg2 arg3 harg3 arg4 harg4 arg5 harg5 arg6 harg6 arg7 harg7 arg8 harg8 arg9 harg9 arg10 harg10 hc0 hc1 x0 x1 x2 x3 x4 x5 xo6 xs0 f7 arg9.view.junk).2] at key
    unfold owns at key ⊢
    iintro ⟨H0, H1, H2, H3, H4, H5, H6, ⟨%d7, %f7, -, H7⟩, HS0, Hk⟩
    iapply (key f7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact Hk⟩

end Cert.Kernel2Ideal.Gen

end
-- ==== Proof.Ffn.Frame.lean ====
/- The feed-forward kernel runs to completion and leaves its arguments: launch set-up, and what each grid point leaves. -/
module

public import proofs.«01_k».proof.Proof.Ffn.RunC
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S1024x2048`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x2048.size (by sl_kernel_rfl) y

/-- What case A leaves in output 6's staging buffer: its pieces read back over junk. -/
def out0_A_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) : Vec F S1024x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) : Vec F S1024x2048 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)

/-- Case A's pieces for scratch `arg10`, which the kernel carries between points, cover it: 1 piece of `S1024x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S1024x2048.size (by sl_kernel_rfl) y

/-- What case A leaves in scratch `arg10`: its pieces read back over junk. -/
def sout0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)

/-- Case B's pieces for output 6 tile its block (1 store of `S1024x2048`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) (y : S1024x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo6 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo6 xs0).1 S1024x2048.size (by sl_kernel_rfl) y

/-- What case B leaves in output 6's staging buffer: its pieces read back over junk. -/
def out0_B_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xo6 xs0).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xo6 xs0).2.1)

/-- Case B stores nothing into scratch `arg10`: it holds what the point before left. -/
def sout0_B_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .bf16 := xs0

/-- Case C's pieces for output 6 are of SEVERAL sizes (5 stores of `S1024x2048`, `S256x2048`): cut into blocks of `![256, 2048]` they tile its block (checked by the kernel's evaluation: Lib/Ring.lean `Piece.tiledBy`), so they cover it. -/
theorem cover0_C_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) (y : S1024x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo6 xs0).1, y ∈ pc.1.set :=
  View.cover_of_tiledBy (kernelRun0_C c i arg2 harg2 arg3 harg3 arg4 harg4 arg5 harg5 arg6 harg6 arg7 harg7 arg8 harg8 arg9 harg9 arg10 harg10 hc0 hc1 x0 x1 x2 x3 x4 x5 xo6 xs0).1 ![256, 2048] (by sl_kernel_rfl) y

/-- What case C leaves in output 6's staging buffer: its pieces read back over junk. -/
def out0_C_6 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xo6 xs0).1)

/-- Case C's pieces for output 7 tile its block (4 stores of `S256x2048`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) (y : S1024x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo6 xs0).2.1 S256x2048.size (by sl_kernel_rfl) y

/-- What case C leaves in output 7's staging buffer: its pieces read back over junk. -/
def out0_C_7 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xo6 xs0).2.1)

/-- Case C stores nothing into scratch `arg10`: it holds what the point before left. -/
def sout0_C_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S2048x256 .f32) (x2 : Vec F S2048x256 .f32) (x3 : Vec F S256x2048 .f32) (x4 : Vec F S1x2048 .f32) (x5 : Vec F S1x2048 .f32) (xo6 : Vec F S1024x2048 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2048 .f32 × Vec F S1024x2048 .bf16 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 22 = 0 then
      if h1 : (n + 1) % 22 = 21 then
        False.elim (by have hN : n + 1 < 352 := lt_of_lt_of_eq hn (show cfg0.N = 352 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 22 = 21 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2)

/-- `outsAt0` at a point of case A: that case's contents. -/
theorem outsAt0_A (c : Dev nD) (t : Fin cfg0.N) (h0 : t.val % 22 = 0) (h1 : ¬t.val % 22 = 21) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 22 = 0) (h1 : ¬t.val % 22 = 21) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 22 = 0) (h1 : t.val % 22 = 21) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 22 = 0) (h1 : ¬t.val % 22 = 21) (d) :
    (dats m 0 c).before 6 t d = (outsAt0 m c (t.val - 1) (Nat.lt_of_le_of_lt (Nat.sub_le _ _) t.isLt)).1 := by
  have hN : t.val < 352 := lt_of_lt_of_eq t.isLt (show cfg0.N = 352 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case C output 6's current staging buffer holds what the body left at the point before: the point is
    not the first, the buffer was not written back between (`flush0_6`), the window is live and uncut (Lib/Pipeline/Frame.lean
    `Dat.before_out_kept`). -/
theorem before0_6_C (c : Dev nD) (t : Fin cfg0.N) (h0 : ¬t.val % 22 = 0) (h1 : t.val % 22 = 21) (d) :
    (dats m 0 c).before 6 t d = (outsAt0 m c (t.val - 1) (Nat.lt_of_le_of_lt (Nat.sub_le _ _) t.isLt)).1 := by
  have hN : t.val < 352 := lt_of_lt_of_eq t.isLt (show cfg0.N = 352 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 352 := lt_of_lt_of_eq t.isLt (show cfg0.N = 352 from N_0)
  by_cases h0 : t.val % 22 = 0
  · by_cases h1 : t.val % 22 = 21
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · rw [PhiS_castSucc m c t, PhiS_pos m c _ _ hz]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
  · by_cases h1 : t.val % 22 = 21
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 352 := lt_of_lt_of_eq t.isLt (show cfg0.N = 352 from N_0); omega
      · rw [PhiS_castSucc m c t, PhiS_pos m c _ _ hz]
        rw [outsAt0_C m c t h0 h1]
        simp only [before0_6_C m c t h0 h1]
        unfold out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, ⟨%e6, H6⟩, ⟨%e7, H7⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 352 := lt_of_lt_of_eq t.isLt (show cfg0.N = 352 from N_0); omega
      · rw [PhiS_castSucc m c t, PhiS_pos m c _ _ hz]
        rw [outsAt0_B m c t h0 h1]
        simp only [before0_6_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, ⟨%e6, H6⟩, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _)
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 352 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Gen

end
-- ==== Proof.Ffn.Value.lean ====
/- What the feed-forward kernel's results hold after a run, from what each grid point leaves. -/
module

public import proofs.«01_k».proof.Proof.Ffn.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 22 = 0) (h1 : ¬t.val % 22 = 21) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 22 = 0) (h1 : ¬t.val % 22 = 21) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 22 = 0) (h1 : t.val % 22 = 21) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S16384x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 22 = 0) (h1 : ¬t.val % 22 = 21) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 22 = 0) (h1 : ¬t.val % 22 = 21) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 22 = 0) (h1 : t.val % 22 = 21) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  simp only [flushed7, outsAt0_C m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S16384x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v8_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v8_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 22)
    stores the scratch whole without reading what it held, and `acc` does not enter there (nor where no point meets the
    conditions: `acc`, never read). -/
def scAt0_0 (c : Dev nD) (n : ℕ) (hb : n < cfg0.N) (acc : Vec F S1024x2048 .bf16) : Vec F S1024x2048 .bf16 :=
  if h0 : n % 22 = 0 then
    if h1 : n % 22 = 21 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : n % 22 = 21 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).1 acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).1 acc

/-- WHAT CARRIED SCRATCH 0 HOLDS after point `t`: the fold of its run up to `t`, from the reset at the run's first point
    `22·(t / 22)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (22 * (t.val / 22)) (t.val % 22)
      (by have h1 := t.isLt; have h2 := Nat.div_add_mod t.val 22; omega) :=
  Pipeline.eq_accAt_of_mod (fun n h => (outsAt0 m c n h).2.2) 22 (fun n h => scAt0_0 m c n h (VS0_0.read (Elt F) VS0_0.junk)) (scAt0_0 m c)
    (fun n h hn => by
      have hN := lt_of_lt_of_eq h (show cfg0.N = 352 from N_0)
      by_cases h0 : n % 22 = 0 <;> by_cases h1 : n % 22 = 21
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 352 from N_0)
      by_cases h0 : (n + 1) % 22 = 0 <;> by_cases h1 : (n + 1) % 22 = 21
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1024x2048 .f32 × Vec F S1024x2048 .bf16 × Vec F S1024x2048 .bf16 :=
  ((VO0_6.read (Elt F) VO0_6.junk, VO0_7.read (Elt F) VO0_7.junk, VS0_0.read (Elt F) VS0_0.junk) : Vec F S1024x2048 .f32 × Vec F S1024x2048 .bf16 × Vec F S1024x2048 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x2048 .f32 × Vec F S1024x2048 .bf16 × Vec F S1024x2048 .bf16) : Vec F S1024x2048 .f32 × Vec F S1024x2048 .bf16 × Vec F S1024x2048 .bf16 :=
  if h0 : n % 22 = 0 then
    if h1 : n % 22 = 21 then
      False.elim (by have hN : n < 352 := lt_of_lt_of_eq hb (show cfg0.N = 352 from N_0); omega)
    else
      (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    if h1 : n % 22 = 21 then
      (out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2)
    else
      (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2)

/-- `stAt0` at a point of case A: that case's contents. -/
theorem stAt0_A (c : Dev nD) (t : Fin cfg0.N) (acc : Vec F S1024x2048 .f32 × Vec F S1024x2048 .bf16 × Vec F S1024x2048 .bf16) (h0 : t.val % 22 = 0) (h1 : ¬t.val % 22 = 21) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) :=
  (dif_pos h0).trans ((dif_neg h1).trans rfl)

/-- `stAt0` at a point of case B: that case's contents, over `acc`. -/
theorem stAt0_B (c : Dev nD) (t : Fin cfg0.N) (acc : Vec F S1024x2048 .f32 × Vec F S1024x2048 .bf16 × Vec F S1024x2048 .bf16) (h0 : ¬t.val % 22 = 0) (h1 : ¬t.val % 22 = 21) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.1 acc.2.2) :=
  (dif_neg h0).trans ((dif_neg h1).trans rfl)

/-- `stAt0` at a point of case C: that case's contents, over `acc`. -/
theorem stAt0_C (c : Dev nD) (t : Fin cfg0.N) (acc : Vec F S1024x2048 .f32 × Vec F S1024x2048 .bf16 × Vec F S1024x2048 .bf16) (h0 : ¬t.val % 22 = 0) (h1 : t.val % 22 = 21) :
    stAt0 m c t.val t.isLt acc = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.1 acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 352 from N_0)
  have e := Pipeline.eq_accAt_of_mod (fun n h => outsAt0 m c n h) 352 (fun n h => stAt0 m c n h junk0) (stAt0 m c)
    (fun n h _ => by
      have hN := lt_of_lt_of_eq h (show cfg0.N = 352 from N_0)
      obtain rfl : n = 0 := by omega
      exact outsAt0_zero m c h)
    (fun n h _ => outsAt0_succ m c n h)
    (by decide) n hn (by have := Nat.div_add_mod n 352; omega)
  have hd : n / 352 = 0 := Nat.div_eq_of_lt hN
  have hm : n % 352 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one every 22 points),
    `i`'s place in it, and the point that writes it back (the last of its 22). -/
abbrev run6Of (i : S16384x2048.Idx) : ℕ := 1 * ((i 0).val / 1024 - 0) + 1 * ((i 1).val / 2048 - 0)
set_option backward.proofsInPublic true in
abbrev loc6Of (i : S16384x2048.Idx) : S1024x2048.Idx := fun a => match a with
  | ⟨0, _⟩ => ⟨(i 0).val % 1024, Nat.mod_lt _ (by decide)⟩
  | ⟨1, _⟩ => ⟨(i 1).val % 2048, Nat.mod_lt _ (by decide)⟩
abbrev pt6Of (i : S16384x2048.Idx) : ℕ := 22 * run6Of i + 21

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v8_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t / 22`). -/
theorem idx_facts6 : ∀ t : Fin cfg0.N, 0 ≤ win0_6.index t (0 : Fin 2) ∧ win0_6.index t (0 : Fin 2) ≤ 15
    ∧ 0 ≤ win0_6.index t (1 : Fin 2) ∧ win0_6.index t (1 : Fin 2) ≤ 0
    ∧ 1 * (win0_6.index t (0 : Fin 2) - 0) + 1 * (win0_6.index t (1 : Fin 2) - 0) = t.val / 22 :=
  (by decide +kernel : ∀ t : Fin grid0.N, _)

/-- Every block of the box is SOME flushing point's: `onto6Pt`, the point that writes back the block at place `q` of the box (the last point of its run). -/
abbrev onto6Pt (q0 : Fin 16) (q1 : Fin 1) : Fin grid0.N :=
  ⟨22 * (1 * q0.val + 1 * q1.val) + 21, lt_of_lt_of_eq (by omega) N_0.symm⟩
theorem idx_onto6 : ∀ (q0 : Fin 16) (q1 : Fin 1), ∃ t : Fin cfg0.N, (cfg0.win 6).flush t = true ∧ win0_6.index t = ![q0.val + 0, q1.val + 0] :=
  fun q0 q1 => ⟨onto6Pt q0 q1, (by decide +kernel : ∀ (q0 : Fin 16) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 22 = 21 := (flush0_6 t).mp hf
  obtain ⟨e0, e1, e2⟩ := idx_facts6 t
  funext y
  have hy0 : (y 0).val < 1024 := (y 0).isLt
  have hy1 : (y 1).val < 2048 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 2048 + 1 * (y 1).val := rfl
  have hr : run6Of (((cfg0.win 6).blk t).view.emb y) = t.val / 22 := by
    show 1 * ((((cfg0.win 6).blk t).view.emb y 0).val / 1024 - 0) + 1 * ((((cfg0.win 6).blk t).view.emb y 1).val / 2048 - 0) = _
    rw [hb0, hb1]
    rw [show (win0_6.index t (0 : Fin 2) * 1024 + 1 * (y 0).val) / 1024 = win0_6.index t (0 : Fin 2) from by omega]; rw [show (win0_6.index t (1 : Fin 2) * 2048 + 1 * (y 1).val) / 2048 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1024 = (y 0).val; rw [hb0]; omega
    | ⟨1, _⟩ => show (((cfg0.win 6).blk t).view.emb y 1).val % 2048 = (y 1).val; rw [hb1]; omega
  have hp : pt6Of (((cfg0.win 6).blk t).view.emb y) = t.val := by
    show 22 * run6Of (((cfg0.win 6).blk t).view.emb y) + 21 = _
    rw [hr]; have := Nat.div_add_mod t.val 22; omega
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S16384x2048.Idx) :
    i ∈ ((cfg0.win 6).blk t).view.set ↔ ∀ a : Fin 2, win0_6.index t a * S1024x2048.size a ≤ (i a).val ∧ (i a).val < win0_6.index t a * S1024x2048.size a + S1024x2048.size a := by
  show i ∈ ((View.whole main_v8_0).slice (win0_6.rect t)).set ↔ _
  rw [View.set_slice_whole, Rect.mem_set_unit]
  exact Iff.rfl

/-- THE COVERED INDICES: in some flushing point's block iff inside the box those blocks fill. -/
theorem covered_iff6 (i : S16384x2048.Idx) :
    (∃ t : Fin cfg0.N, (cfg0.win 6).flush t = true ∧ i ∈ ((cfg0.win 6).blk t).view.set) ↔ 0 ≤ (i 0).val ∧ (i 0).val < 16384 ∧ 0 ≤ (i 1).val ∧ (i 1).val < 2048 := by
  constructor
  · rintro ⟨t, -, hi⟩
    rw [mem_blk6] at hi
    have b0 : win0_6.index t (0 : Fin 2) * 1024 ≤ (i 0).val ∧ (i 0).val < win0_6.index t (0 : Fin 2) * 1024 + 1024 := hi 0
    have b1 : win0_6.index t (1 : Fin 2) * 2048 ≤ (i 1).val ∧ (i 1).val < win0_6.index t (1 : Fin 2) * 2048 + 2048 := hi 1
    obtain ⟨e0, e1, e2⟩ := idx_facts6 t
    omega
  · intro h
    have hi0 : (i 0).val < 16384 := (i 0).isLt
    have hi1 : (i 1).val < 2048 := (i 1).isLt
    obtain ⟨t, hft, ht⟩ := idx_onto6 ⟨(i 0).val / 1024 - 0, by omega⟩ ⟨(i 1).val / 2048 - 0, by omega⟩
    have q0 : win0_6.index t (0 : Fin 2) = (i 0).val / 1024 - 0 + 0 := congrFun ht 0
    have q1 : win0_6.index t (1 : Fin 2) = (i 1).val / 2048 - 0 + 0 := congrFun ht 1
    refine ⟨t, hft, ?_⟩
    rw [mem_blk6]
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 2048 ≤ (i 1).val ∧ (i 1).val < win0_6.index t (1 : Fin 2) * 2048 + 2048; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 16384 := (i 0).isLt; have h1 : (i 1).val < 2048 := (i 1).isLt; omega))

/-! ## Output window 7 -/

/-- The block of the array that holds index `i`, numbered in the order the points write the blocks back (one every 22 points),
    `i`'s place in it, and the point that writes it back (the last of its 22). -/
abbrev run7Of (i : S16384x2048.Idx) : ℕ := 1 * ((i 0).val / 1024 - 0) + 1 * ((i 1).val / 2048 - 0)
set_option backward.proofsInPublic true in
abbrev loc7Of (i : S16384x2048.Idx) : S1024x2048.Idx := fun a => match a with
  | ⟨0, _⟩ => ⟨(i 0).val % 1024, Nat.mod_lt _ (by decide)⟩
  | ⟨1, _⟩ => ⟨(i 1).val % 2048, Nat.mod_lt _ (by decide)⟩
abbrev pt7Of (i : S16384x2048.Idx) : ℕ := 22 * run7Of i + 21

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v8_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t / 22`). -/
theorem idx_facts7 : ∀ t : Fin cfg0.N, 0 ≤ win0_7.index t (0 : Fin 2) ∧ win0_7.index t (0 : Fin 2) ≤ 15
    ∧ 0 ≤ win0_7.index t (1 : Fin 2) ∧ win0_7.index t (1 : Fin 2) ≤ 0
    ∧ 1 * (win0_7.index t (0 : Fin 2) - 0) + 1 * (win0_7.index t (1 : Fin 2) - 0) = t.val / 22 :=
  (by decide +kernel : ∀ t : Fin grid0.N, _)

/-- Every block of the box is SOME flushing point's: `onto7Pt`, the point that writes back the block at place `q` of the box (the last point of its run). -/
abbrev onto7Pt (q0 : Fin 16) (q1 : Fin 1) : Fin grid0.N :=
  ⟨22 * (1 * q0.val + 1 * q1.val) + 21, lt_of_lt_of_eq (by omega) N_0.symm⟩
theorem idx_onto7 : ∀ (q0 : Fin 16) (q1 : Fin 1), ∃ t : Fin cfg0.N, (cfg0.win 7).flush t = true ∧ win0_7.index t = ![q0.val + 0, q1.val + 0] :=
  fun q0 q1 => ⟨onto7Pt q0 q1, (by decide +kernel : ∀ (q0 : Fin 16) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 22 = 21 := (flush0_7 t).mp hf
  obtain ⟨e0, e1, e2⟩ := idx_facts7 t
  funext y
  have hy0 : (y 0).val < 1024 := (y 0).isLt
  have hy1 : (y 1).val < 2048 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 2048 + 1 * (y 1).val := rfl
  have hr : run7Of (((cfg0.win 7).blk t).view.emb y) = t.val / 22 := by
    show 1 * ((((cfg0.win 7).blk t).view.emb y 0).val / 1024 - 0) + 1 * ((((cfg0.win 7).blk t).view.emb y 1).val / 2048 - 0) = _
    rw [hb0, hb1]
    rw [show (win0_7.index t (0 : Fin 2) * 1024 + 1 * (y 0).val) / 1024 = win0_7.index t (0 : Fin 2) from by omega]; rw [show (win0_7.index t (1 : Fin 2) * 2048 + 1 * (y 1).val) / 2048 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1024 = (y 0).val; rw [hb0]; omega
    | ⟨1, _⟩ => show (((cfg0.win 7).blk t).view.emb y 1).val % 2048 = (y 1).val; rw [hb1]; omega
  have hp : pt7Of (((cfg0.win 7).blk t).view.emb y) = t.val := by
    show 22 * run7Of (((cfg0.win 7).blk t).view.emb y) + 21 = _
    rw [hr]; have := Nat.div_add_mod t.val 22; omega
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S16384x2048.Idx) :
    i ∈ ((cfg0.win 7).blk t).view.set ↔ ∀ a : Fin 2, win0_7.index t a * S1024x2048.size a ≤ (i a).val ∧ (i a).val < win0_7.index t a * S1024x2048.size a + S1024x2048.size a := by
  show i ∈ ((View.whole main_v8_1).slice (win0_7.rect t)).set ↔ _
  rw [View.set_slice_whole, Rect.mem_set_unit]
  exact Iff.rfl

/-- THE COVERED INDICES: in some flushing point's block iff inside the box those blocks fill. -/
theorem covered_iff7 (i : S16384x2048.Idx) :
    (∃ t : Fin cfg0.N, (cfg0.win 7).flush t = true ∧ i ∈ ((cfg0.win 7).blk t).view.set) ↔ 0 ≤ (i 0).val ∧ (i 0).val < 16384 ∧ 0 ≤ (i 1).val ∧ (i 1).val < 2048 := by
  constructor
  · rintro ⟨t, -, hi⟩
    rw [mem_blk7] at hi
    have b0 : win0_7.index t (0 : Fin 2) * 1024 ≤ (i 0).val ∧ (i 0).val < win0_7.index t (0 : Fin 2) * 1024 + 1024 := hi 0
    have b1 : win0_7.index t (1 : Fin 2) * 2048 ≤ (i 1).val ∧ (i 1).val < win0_7.index t (1 : Fin 2) * 2048 + 2048 := hi 1
    obtain ⟨e0, e1, e2⟩ := idx_facts7 t
    omega
  · intro h
    have hi0 : (i 0).val < 16384 := (i 0).isLt
    have hi1 : (i 1).val < 2048 := (i 1).isLt
    obtain ⟨t, hft, ht⟩ := idx_onto7 ⟨(i 0).val / 1024 - 0, by omega⟩ ⟨(i 1).val / 2048 - 0, by omega⟩
    have q0 : win0_7.index t (0 : Fin 2) = (i 0).val / 1024 - 0 + 0 := congrFun ht 0
    have q1 : win0_7.index t (1 : Fin 2) = (i 1).val / 2048 - 0 + 0 := congrFun ht 1
    refine ⟨t, hft, ?_⟩
    rw [mem_blk7]
    intro a
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 2048 ≤ (i 1).val ∧ (i 1).val < win0_7.index t (1 : Fin 2) * 2048 + 2048; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 16384 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v8_0) = G6 m c
      ∧ r.2.mem ((c : Thread nD τ).loc main_v8_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c,
      kept_main_arg4 m r h c,
      kept_main_arg5 m r h c⟩)
    (run_main m ρ)

end Cert.Kernel2Ideal.Value

end
-- ==== Proof.Ffn.Spec.lean ====
module
public import proofs.«01_k».proof.Proof.Ffn.Value
public import Idealize.ShloMosaic.Lib.Pointwise
public import Idealize.ShloMosaic.Lib.Pipeline.ValueKit
@[expose] public section
set_option maxRecDepth 16384

/-! The feed-forward block's mathematics over the extended reals, row by row, and the kernel's own arithmetic read as it. -/

noncomputable section

namespace Cert.Ffn
open Idealize.ShloMosaic Idealize.ShloMosaic.TcCoe

/-- The row width, as a number of the format. -/
def width : EReal := Ideal.ofBits .f32 1157627904#32

/-- The mean of a row. -/
def mean (z : Fin 2048 → EReal) : EReal := Ideal.div (∑ x, z x) width

/-- Layer normalisation of a row `z`, gain `g`, offset `b`. -/
def lnRow (z g b : Fin 2048 → EReal) (d : Fin 2048) : EReal :=
  (z d - mean z) * Ideal.rsqrt (Ideal.div (∑ x, (z x - mean z) * (z x - mean z)) width + Ideal.ofBits .f32 925353388#32) * g d + b d

/-- The residual row: the input scaled, plus half the block's output. -/
def mixRow (x o : Fin 2048 → EReal) (d : Fin 2048) : EReal :=
  Ideal.ofBits .f32 1066940400#32 * x d + Ideal.ofBits .f32 1056964608#32 * o d

/-- One hidden entry: the gate's silu times the up projection. -/
def hid (x wg wu : Fin 2048 → EReal) : EReal :=
  (∑ k, x k * wg k) * Ideal.div 1 (1 + Ideal.exp (-∑ k, x k * wg k)) * ∑ k, x k * wu k

open Cert.Kernel2Ideal Cert.Kernel2Ideal.Gen

/-- The kernel's last step on 256 rows is the normalised residual. -/
theorem pay4_apply (v31 v36 : Vec Ideal S256x2048 .f32) (v41 v43 : Vec Ideal S1x2048 .f32) (r : Fin 256) (d : Fin 2048) :
    k0_pay4 v31 v36 v41 v43 (ix2 r d)
      = lnRow (mixRow (fun k => v31 (ix2 r k)) (fun k => v36 (ix2 r k))) (fun k => v41 (ix2 0 k)) (fun k => v43 (ix2 0 k)) d := by
  pointwise [k0_pay4]
  rfl

theorem pay5_apply (v31 v36 : Vec Ideal S256x2048 .f32) (v41 v43 : Vec Ideal S1x2048 .f32) (r : Fin 256) (d : Fin 2048) :
    k0_pay5 v31 v36 v41 v43 (ix2 r d)
      = lnRow (mixRow (fun k => v31 (ix2 r k)) (fun k => v36 (ix2 r k))) (fun k => v41 (ix2 0 k)) (fun k => v43 (ix2 0 k)) d := by
  pointwise [k0_pay5]
  rw [pay4_apply]

/-- One tile of the hidden width adds its share of the output row. -/
theorem pay3_apply (v3 : Vec Ideal S1024x2048 .bf16) (v4 v8 : Vec Ideal S2048x256 .f32) (v16 : Vec Ideal S1024x2048 .f32)
    (v18 : Vec Ideal S256x2048 .f32) (r : Fin 1024) (d : Fin 2048) :
    k0_pay3 v3 v4 v8 v16 v18 (ix2 r d)
      = v16 (ix2 r d) + ∑ j : Fin 256, hid (fun k => v3 (ix2 r k)) (fun k => v4 (ix2 k j)) (fun k => v8 (ix2 k j)) * v18 (ix2 j d) := by
  pointwise [k0_pay3]
  rfl

theorem pay2_apply (r : Fin 1024) (d : Fin 2048) : (k0_pay2 (F := Ideal)) (ix2 r d) = 0 := by
  pointwise [k0_pay2]

theorem pay1_apply (x : Vec Ideal S1024x2048 .f32) (r : Fin 1024) (k : Fin 2048) : k0_pay1 x (ix2 r k) = x (ix2 r k) := by
  pointwise [k0_pay1]

end Cert.Ffn
-- ==== Proof.Ffn.Rows.lean ====
module
public import proofs.«01_k».proof.Proof.Ffn.Spec
public import Idealize.ShloMosaic.Lib.WritesUnit
public import Idealize.ShloMosaic.Lib.VecWindow
@[expose] public section
set_option maxRecDepth 16384

/-! The last grid step of a row block normalises its rows, 256 at a time; what the four trips leave. -/

noncomputable section

namespace Cert.Ffn
open Idealize.ShloMosaic Idealize.ShloMosaic.TcCoe Idealize.SL.Sem Idealize.ShloMosaic.Tactic
open Cert.Kernel2Ideal Cert.Kernel2Ideal.Gen

theorem trips_eq : k0_t1_loop.trips = 4 := by decide +kernel

theorem off1_eq : ∀ k : Fin k0_t1_loop.trips, k0_off1 k = ![256 * k.val, 0] := by decide +kernel

/-- A load of 256 whole rows from row `o` on. -/
theorem readAt_rows {e : EltTy} (v : View sig .tc .vmem S1024x2048 e) {o : ℕ} {off : Fin 2 → ℕ}
    (inb : ∀ a : Fin 2, off a + S256x2048.size a ≤ S1024x2048.size a) (f : v.ty.Contents (Elt Ideal)) (ho : off = ![o, 0])
    (q : Fin 256) (r : Fin 1024) (d : Fin 2048) (h : o + q.val = r.val) :
    v.readAt (Elt Ideal) (Rect.unit (s := S1024x2048) off S256x2048.size inb).toLoadRect f (ix2 q d) = v.read (Elt Ideal) f (ix2 r d) := by
  subst ho
  refine congrArg (v.read (Elt Ideal) f) (funext fun a => Fin.ext ?_)
  match a with
  | ⟨0, _⟩ => show o + 1 * q.val = r.val; omega
  | ⟨1, _⟩ => show 0 + 1 * d.val = d.val; omega

section
variable (c : Dev nD) (𝒱 : Variants) (bd : Option 𝒱.V) (i : grid0.Coords) (arg2 : Memref sig .tc .vmem S1024x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole) (h2 : k0_cond2 i = 1#1)
 (X2 : BufTy.Contents (Elt Ideal) arg2.view.ty) (X6 : BufTy.Contents (Elt Ideal) arg6.view.ty) (X7 : BufTy.Contents (Elt Ideal) arg7.view.ty)
 (G8 : BufTy.Contents (Elt Ideal) arg8.view.ty) (G9 : BufTy.Contents (Elt Ideal) arg9.view.ty)

/-- The normalised row the trips leave at row `r`. -/
abbrev outRow (r : Fin 1024) : Fin 2048 → EReal :=
  lnRow (mixRow (fun k => arg2.view.read (Elt Ideal) X2 (ix2 r k)) (fun k => arg8.view.read (Elt Ideal) G8 (ix2 r k)))
    (fun k => arg6.view.read (Elt Ideal) X6 (ix2 0 k)) (fun k => arg7.view.read (Elt Ideal) X7 (ix2 0 k))

theorem trips_rows (n : ℕ) (hn : n ≤ 4) (r : Fin 1024) (d : Fin 2048) :
    (arg8.view.read (Elt Ideal) (arg8.view.writes (Elt Ideal) G8 (pb_k0_t1 𝒱 c bd i arg2 harg2 arg3 harg3 arg4 harg4 arg5 harg5 arg6 harg6 arg7 harg7 arg8 harg8 arg9 harg9 arg10 harg10 h2 X2 X6 X7 G8 G9 n).1) (ix2 r d)
      = if r.val < 256 * n then outRow arg2 arg6 arg7 arg8 X2 X6 X7 G8 r d else arg8.view.read (Elt Ideal) G8 (ix2 r d))
    ∧ (r.val < 256 * n → arg9.view.read (Elt Ideal) (arg9.view.writes (Elt Ideal) G9 (pb_k0_t1 𝒱 c bd i arg2 harg2 arg3 harg3 arg4 harg4 arg5 harg5 arg6 harg6 arg7 harg7 arg8 harg8 arg9 harg9 arg10 harg10 h2 X2 X6 X7 G8 G9 n).2) (ix2 r d)
      = outRow arg2 arg6 arg7 arg8 X2 X6 X7 G8 r d) := by
  induction n generalizing r d with
  | zero => exact ⟨rfl, fun h => absurd h (by omega)⟩
  | succ n ih =>
    have hk : n < k0_t1_loop.trips := by rw [trips_eq]; omega
    have e := pb_k0_t1_succ 𝒱 c bd i arg2 harg2 arg3 harg3 arg4 harg4 arg5 harg5 arg6 harg6 arg7 harg7 arg8 harg8 arg9 harg9 arg10 harg10 h2 X2 X6 X7 G8 G9 ⟨n, hk⟩
    dsimp only at e
    rw [e]
    unfold trip_k0_t1
    dsimp only
    sl_unfold_words
    rw [List.singleton_append, List.singleton_append]
    have ho := off1_eq ⟨n, hk⟩
    by_cases hr : 256 * n ≤ r.val ∧ r.val < 256 * n + 256
    · obtain ⟨hr1, hr2⟩ := hr
      have hrr : 256 * n + (⟨r.val - 256 * n, by omega⟩ : Fin 256).val = r.val := by show 256 * n + (r.val - 256 * n) = r.val; omega
      have hx0 : ((ix2 r d : S1024x2048.Idx) (0 : Fin 2)).val = 256 * n + ((ix2 ⟨r.val - 256 * n, by omega⟩ d : S256x2048.Idx) (0 : Fin 2)).val := hrr.symm
      constructor
      · rw [if_pos (by omega)]
        refine (View.read_writes_cons_rows_of_mem _ _ _ _ _ _ (ix2 ⟨r.val - 256 * n, by omega⟩ d) ho hx0 rfl).trans ?_
        rw [pay4_apply]
        congr 1
        · congr 1
          · funext x; exact readAt_rows _ _ _ ho _ _ _ hrr
          · funext x
            refine (readAt_rows _ _ _ ho _ _ _ hrr).trans (((ih (by omega) r x).1).trans (if_neg (by omega)))
        · funext x; exact congrFun (View.readAt_full _ _ _) _
        · funext x; exact congrFun (View.readAt_full _ _ _) _
      · intro _
        refine (View.read_writes_cons_rows_of_mem _ _ _ _ _ _ (ix2 ⟨r.val - 256 * n, by omega⟩ d) ho hx0 rfl).trans ?_
        rw [pay5_apply]
        congr 1
        · congr 1
          · funext x; exact readAt_rows _ _ _ ho _ _ _ hrr
          · funext x
            refine (readAt_rows _ _ _ ho _ _ _ hrr).trans (((ih (by omega) r x).1).trans (if_neg (by omega)))
        · funext x; exact congrFun (View.readAt_full _ _ _) _
        · funext x; exact congrFun (View.readAt_full _ _ _) _
    · constructor
      · refine (View.read_writes_cons_rows_of_not_mem (o := 256 * n) (W := 256) _ _ _ _ _ _ ho rfl ?_).trans ?_
        · show r.val < 256 * n ∨ 256 * n + 256 ≤ r.val; omega
        · rw [(ih (by omega) r d).1]
          by_cases h : r.val < 256 * n
          · rw [if_pos h, if_pos (by omega)]
          · rw [if_neg h, if_neg (by omega)]
      · intro h
        refine (View.read_writes_cons_rows_of_not_mem (o := 256 * n) (W := 256) _ _ _ _ _ _ ho rfl ?_).trans ((ih (by omega) r d).2 (by omega))
        show r.val < 256 * n ∨ 256 * n + 256 ≤ r.val; omega
end

end Cert.Ffn
-- ==== Proof.Ffn.Blocks.lean ====
module
public import proofs.«01_k».proof.Proof.Ffn.Spec
@[expose] public section
set_option maxRecDepth 16384

/-! What the blocks the grid steps read hold, in terms of the call's arguments. -/

noncomputable section

namespace Cert.Ffn
open Idealize.ShloMosaic Idealize.ShloMosaic.TcCoe Idealize.SL.Sem Idealize.ShloMosaic.Tactic
open Cert.Kernel2Ideal Cert.Kernel2Ideal.Gen Cert.Kernel2Ideal.Value

variable (m : (ℓ : Loc nD τ sig) → Buf (Elt Ideal) ℓ) (c : Dev nD)

/-- The arguments, as functions of their coordinates. -/
def X (r : Fin 16384) (k : Fin 2048) : EReal := m (c, Proc.tc.devRef main_arg0) (ix3 0 r k)
def Wg (k : Fin 2048) (f : Fin 5632) : EReal := m (c, Proc.tc.devRef main_arg1) (ix3 0 k f)
def Wu (k : Fin 2048) (f : Fin 5632) : EReal := m (c, Proc.tc.devRef main_arg2) (ix3 0 k f)
def Wd (f : Fin 5632) (d : Fin 2048) : EReal := m (c, Proc.tc.devRef main_arg3) (ix3 0 f d)
def Gn (d : Fin 2048) : EReal := m (c, Proc.tc.devRef main_arg4) (ix2 0 d)
def Bs (d : Fin 2048) : EReal := m (c, Proc.tc.devRef main_arg5) (ix2 0 d)

/-- A leading axis of extent one dropped. -/
theorem drop1 {n k : ℕ} (v : (⟨3, ![1, n, k]⟩ : Shape).Idx → EReal) (h : (⟨3, ![1, n, k]⟩ : Shape).ShapeCasts ⟨2, ![n, k]⟩)
    (i : Fin n) (j : Fin k) : shapeCast ⟨2, ![n, k]⟩ v h (ix2 i j) = v (ix3 0 i j) := by
  refine (shapeCast_dropUnit_apply ![n, k] v h (ix2 i j)).trans (congrArg v (funext fun a => ?_))
  match a with
  | ⟨0, _⟩ => rfl
  | ⟨1, _⟩ => rfl
  | ⟨2, _⟩ => rfl

theorem V0_apply (r : Fin 16384) (k : Fin 2048) : V m c main_v0 (ix2 r k) = X m c r k := by
  have : V m c main_v0 = (fun i => shapeCast S16384x2048 (m (c, Proc.tc.devRef main_arg0)) shapeCasts_S1x16384x2048_S16384x2048 i) := by
    unfold V hostOps0
    after_results
    rfl
  rw [this]
  exact drop1 _ _ r k

theorem V1_apply (r : Fin 2048) (k : Fin 5632) : V m c main_v1 (ix2 r k) = Wg m c r k := by
  have : V m c main_v1 = (fun i => shapeCast S2048x5632 (m (c, Proc.tc.devRef main_arg1)) shapeCasts_S1x2048x5632_S2048x5632 i) := by
    unfold V hostOps0
    after_results
    rfl
  rw [this]
  exact drop1 _ _ r k

theorem V2_apply (r : Fin 2048) (k : Fin 5632) : V m c main_v2 (ix2 r k) = Wu m c r k := by
  have : V m c main_v2 = (fun i => shapeCast S2048x5632 (m (c, Proc.tc.devRef main_arg2)) shapeCasts_S1x2048x5632_S2048x5632 i) := by
    unfold V hostOps0
    after_results
    rfl
  rw [this]
  exact drop1 _ _ r k

theorem V3_apply (r : Fin 5632) (k : Fin 2048) : V m c main_v3 (ix2 r k) = Wd m c r k := by
  have : V m c main_v3 = (fun i => shapeCast S5632x2048 (m (c, Proc.tc.devRef main_arg3)) shapeCasts_S1x5632x2048_S5632x2048 i) := by
    unfold V hostOps0
    after_results
    rfl
  rw [this]
  exact drop1 _ _ r k

theorem V5_apply (k : Fin 2048) : V m c main_v5 (ix2 0 k) = Gn m c k := by
  have : V m c main_v5 = m (c, Proc.tc.devRef main_arg4) := by
    unfold V hostOps0
    after_results
    exact shapeCast_shapeCast _ _ _
  rw [this]
  rfl

theorem V7_apply (k : Fin 2048) : V m c main_v7 (ix2 0 k) = Bs m c k := by
  have : V m c main_v7 = m (c, Proc.tc.devRef main_arg5) := by
    unfold V hostOps0
    after_results
    exact shapeCast_shapeCast _ _ _
  rw [this]
  rfl

theorem idx0 : ∀ t : Fin cfg0.N, win0_0.index t (0 : Fin 2) = t.val / 22 ∧ win0_0.index t (1 : Fin 2) = 0 :=
  (by decide +kernel : ∀ t : Fin grid0.N, _)

theorem iblk0_apply (t : Fin cfg0.N) (r : Fin 1024) (k : Fin 2048) (R : Fin 16384) (hR : R.val = t.val / 22 * 1024 + r.val) :
    iblk m c 0 t (ix2 r k) = X m c R k := by
  obtain ⟨e0, e1⟩ := idx0 t
  rw [← V0_apply]
  refine congrArg (V m c main_v0) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem idx1 : ∀ t : Fin cfg0.N, win0_1.index t (0 : Fin 2) = 0 ∧ win0_1.index t (1 : Fin 2) = t.val % 22 :=
  (by decide +kernel : ∀ t : Fin grid0.N, _)

theorem iblk1_apply (t : Fin cfg0.N) (r : Fin 2048) (k : Fin 256) (R : Fin 5632) (hR : R.val = t.val % 22 * 256 + k.val) :
    iblk m c 1 t (ix2 r k) = Wg m c r R := by
  obtain ⟨e0, e1⟩ := idx1 t
  rw [← V1_apply]
  refine congrArg (V m c main_v1) (funext fun a => Fin.ext ?_)
  match a with
  | ⟨0, _⟩ => show win0_1.index t (0 : Fin 2) * 2048 + 1 * r.val = r.val; omega
  | ⟨1, _⟩ => show win0_1.index t (1 : Fin 2) * 256 + 1 * k.val = R.val; omega

theorem idx2 : ∀ t : Fin cfg0.N, win0_2.index t (0 : Fin 2) = 0 ∧ win0_2.index t (1 : Fin 2) = t.val % 22 :=
  (by decide +kernel : ∀ t : Fin grid0.N, _)

theorem iblk2_apply (t : Fin cfg0.N) (r : Fin 2048) (k : Fin 256) (R : Fin 5632) (hR : R.val = t.val % 22 * 256 + k.val) :
    iblk m c 2 t (ix2 r k) = Wu m c r R := by
  obtain ⟨e0, e1⟩ := idx2 t
  rw [← V2_apply]
  refine congrArg (V m c main_v2) (funext fun a => Fin.ext ?_)
  match a with
  | ⟨0, _⟩ => show win0_2.index t (0 : Fin 2) * 2048 + 1 * r.val = r.val; omega
  | ⟨1, _⟩ => show win0_2.index t (1 : Fin 2) * 256 + 1 * k.val = R.val; omega

theorem idx3 : ∀ t : Fin cfg0.N, win0_3.index t (0 : Fin 2) = t.val % 22 ∧ win0_3.index t (1 : Fin 2) = 0 :=
  (by decide +kernel : ∀ t : Fin grid0.N, _)

theorem iblk3_apply (t : Fin cfg0.N) (r : Fin 256) (k : Fin 2048) (R : Fin 5632) (hR : R.val = t.val % 22 * 256 + r.val) :
    iblk m c 3 t (ix2 r k) = Wd m c R k := by
  obtain ⟨e0, e1⟩ := idx3 t
  rw [← V3_apply]
  refine congrArg (V m c main_v3) (funext fun a => Fin.ext ?_)
  match a with
  | ⟨0, _⟩ => show win0_3.index t (0 : Fin 2) * 256 + 1 * r.val = R.val; omega
  | ⟨1, _⟩ => show win0_3.index t (1 : Fin 2) * 2048 + 1 * k.val = k.val; omega

theorem idx4 : ∀ t : Fin cfg0.N, win0_4.index t (0 : Fin 2) = 0 ∧ win0_4.index t (1 : Fin 2) = 0 :=
  (by decide +kernel : ∀ t : Fin grid0.N, _)

theorem iblk4_apply (t : Fin cfg0.N) (k : Fin 2048) : iblk m c 4 t (ix2 0 k) = Gn m c k := by
  obtain ⟨e0, e1⟩ := idx4 t
  rw [← V5_apply]
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

theorem idx5 : ∀ t : Fin cfg0.N, win0_5.index t (0 : Fin 2) = 0 ∧ win0_5.index t (1 : Fin 2) = 0 :=
  (by decide +kernel : ∀ t : Fin grid0.N, _)

theorem iblk5_apply (t : Fin cfg0.N) (k : Fin 2048) : iblk m c 5 t (ix2 0 k) = Bs m c k := by
  obtain ⟨e0, e1⟩ := idx5 t
  rw [← V7_apply]
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 2048 + 1 * k.val = k.val; omega

end Cert.Ffn
-- ==== Proof.Ffn.Fold.lean ====
module
public import proofs.«01_k».proof.Proof.Ffn.Rows
public import proofs.«01_k».proof.Proof.Ffn.Blocks
public import Idealize.ShloMosaic.Lib.Pipeline.ReadBack
@[expose] public section
set_option maxRecDepth 16384

/-! The 22 tiles of the hidden width, added up step by step, and the rows the last step leaves. -/

noncomputable section

namespace Cert.Ffn
open Idealize.ShloMosaic Idealize.ShloMosaic.TcCoe Idealize.SL.Sem Idealize.ShloMosaic.Tactic
open Cert.Kernel2Ideal Cert.Kernel2Ideal.Gen Cert.Kernel2Ideal.Value

variable (m : (ℓ : Loc nD τ sig) → Buf (Elt Ideal) ℓ) (c : Dev nD)

/-- Hidden entry `f` of row `R`. -/
def hidAt (R : Fin 16384) (f : Fin 5632) : EReal := hid (X m c R) (fun k => Wg m c k f) (fun k => Wu m c k f)

/-- Its share of output `(R, d)`; zero past the hidden width. -/
def term (R : Fin 16384) (d : Fin 2048) (n : ℕ) : EReal :=
  if h : n < 5632 then hidAt m c R ⟨n, h⟩ * Wd m c ⟨n, h⟩ d else 0

/-- The tile a step adds. -/
theorem tile_eq (t : Fin cfg0.N) (xb : Vec Ideal S1024x2048 .bf16) (r : Fin 1024) (d : Fin 2048) (R : Fin 16384)
    (hx : ∀ k, xb (ix2 r k) = X m c R k) :
    ∑ j : Fin 256, hid (fun k => xb (ix2 r k)) (fun k => iblk m c 1 t (ix2 k j)) (fun k => iblk m c 2 t (ix2 k j)) * iblk m c 3 t (ix2 j d)
      = ∑ q ∈ Finset.range 256, term m c R d (256 * (t.val % 22) + q) := by
  rw [Finset.sum_range]
  refine Finset.sum_congr rfl fun j _ => ?_
  have hb : 256 * (t.val % 22) + j.val < 5632 := by have := Nat.mod_lt t.val (show 22 > 0 by norm_num); omega
  rw [term, dif_pos hb, hidAt]
  congr 1
  · congr 1
    · exact funext hx
    · funext k; exact iblk1_apply m c t k j _ (by show 256 * _ + _ = _; omega)
    · funext k; exact iblk2_apply m c t k j _ (by show 256 * _ + _ = _; omega)
  · exact iblk3_apply m c t j d _ (by show 256 * _ + _ = _; omega)

theorem sum_tiles (f : ℕ → EReal) (n : ℕ) :
    ∑ q ∈ Finset.range (256 * (n + 1)), f q = ∑ q ∈ Finset.range (256 * n), f q + ∑ q ∈ Finset.range 256, f (256 * n + q) := by
  rw [Nat.mul_add, Nat.mul_one, Finset.sum_range_add]

/-- Before the last step of a row block: the accumulator and the carried rows. -/
theorem acc_eq (n : ℕ) : ∀ (hn : n < cfg0.N) (h21 : ¬ n % 22 = 21) (r : Fin 1024) (R : Fin 16384) (hR : R.val = n / 22 * 1024 + r.val),
    (∀ d, (outsAt0 m c n hn).1 (ix2 r d) = ∑ q ∈ Finset.range (256 * (n % 22 + 1)), term m c R d q)
    ∧ ∀ k, (outsAt0 m c n hn).2.2 (ix2 r k) = X m c R k := by
  induction n with
  | zero =>
    intro hn h21 r R hR
    have e := outsAt0_A m c ⟨0, hn⟩ (Nat.zero_mod _) h21
    dsimp only at e
    rw [e]
    have hx : ∀ k, k0_pay1 (iblk m c 0 ⟨0, hn⟩) (ix2 r k) = X m c R k := fun k => by
      rw [pay1_apply]; exact iblk0_apply m c _ r k R hR
    constructor
    · intro d
      frame_out
      rw [pay3_apply, pay2_apply, tile_eq m c ⟨0, hn⟩ _ r d R hx, zero_add]
      refine Finset.sum_congr rfl fun q _ => ?_
      simp
    · intro k
      frame_out
      exact hx k
  | succ n ih =>
    intro hn h21 r R hR
    by_cases h0 : (n + 1) % 22 = 0
    · have e := outsAt0_A m c ⟨n + 1, hn⟩ h0 h21
      dsimp only at e
      rw [e]
      have hx : ∀ k, k0_pay1 (iblk m c 0 ⟨n + 1, hn⟩) (ix2 r k) = X m c R k := fun k => by
        rw [pay1_apply]; exact iblk0_apply m c _ r k R hR
      constructor
      · intro d
        frame_out
        rw [pay3_apply, pay2_apply, tile_eq m c ⟨n + 1, hn⟩ _ r d R hx, zero_add, h0]
        refine Finset.sum_congr rfl fun q _ => ?_
        simp
      · intro k
        frame_out
        exact hx k
    · have e := outsAt0_B m c ⟨n + 1, hn⟩ h0 h21
      dsimp only [Nat.add_sub_cancel] at e
      rw [e]
      have hl : n + 1 - 1 < cfg0.N := Nat.lt_of_le_of_lt (Nat.sub_le _ _) hn
      obtain ⟨i1, i2⟩ : (∀ d, (outsAt0 m c (n + 1 - 1) hl).1 (ix2 r d) = ∑ q ∈ Finset.range (256 * (n % 22 + 1)), term m c R d q)
          ∧ ∀ k, (outsAt0 m c (n + 1 - 1) hl).2.2 (ix2 r k) = X m c R k := ih (Nat.lt_of_succ_lt hn) (by omega) r R (by omega)
      constructor
      · intro d
        frame_out
        rw [read_unread_whole]
        rw [pay3_apply, tile_eq m c ⟨n + 1, hn⟩ _ r d R i2, i1 d, sum_tiles _ ((n + 1) % 22)]
        rw [show n % 22 + 1 = (n + 1) % 22 by omega]
      · intro k
        exact i2 k

end Cert.Ffn
-- ==== Proof.Ffn.Last.lean ====
module
public import proofs.«01_k».proof.Proof.Ffn.Fold
@[expose] public section
set_option maxRecDepth 16384

/-! What the last step of a row block leaves in the two results' buffers, and the two arrays after the call. -/

noncomputable section

namespace Cert.Ffn
open Idealize.ShloMosaic Idealize.ShloMosaic.TcCoe Idealize.SL.Sem Idealize.ShloMosaic.Tactic
open Cert.Kernel2Ideal Cert.Kernel2Ideal.Gen Cert.Kernel2Ideal.Value

variable (m : (ℓ : Loc nD τ sig) → Buf (Elt Ideal) ℓ) (c : Dev nD)

/-- The block's output row before the residual. -/
def ffnRow (R : Fin 16384) (d : Fin 2048) : EReal := ∑ q ∈ Finset.range 5632, term m c R d q

/-- The result row. -/
def resRow (R : Fin 16384) : Fin 2048 → EReal := lnRow (mixRow (X m c R) (ffnRow m c R)) (Gn m c) (Bs m c)

/-- The trips' row, at the blocks of the last step. -/
theorem outRow_eq (t : Fin cfg0.N) (h1 : t.val % 22 = 21) (r : Fin 1024) (R : Fin 16384) (hR : R.val = t.val / 22 * 1024 + r.val)
    (G8 : BufTy.Contents (Elt Ideal) (ms0_6 t).view.ty)
    (hG : ∀ d, (ms0_6 t).view.read (Elt Ideal) G8 (ix2 r d) = ffnRow m c R d) :
    outRow (ms0_0 t) (ms0_4 t) (ms0_5 t) (ms0_6 t) ((hs0_0 t).unread (iblk m c 0 t)) ((hs0_4 t).unread (iblk m c 4 t))
      ((hs0_5 t).unread (iblk m c 5 t)) G8 r = resRow m c R := by
  unfold outRow resRow
  rw [(hs0_0 t).read_unread, (hs0_4 t).read_unread, (hs0_5 t).read_unread]
  congr 1
  · congr 1
    · funext k; exact iblk0_apply m c t r k R hR
    · funext d; exact hG d
  · funext k; exact iblk4_apply m c t k
  · funext k; exact iblk5_apply m c t k

/-- The whole-block store before the trips: the last tile added. -/
theorem stored_eq (t : Fin cfg0.N) (h1 : t.val % 22 = 21) (hl : t.val - 1 < cfg0.N) (r : Fin 1024) (R : Fin 16384) (hR : R.val = t.val / 22 * 1024 + r.val) (d : Fin 2048)
    (f : BufTy.Contents (Elt Ideal) (ms0_6 t).view.ty) :
    (ms0_6 t).view.read (Elt Ideal) ((ms0_6 t).view.writes (Elt Ideal) f
      (lastRun.sl.H6_1 c (ms0_1 t) (hs0_1 t) (ms0_2 t) (hs0_2 t) (ms0_3 t) (hs0_3 t) (ms0_6 t) (hs0_6 t) scM0_0 (Memref.isWhole_whole _)
        (iblk m c 1 t) (iblk m c 2 t) (iblk m c 3 t) (outsAt0 m c (t.val - 1) hl).1 (outsAt0 m c (t.val - 1) hl).2.2)) (ix2 r d)
      = ffnRow m c R d := by
  obtain ⟨i1, i2⟩ := acc_eq m c (t.val - 1) hl (by omega) r R (by omega)
  unfold lastRun.sl.H6_1
  rw [View.read_writes_full]
  rw [View.readAt_full, View.readAt_full, View.readAt_full, View.readAt_full, View.readAt_full,
    (hs0_1 t).read_unread, (hs0_2 t).read_unread, (hs0_3 t).read_unread, (hs0_6 t).read_unread, (Memref.isWhole_whole _).read_unread]
  rw [pay3_apply, tile_eq m c t _ r d R i2, i1 d]
  rw [show (t.val - 1) % 22 + 1 = t.val % 22 by omega, ← sum_tiles, h1]
  rfl

theorem last_eq (t : Fin cfg0.N) (h1 : t.val % 22 = 21) (r : Fin 1024) (R : Fin 16384) (hR : R.val = t.val / 22 * 1024 + r.val) (d : Fin 2048) :
    (outsAt0 m c t.val t.isLt).1 (ix2 r d) = resRow m c R d ∧ (outsAt0 m c t.val t.isLt).2.1 (ix2 r d) = resRow m c R d := by
  have h0 : ¬ t.val % 22 = 0 := by omega
  have htr : Scf.trips (0#32) (Scalar.addi 0#32 4#32) 1#32 = 4 := by decide +kernel
  rw [outsAt0_C m c t h0 h1]
  have hr : r.val < 256 * 4 := by omega
  constructor
  · dsimp only
    rw [out0_C_6, View.read_writes_of_cover VO0_6 VO0_6.junk (ms0_6 t).view (ms0_6 t).view.junk _ (cover0_C_6 c _ _ _ _ _ _ _ _ _ _ _ _ _ _ _ _ _ _ _ _ _ _ _ _ _ _ _ _ _)]
    unfold kernelRun0_C lastRun
    dsimp only
    rw [View.writes_append, htr]
    refine ((trips_rows c _ _ _ _ _ _ _ _ _ _ _ _ _ _ _ _ _ _ _ _ _ _ _ _ _ _ _ 4 le_rfl r d).1).trans ?_
    rw [if_pos hr]
    exact congrFun (outRow_eq m c t h1 r R hR _ fun d => stored_eq m c t h1 _ r R hR d _) d
  · dsimp only
    rw [out0_C_7, View.read_writes_of_cover VO0_7 VO0_7.junk (ms0_7 t).view (ms0_7 t).view.junk _ (cover0_C_7 c _ _ _ _ _ _ _ _ _ _ _ _ _ _ _ _ _ _ _ _ _ _ _ _ _ _ _ _ _)]
    unfold kernelRun0_C lastRun
    dsimp only
    rw [htr]
    refine ((trips_rows c _ _ _ _ _ _ _ _ _ _ _ _ _ _ _ _ _ _ _ _ _ _ _ _ _ _ _ 4 le_rfl r d).2 hr).trans ?_
    exact congrFun (outRow_eq m c t h1 r R hR _ fun d => stored_eq m c t h1 _ r R hR d _) d

/-- The first result after the call. -/
theorem G6_apply (R : Fin 16384) (d : Fin 2048) : G6 m c (ix2 R d) = resRow m c R d := by
  have hp : pt6Of (ix2 R d) = 22 * (R.val / 1024) + 21 := by
    show 22 * (1 * (R.val / 1024 - 0) + 1 * (d.val / 2048 - 0)) + 21 = _
    have := d.isLt
    omega
  have hlt : 22 * (R.val / 1024) + 21 < cfg0.N := by rw [show cfg0.N = 352 from N_0]; have := R.isLt; omega
  unfold G6
  rw [dif_pos (by rw [hp]; exact hlt), ← outsAt0_sweep m c _ (by rw [hp]; exact hlt)]
  have key : ∀ n (hn : n < cfg0.N), n = 22 * (R.val / 1024) + 21 → (outsAt0 m c n hn).1 (loc6Of (ix2 R d)) = resRow m c R d := by
    rintro n hn rfl
    have e : loc6Of (ix2 R d) = ix2 (⟨R.val % 1024, by omega⟩ : Fin 1024) d := by
      funext a
      match a with
      | ⟨0, _⟩ => exact Fin.ext rfl
      | ⟨1, _⟩ => exact Fin.ext (Nat.mod_eq_of_lt d.isLt)
    rw [e]
    exact (last_eq m c ⟨_, hn⟩ (by show (22 * (R.val / 1024) + 21) % 22 = 21; omega) _ R (by show R.val = (22 * (R.val / 1024) + 21) / 22 * 1024 + R.val % 1024; omega) d).1
  exact key _ _ hp

/-- The second result after the call. -/
theorem G7_apply (R : Fin 16384) (d : Fin 2048) : G7 m c (ix2 R d) = resRow m c R d := by
  have hp : pt7Of (ix2 R d) = 22 * (R.val / 1024) + 21 := by
    show 22 * (1 * (R.val / 1024 - 0) + 1 * (d.val / 2048 - 0)) + 21 = _
    have := d.isLt
    omega
  have hlt : 22 * (R.val / 1024) + 21 < cfg0.N := by rw [show cfg0.N = 352 from N_0]; have := R.isLt; omega
  unfold G7
  rw [dif_pos (by rw [hp]; exact hlt), ← outsAt0_sweep m c _ (by rw [hp]; exact hlt)]
  have key : ∀ n (hn : n < cfg0.N), n = 22 * (R.val / 1024) + 21 → (outsAt0 m c n hn).2.1 (loc7Of (ix2 R d)) = resRow m c R d := by
    rintro n hn rfl
    have e : loc7Of (ix2 R d) = ix2 (⟨R.val % 1024, by omega⟩ : Fin 1024) d := by
      funext a
      match a with
      | ⟨0, _⟩ => exact Fin.ext rfl
      | ⟨1, _⟩ => exact Fin.ext (Nat.mod_eq_of_lt d.isLt)
    rw [e]
    exact (last_eq m c ⟨_, hn⟩ (by show (22 * (R.val / 1024) + 21) % 22 = 21; omega) _ R (by show R.val = (22 * (R.val / 1024) + 21) / 22 * 1024 + R.val % 1024; omega) d).2
  exact key _ _ hp

end Cert.Ffn
-- ==== Proof.Ffn.Ref.lean ====
module
public import proofs.«01_k».proof.Proof.Gen.Reference2Ideal.Run
public import proofs.«01_k».proof.Proof.Ffn.Spec
public import Idealize.ShloMosaic.Lib.Pointwise
public import Idealize.ShloMosaic.Lib.Tactic.CleanTypes
@[expose] public section
set_option maxRecDepth 16384

/-! The reference's two results, read as the same mathematics. -/

noncomputable section

namespace Cert.Ffn.Ref
open Idealize.ShloMosaic Idealize.ShloMosaic.TcCoe Idealize.SL.Sem Idealize.ShloMosaic.Tactic
open Cert.Reference2Ideal Cert.Reference2Ideal.Gen Cert.Reference2Ideal.Value

variable (m : (ℓ : Loc nD τ sig) → Buf (Elt Ideal) ℓ) (c : Dev nD)

/-- The result row, from the arguments. -/
def row (r : Fin 16384) : Fin 2048 → EReal :=
  lnRow (mixRow (fun k => m (c, Proc.tc.devRef main_arg0) (ix3 0 r k))
      (fun d => ∑ f : Fin 5632, hid (fun k => m (c, Proc.tc.devRef main_arg0) (ix3 0 r k)) (fun k => m (c, Proc.tc.devRef main_arg1) (ix3 0 k f))
        (fun k => m (c, Proc.tc.devRef main_arg2) (ix3 0 k f)) * m (c, Proc.tc.devRef main_arg3) (ix3 0 f d)))
    (fun d => m (c, Proc.tc.devRef main_arg4) (ix2 0 d)) (fun d => m (c, Proc.tc.devRef main_arg5) (ix2 0 d))

theorem v39_apply (r : Fin 16384) (d : Fin 2048) : res_main_v39 m c (ix2 r d) = row m c r d := by
  unfold res_main_v39
  clean_types
  pointwise
  rfl

theorem v41_apply (r : Fin 16384) (d : Fin 2048) : res_main_v41 m c (ix2 r d) = row m c r d := by
  unfold res_main_v41
  clean_types
  pointwise
  rfl

end Cert.Ffn.Ref
-- ==== Proof.Ffn.Claim.lean ====
module
public import proofs.«01_k».proof.Defs
public import proofs.«01_k».proof.Proof.Gen.Kernel2
public import proofs.«01_k».proof.Proof.Ffn.Last
public import proofs.«01_k».proof.Proof.Ffn.Ref
@[expose] public section
set_option maxRecDepth 16384

/-! The feed-forward call's claims. -/

noncomputable section

namespace Cert.Ffn
open Idealize.ShloMosaic Idealize.ShloMosaic.TcCoe Idealize.SL.Sem

/-- The two programs have the same text: the kernel's bodies are equal. -/
theorem defs0_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  obtain ⟨_ | n, h⟩ := l
  · rfl
  · exact absurd h (Nat.not_lt.2 (Nat.le_add_left _ _))

/-- So are the programs' definitions. -/
theorem defs_eq : @Cert.Kernel2.defs Bits _ Cert.Kernel2.Gen.facts = @Cert.Kernel2Ideal.defs Bits _ Cert.Kernel2Ideal.Gen.facts := by
  unfold Cert.Kernel2.defs Cert.Kernel2Ideal.defs
  rw [defs0_eq]
  rfl

/-- One run gives both frames. -/
theorem frame_kernel : Cert.quiescent_Kernel2 (hKernel2 := Cert.Kernel2.Gen.facts) := fun m ρ _ => by
  have h := Cert.Kernel2Ideal.Gen.frame (F := Bits) m ρ
  rw [← defs_eq] at h
  exact h

theorem frame_ideal : Cert.quiescent_Kernel2Ideal (hKernel2Ideal := Cert.Kernel2Ideal.Gen.facts) := fun m ρ _ => Cert.Kernel2Ideal.Gen.frame m ρ

theorem frame_reference : Cert.quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run (F := Ideal) m ρ)

/-- From equal arguments the kernel's row is the reference's. -/
theorem row_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e0 : m' (c, Proc.tc.devRef Cert.Reference2Ideal.main_arg0) = m (c, Proc.tc.devRef Cert.Kernel2Ideal.main_arg0))
    (e1 : m' (c, Proc.tc.devRef Cert.Reference2Ideal.main_arg1) = m (c, Proc.tc.devRef Cert.Kernel2Ideal.main_arg1))
    (e2 : m' (c, Proc.tc.devRef Cert.Reference2Ideal.main_arg2) = m (c, Proc.tc.devRef Cert.Kernel2Ideal.main_arg2))
    (e3 : m' (c, Proc.tc.devRef Cert.Reference2Ideal.main_arg3) = m (c, Proc.tc.devRef Cert.Kernel2Ideal.main_arg3))
    (e4 : m' (c, Proc.tc.devRef Cert.Reference2Ideal.main_arg4) = m (c, Proc.tc.devRef Cert.Kernel2Ideal.main_arg4))
    (e5 : m' (c, Proc.tc.devRef Cert.Reference2Ideal.main_arg5) = m (c, Proc.tc.devRef Cert.Kernel2Ideal.main_arg5))
    (r : Fin 16384) : Ref.row m' c r = resRow m c r := by
  have hs : ffnRow m c r = fun d => ∑ f : Fin 5632, hidAt m c r f * Wd m c f d := funext fun d => by
    unfold ffnRow
    rw [Finset.sum_range]
    exact Finset.sum_congr rfl fun f _ => by rw [term, dif_pos f.isLt]
  unfold Ref.row resRow
  rw [e0, e1, e2, e3, e4, e5, hs]
  rfl

theorem algebraic : Cert.algebraic_Kernel2Ideal_Reference2Ideal (hKernel2Ideal := Cert.Kernel2Ideal.Gen.facts) (hReference2Ideal := Cert.Reference2Ideal.Gen.facts) := by
  intro m ρ m' ρ' _ hag
  refine ⟨fun c => Cert.Kernel2Ideal.Value.G6 m c, fun c => Cert.Kernel2Ideal.Value.G7 m c, Cert.Kernel2Ideal.Value.run (F := Ideal) m ρ,
    (θ_run _ _ _).mono (fun r h c => ?_) (Cert.Reference2Ideal.Value.run (F := Ideal) m' ρ')⟩
  obtain ⟨e0, e1, e2, e3, e4, e5⟩ := hag c
  obtain ⟨h0, h1, h2⟩ := h c
  refine ⟨h0.trans (funext fun j => ?_), h1.trans (funext fun j => ?_), h2⟩
  · idx_vars j
    exact (Ref.v39_apply m' c _ _).trans ((congrFun (row_eq m m' c e0 e1 e2 e3 e4 e5 _) _).trans (G6_apply m c _ _).symm)
  · idx_vars j
    exact (Ref.v41_apply m' c _ _).trans ((congrFun (row_eq m m' c e0 e1 e2 e3 e4 e5 _) _).trans (G7_apply m c _ _).symm)

end Cert.Ffn
-- ==== Proof.Calls.Cut.lean ====
module
public import proofs.«01_k».proof.Proof.Ffn.Blocks
@[expose] public section
set_option maxRecDepth 16384

/-! Reading a slice of columns of an array with a leading axis of extent one. -/

noncomputable section

namespace Cert.Calls
open Idealize.ShloMosaic

/-- A slice of columns. -/
theorem cols {n k k' : ℕ} (o : ℕ) (v : (⟨2, ![n, k]⟩ : Shape).Idx → EReal) (h : (⟨2, ![n, k]⟩ : Shape).Slices ![0, o] ⟨2, ![n, k']⟩)
    (i : Fin n) (j : Fin k') (J : Fin k) (hJ : J.val = o + j.val) :
    extractStridedSlice ⟨2, ![n, k']⟩ ![0, o] v h (ix2 i j) = v (ix2 i J) :=
  extractStridedSlice_apply _ _ _ _ _ fun a => by
    match a with
    | ⟨0, _⟩ => show i.val = 0 + i.val; omega
    | ⟨1, _⟩ => exact hJ

/-- A slice of columns of an array whose leading unit axis is dropped. -/
theorem cut {n k k' : ℕ} (o : ℕ) (v : (⟨3, ![1, n, k]⟩ : Shape).Idx → EReal) (h : (⟨3, ![1, n, k]⟩ : Shape).ShapeCasts ⟨2, ![n, k]⟩)
    (h' : (⟨2, ![n, k]⟩ : Shape).Slices ![0, o] ⟨2, ![n, k']⟩) (i : Fin n) (j : Fin k') (J : Fin k) (hJ : J.val = o + j.val) :
    extractStridedSlice ⟨2, ![n, k']⟩ ![0, o] (shapeCast ⟨2, ![n, k]⟩ v h) h' (ix2 i j) = v (ix3 0 i J) :=
  (cols o _ h' i j J hJ).trans (Cert.Ffn.drop1 v h i J)

end Cert.Calls
-- ==== Proof.Calls.Qkv.lean ====
module
public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Calls.Cut
public import Idealize.ShloMosaic.Lib.Tactic.CleanTypes
@[expose] public section
set_option maxRecDepth 16384

/-! The projection to queries, keys and values: frames, and the equation with the matrix product. -/

noncomputable section

namespace Cert.Qkv
open Idealize.ShloMosaic Idealize.ShloMosaic.TcCoe Idealize.SL.Sem Idealize.ShloMosaic.Tactic
open Cert.Kernel3Ideal Cert.Kernel3Ideal.Gen Cert.Kernel3Ideal.Value

variable (m : (ℓ : Loc nD τ sig) → Buf (Elt Ideal) ℓ) (c : Dev nD)

/-- The arguments, as functions of their coordinates. -/
def X (r : Fin 16384) (k : Fin 2048) : EReal := m (c, Proc.tc.devRef main_arg0) (ix2 r k)
def W (k : Fin 2048) (d : Fin 6144) : EReal := m (c, Proc.tc.devRef main_arg1) (ix3 0 k ⟨d.val, by omega⟩)

theorem pay_apply (v0 : Vec Ideal S1024x2048 .bf16) (v1 : Vec Ideal S2048x1024 .bf16) (r d : Fin 1024) :
    k0_pay1 v0 v1 (ix2 r d) = ∑ k : Fin 2048, v0 (ix2 r k) * v1 (ix2 k d) := by
  pointwise [k0_pay1]

theorem V2_apply (k : Fin 2048) (d : Fin 6144) : V m c main_v2 (ix2 k d) = W m c k d := by
  have : V m c main_v2 = fun i => truncf (F := Ideal) .bf16 (extractStridedSlice S2048x6144 ![0, 0] (shapeCast S2048x12288 (m (c, Proc.tc.devRef main_arg1)) shapeCasts_S1x2048x12288_S2048x12288) slices_S2048x12288_S2048x6144_0_0) bitsLt_bf16_f32 i := by
    unfold V hostOps0
    after_results
    rfl
  rw [this]
  exact Calls.cut 0 _ shapeCasts_S1x2048x12288_S2048x12288 slices_S2048x12288_S2048x6144_0_0 k d ⟨d.val, by omega⟩ (Nat.zero_add _).symm

theorem idx0 : ∀ t : Fin cfg0.N, win0_0.index t (0 : Fin 2) = t.val / 6 ∧ win0_0.index t (1 : Fin 2) = 0 :=
  (by decide +kernel : ∀ t : Fin grid0.N, _)

theorem iblk0_apply (t : Fin cfg0.N) (r : Fin 1024) (k : Fin 2048) (R : Fin 16384) (hR : R.val = t.val / 6 * 1024 + r.val) :
    iblk m c 0 t (ix2 r k) = X m c R k := by
  obtain ⟨e0, e1⟩ := idx0 t
  have : V m c main_arg0 = m (c, Proc.tc.devRef main_arg0) := V_main_arg0 m c
  unfold X
  rw [← this]
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem idx1 : ∀ t : Fin cfg0.N, win0_1.index t (0 : Fin 2) = 0 ∧ win0_1.index t (1 : Fin 2) = t.val % 6 :=
  (by decide +kernel : ∀ t : Fin grid0.N, _)

theorem iblk1_apply (t : Fin cfg0.N) (k : Fin 2048) (d : Fin 1024) (D : Fin 6144) (hD : D.val = t.val % 6 * 1024 + d.val) :
    iblk m c 1 t (ix2 k d) = W m c k D := by
  obtain ⟨e0, e1⟩ := idx1 t
  rw [← V2_apply]
  refine congrArg (V m c main_v2) (funext fun a => Fin.ext ?_)
  match a with
  | ⟨0, _⟩ => show win0_1.index t (0 : Fin 2) * 2048 + 1 * k.val = k.val; omega
  | ⟨1, _⟩ => show win0_1.index t (1 : Fin 2) * 1024 + 1 * d.val = D.val; omega

theorem idx2 : ∀ t : Fin cfg0.N, win0_2.index t (0 : Fin 2) = t.val / 6 ∧ win0_2.index t (1 : Fin 2) = t.val % 6 ∧ (cfg0.win 2).flush t = true :=
  (by decide +kernel : ∀ t : Fin grid0.N, _)

/-- The array the call leaves is the matrix product. -/
theorem final_apply (R : Fin 16384) (D : Fin 6144) :
    (dats m 0 c).arrAt 2 cfg0.N (ix2 R D) = ∑ k : Fin 2048, X m c R k * W m c k D := by
  have hN : cfg0.N = 96 := N_0
  obtain ⟨t, ht⟩ : ∃ t : Fin cfg0.N, t.val = R.val / 1024 * 6 + D.val / 1024 := ⟨⟨R.val / 1024 * 6 + D.val / 1024, by omega⟩, rfl⟩
  obtain ⟨e0, e1, e2⟩ := idx2 t
  let y : (⟨2, ![1024, 1024]⟩ : Shape).Idx := ix2 (⟨R.val % 1024, Nat.mod_lt _ (by decide)⟩ : Fin 1024) (⟨D.val % 1024, Nat.mod_lt _ (by decide)⟩ : Fin 1024)
  have h := congrFun (blocks2 m c t e2) y
  rw [flushed2] at h
  refine (congrArg _ (funext fun a => Fin.ext ?_)).trans (h.trans ?_)
  · match a with
    | ⟨0, _⟩ => show R.val = win0_2.index t (0 : Fin 2) * 1024 + 1 * (R.val % 1024); omega
    | ⟨1, _⟩ => show D.val = win0_2.index t (1 : Fin 2) * 1024 + 1 * (D.val % 1024); omega
  · show out0_2 (iblk m c 0 t) (iblk m c 1 t) y = _
    frame_out
    refine (pay_apply _ _ _ _).trans (Finset.sum_congr rfl fun k _ => ?_)
    rw [iblk0_apply m c t _ k R (by show R.val = _ + R.val % 1024; omega), iblk1_apply m c t k _ D (by show D.val = _ + D.val % 1024; omega)]

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_reference : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run (F := Ideal) m ρ)

theorem algebraic : Cert.algebraic_Kernel3Ideal_Reference3Ideal (hKernel3Ideal := Cert.Kernel3Ideal.Gen.facts) (hReference3Ideal := Cert.Reference3Ideal.Gen.facts) := by
  intro m ρ m' ρ' _ hag
  refine ⟨fun c => (dats m 0 c).arrAt 2 cfg0.N, run_blocks m ρ,
    (θ_run _ _ _).mono (fun r h c => ⟨(h c).1.trans (funext fun j => ?_), (h c).2⟩) (Cert.Reference3Ideal.Value.run (F := Ideal) m' ρ')⟩
  obtain ⟨e0, e1⟩ := hag c
  obtain ⟨R, D, rfl⟩ : ∃ (R : Fin 16384) (D : Fin 6144), j = ix2 R D := ⟨j 0, j 1, eq_ix2 j⟩
  refine Eq.trans ?_ (final_apply m c R D).symm
  clean_types
  have hw : ∀ (k : Fin 2048), (extractStridedSlice Cert.Reference3Ideal.S2048x6144 ![0, 0] (shapeCast Cert.Reference3Ideal.S2048x12288 (m' (c, Proc.tc.devRef Cert.Reference3Ideal.main_arg1)) shapeCasts_S1x2048x12288_S2048x12288)
      slices_S2048x12288_S2048x6144_0_0) (ix2 k D) = W m c k D := fun k => by
    rw [e1]; exact Calls.cut 0 _ shapeCasts_S1x2048x12288_S2048x12288 slices_S2048x12288_S2048x6144_0_0 k D ⟨D.val, by omega⟩ (Nat.zero_add _).symm
  generalize extractStridedSlice (s := Cert.Reference3Ideal.S2048x12288) Cert.Reference3Ideal.S2048x6144 _ _ _ = w at hw ⊢
  pointwise
  refine Finset.sum_congr rfl fun k _ => ?_
  rw [hw]
  exact congrArg (· * _) (congrFun e0 _)

end Cert.Qkv
-- ==== Proof.Calls.Gate.lean ====
module
public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Calls.Cut
public import Idealize.ShloMosaic.Lib.Tactic.CleanTypes
@[expose] public section
set_option maxRecDepth 16384

/-! The gates' projection: frames, and the equation with the logistic of the matrix product. -/

noncomputable section

namespace Cert.Gate
open Idealize.ShloMosaic Idealize.ShloMosaic.TcCoe Idealize.SL.Sem Idealize.ShloMosaic.Tactic
open Cert.Kernel4Ideal Cert.Kernel4Ideal.Gen Cert.Kernel4Ideal.Value

variable (m : (ℓ : Loc nD τ sig) → Buf (Elt Ideal) ℓ) (c : Dev nD)

/-- The arguments, as functions of their coordinates. -/
def X (r : Fin 16384) (k : Fin 2048) : EReal := m (c, Proc.tc.devRef main_arg0) (ix2 r k)
def W (k : Fin 2048) (d : Fin 4096) : EReal := m (c, Proc.tc.devRef main_arg1) (ix3 0 k ⟨8192 + d.val, by omega⟩)

/-- The logistic function. -/
def gate (x : EReal) : EReal := Ideal.div 1 (1 + Ideal.exp (-x))

theorem pay_apply (v0 : Vec Ideal S1024x2048 .bf16) (v1 : Vec Ideal S2048x1024 .bf16) (r d : Fin 1024) :
    k0_pay1 v0 v1 (ix2 r d) = gate (∑ k : Fin 2048, v0 (ix2 r k) * v1 (ix2 k d)) := by
  pointwise [k0_pay1]
  rfl

theorem V2_apply (k : Fin 2048) (d : Fin 4096) : V m c main_v2 (ix2 k d) = W m c k d := by
  have : V m c main_v2 = fun i => truncf (F := Ideal) .bf16 (extractStridedSlice S2048x4096 ![0, 8192] (shapeCast S2048x12288 (m (c, Proc.tc.devRef main_arg1)) shapeCasts_S1x2048x12288_S2048x12288) slices_S2048x12288_S2048x4096_0_8192) bitsLt_bf16_f32 i := by
    unfold V hostOps0
    after_results
    rfl
  rw [this]
  exact Calls.cut 8192 _ shapeCasts_S1x2048x12288_S2048x12288 slices_S2048x12288_S2048x4096_0_8192 k d ⟨8192 + d.val, by omega⟩ rfl

theorem idx0 : ∀ t : Fin cfg0.N, win0_0.index t (0 : Fin 2) = t.val / 4 ∧ win0_0.index t (1 : Fin 2) = 0 :=
  (by decide +kernel : ∀ t : Fin grid0.N, _)

theorem iblk0_apply (t : Fin cfg0.N) (r : Fin 1024) (k : Fin 2048) (R : Fin 16384) (hR : R.val = t.val / 4 * 1024 + r.val) :
    iblk m c 0 t (ix2 r k) = X m c R k := by
  obtain ⟨e0, e1⟩ := idx0 t
  have : V m c main_arg0 = m (c, Proc.tc.devRef main_arg0) := V_main_arg0 m c
  unfold X
  rw [← this]
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem idx1 : ∀ t : Fin cfg0.N, win0_1.index t (0 : Fin 2) = 0 ∧ win0_1.index t (1 : Fin 2) = t.val % 4 :=
  (by decide +kernel : ∀ t : Fin grid0.N, _)

theorem iblk1_apply (t : Fin cfg0.N) (k : Fin 2048) (d : Fin 1024) (D : Fin 4096) (hD : D.val = t.val % 4 * 1024 + d.val) :
    iblk m c 1 t (ix2 k d) = W m c k D := by
  obtain ⟨e0, e1⟩ := idx1 t
  rw [← V2_apply]
  refine congrArg (V m c main_v2) (funext fun a => Fin.ext ?_)
  match a with
  | ⟨0, _⟩ => show win0_1.index t (0 : Fin 2) * 2048 + 1 * k.val = k.val; omega
  | ⟨1, _⟩ => show win0_1.index t (1 : Fin 2) * 1024 + 1 * d.val = D.val; omega

theorem idx2 : ∀ t : Fin cfg0.N, win0_2.index t (0 : Fin 2) = t.val / 4 ∧ win0_2.index t (1 : Fin 2) = t.val % 4 ∧ (cfg0.win 2).flush t = true :=
  (by decide +kernel : ∀ t : Fin grid0.N, _)

/-- The array the call leaves is the product's logistic. -/
theorem final_apply (R : Fin 16384) (D : Fin 4096) :
    (dats m 0 c).arrAt 2 cfg0.N (ix2 R D) = gate (∑ k : Fin 2048, X m c R k * W m c k D) := by
  have hN : cfg0.N = 64 := N_0
  obtain ⟨t, ht⟩ : ∃ t : Fin cfg0.N, t.val = R.val / 1024 * 4 + D.val / 1024 := ⟨⟨R.val / 1024 * 4 + D.val / 1024, by omega⟩, rfl⟩
  obtain ⟨e0, e1, e2⟩ := idx2 t
  let y : (⟨2, ![1024, 1024]⟩ : Shape).Idx := ix2 (⟨R.val % 1024, Nat.mod_lt _ (by decide)⟩ : Fin 1024) (⟨D.val % 1024, Nat.mod_lt _ (by decide)⟩ : Fin 1024)
  have h := congrFun (blocks2 m c t e2) y
  rw [flushed2] at h
  refine (congrArg _ (funext fun a => Fin.ext ?_)).trans (h.trans ?_)
  · match a with
    | ⟨0, _⟩ => show R.val = win0_2.index t (0 : Fin 2) * 1024 + 1 * (R.val % 1024); omega
    | ⟨1, _⟩ => show D.val = win0_2.index t (1 : Fin 2) * 1024 + 1 * (D.val % 1024); omega
  · show out0_2 (iblk m c 0 t) (iblk m c 1 t) y = _
    frame_out
    refine (pay_apply _ _ _ _).trans (congrArg gate <| Finset.sum_congr rfl fun k _ => ?_)
    rw [iblk0_apply m c t _ k R (by show R.val = _ + R.val % 1024; omega), iblk1_apply m c t k _ D (by show D.val = _ + D.val % 1024; omega)]

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_reference : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

theorem algebraic : Cert.algebraic_Kernel4Ideal_Reference4Ideal (hKernel4Ideal := Cert.Kernel4Ideal.Gen.facts) (hReference4Ideal := Cert.Reference4Ideal.Gen.facts) := by
  intro m ρ m' ρ' _ hag
  refine ⟨fun c => (dats m 0 c).arrAt 2 cfg0.N, run_blocks m ρ,
    (θ_run _ _ _).mono (fun r h c => ⟨(h c).1.trans (funext fun j => ?_), (h c).2⟩) (Cert.Reference4Ideal.Value.run (F := Ideal) m' ρ')⟩
  obtain ⟨e0, e1⟩ := hag c
  obtain ⟨R, D, rfl⟩ : ∃ (R : Fin 16384) (D : Fin 4096), j = ix2 R D := ⟨j 0, j 1, eq_ix2 j⟩
  refine Eq.trans ?_ (final_apply m c R D).symm
  clean_types
  have hw : ∀ (k : Fin 2048), (extractStridedSlice Cert.Reference4Ideal.S2048x4096 ![0, 8192] (shapeCast Cert.Reference4Ideal.S2048x12288 (m' (c, Proc.tc.devRef Cert.Reference4Ideal.main_arg1)) shapeCasts_S1x2048x12288_S2048x12288)
      slices_S2048x12288_S2048x4096_0_8192) (ix2 k D) = W m c k D := fun k => by
    rw [e1]; exact Calls.cut 8192 _ shapeCasts_S1x2048x12288_S2048x12288 slices_S2048x12288_S2048x4096_0_8192 k D ⟨8192 + D.val, by omega⟩ rfl
  generalize extractStridedSlice (s := Cert.Reference4Ideal.S2048x12288) Cert.Reference4Ideal.S2048x4096 _ _ _ = w at hw ⊢
  pointwise
  refine congrArg gate (Finset.sum_congr rfl fun k _ => ?_)
  rw [hw]
  exact congrArg (· * _) (congrFun e0 _)

end Cert.Gate
-- ==== Proof.Calls.Glu.lean ====
module
public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Calls.Cut
public import Idealize.ShloMosaic.Lib.Tactic.CleanTypes
@[expose] public section
set_option maxRecDepth 16384

/-! The convolution's gated projection: frames, and the equation with the two products. -/

noncomputable section

namespace Cert.Glu
open Idealize.ShloMosaic Idealize.ShloMosaic.TcCoe Idealize.SL.Sem Idealize.ShloMosaic.Tactic
open Cert.Kernel5Ideal Cert.Kernel5Ideal.Gen Cert.Kernel5Ideal.Value

variable (m : (ℓ : Loc nD τ sig) → Buf (Elt Ideal) ℓ) (c : Dev nD)

/-- The arguments, as functions of their coordinates: the value columns and the gate columns. -/
def X (r : Fin 16384) (k : Fin 2048) : EReal := m (c, Proc.tc.devRef main_arg0) (ix2 r k)
def Wa (k : Fin 2048) (d : Fin 1024) : EReal := m (c, Proc.tc.devRef main_arg1) (ix3 0 k ⟨6144 + d.val, by omega⟩)
def Wg (k : Fin 2048) (d : Fin 1024) : EReal := m (c, Proc.tc.devRef main_arg1) (ix3 0 k ⟨7168 + d.val, by omega⟩)

/-- The gated linear unit. -/
def glu (a g : EReal) : EReal := a * Ideal.div 1 (1 + Ideal.exp (-g))

theorem pay_apply (v0 : Vec Ideal S1024x2048 .bf16) (v1 v4 : Vec Ideal S2048x1024 .bf16) (r d : Fin 1024) :
    k0_pay1 v0 v1 v4 (ix2 r d) = glu (∑ k : Fin 2048, v0 (ix2 r k) * v1 (ix2 k d)) (∑ k : Fin 2048, v0 (ix2 r k) * v4 (ix2 k d)) := by
  pointwise [k0_pay1]
  rfl

theorem V2_apply (k : Fin 2048) (d : Fin 1024) : V m c main_v2 (ix2 k d) = Wa m c k d := by
  have : V m c main_v2 = fun i => truncf (F := Ideal) .bf16 (extractStridedSlice S2048x1024 ![0, 6144] (shapeCast S2048x12288 (m (c, Proc.tc.devRef main_arg1)) shapeCasts_S1x2048x12288_S2048x12288) slices_S2048x12288_S2048x1024_0_6144) bitsLt_bf16_f32 i := by
    unfold V hostOps0
    after_results
    rfl
  rw [this]
  exact Calls.cut 6144 _ shapeCasts_S1x2048x12288_S2048x12288 slices_S2048x12288_S2048x1024_0_6144 k d ⟨6144 + d.val, by omega⟩ rfl

theorem V4_apply (k : Fin 2048) (d : Fin 1024) : V m c main_v4 (ix2 k d) = Wg m c k d := by
  have : V m c main_v4 = fun i => truncf (F := Ideal) .bf16 (extractStridedSlice S2048x1024 ![0, 7168] (shapeCast S2048x12288 (m (c, Proc.tc.devRef main_arg1)) shapeCasts_S1x2048x12288_S2048x12288) slices_S2048x12288_S2048x1024_0_7168) bitsLt_bf16_f32 i := by
    unfold V hostOps0
    after_results
    rfl
  rw [this]
  exact Calls.cut 7168 _ shapeCasts_S1x2048x12288_S2048x12288 slices_S2048x12288_S2048x1024_0_7168 k d ⟨7168 + d.val, by omega⟩ rfl

theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ win0_3.index t (0 : Fin 2) = t.val ∧ win0_3.index t (1 : Fin 2) = 0 ∧ (cfg0.win 3).flush t = true :=
  (by decide +kernel : ∀ t : Fin grid0.N, _)

theorem iblk0_apply (t : Fin cfg0.N) (r : Fin 1024) (k : Fin 2048) (R : Fin 16384) (hR : R.val = t.val * 1024 + r.val) :
    iblk m c 0 t (ix2 r k) = X m c R k := by
  obtain ⟨⟨e0, e1⟩, -⟩ := idx t
  have : V m c main_arg0 = m (c, Proc.tc.devRef main_arg0) := V_main_arg0 m c
  unfold X
  rw [← this]
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem iblk1_apply (t : Fin cfg0.N) (k : Fin 2048) (d : Fin 1024) : iblk m c 1 t (ix2 k d) = Wa m c k d := by
  obtain ⟨-, ⟨e0, e1⟩, -⟩ := idx t
  rw [← V2_apply]
  refine congrArg (V m c main_v2) (funext fun a => Fin.ext ?_)
  match a with
  | ⟨0, _⟩ => show win0_1.index t (0 : Fin 2) * 2048 + 1 * k.val = k.val; omega
  | ⟨1, _⟩ => show win0_1.index t (1 : Fin 2) * 1024 + 1 * d.val = d.val; omega

theorem iblk2_apply (t : Fin cfg0.N) (k : Fin 2048) (d : Fin 1024) : iblk m c 2 t (ix2 k d) = Wg m c k d := by
  obtain ⟨-, -, ⟨e0, e1⟩, -⟩ := idx t
  rw [← V4_apply]
  refine congrArg (V m c main_v4) (funext fun a => Fin.ext ?_)
  match a with
  | ⟨0, _⟩ => show win0_2.index t (0 : Fin 2) * 2048 + 1 * k.val = k.val; omega
  | ⟨1, _⟩ => show win0_2.index t (1 : Fin 2) * 1024 + 1 * d.val = d.val; omega

/-- The array the call leaves. -/
theorem final_apply (R : Fin 16384) (D : Fin 1024) :
    (dats m 0 c).arrAt 3 cfg0.N (ix2 R D) = glu (∑ k : Fin 2048, X m c R k * Wa m c k D) (∑ k : Fin 2048, X m c R k * Wg m c k D) := by
  have hN : cfg0.N = 16 := N_0
  obtain ⟨t, ht⟩ : ∃ t : Fin cfg0.N, t.val = R.val / 1024 := ⟨⟨R.val / 1024, by omega⟩, rfl⟩
  obtain ⟨-, -, -, e0, e1, e2⟩ := idx t
  let y : (⟨2, ![1024, 1024]⟩ : Shape).Idx := ix2 (⟨R.val % 1024, Nat.mod_lt _ (by decide)⟩ : Fin 1024) D
  have h := congrFun (blocks3 m c t e2) y
  rw [flushed3] at h
  refine (congrArg _ (funext fun a => Fin.ext ?_)).trans (h.trans ?_)
  · match a with
    | ⟨0, _⟩ => show R.val = win0_3.index t (0 : Fin 2) * 1024 + 1 * (R.val % 1024); omega
    | ⟨1, _⟩ => show D.val = win0_3.index t (1 : Fin 2) * 1024 + 1 * D.val; omega
  · show out0_3 (iblk m c 0 t) (iblk m c 1 t) (iblk m c 2 t) y = _
    frame_out
    have hr : ∀ k, iblk m c 0 t (ix2 (⟨R.val % 1024, Nat.mod_lt _ (by decide)⟩ : Fin 1024) k) = X m c R k := fun k =>
      iblk0_apply m c t _ k R (by show R.val = _ + R.val % 1024; omega)
    refine (pay_apply _ _ _ _ _).trans (congrArg₂ glu (Finset.sum_congr rfl fun k _ => ?_) (Finset.sum_congr rfl fun k _ => ?_))
    · rw [hr, iblk1_apply]
    · rw [hr, iblk2_apply]

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

theorem frame_reference : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run (F := Ideal) m ρ)

theorem algebraic : Cert.algebraic_Kernel5Ideal_Reference5Ideal (hKernel5Ideal := Cert.Kernel5Ideal.Gen.facts) (hReference5Ideal := Cert.Reference5Ideal.Gen.facts) := by
  intro m ρ m' ρ' _ hag
  refine ⟨fun c => (dats m 0 c).arrAt 3 cfg0.N, run_blocks m ρ,
    (θ_run _ _ _).mono (fun r h c => ⟨(h c).1.trans (funext fun j => ?_), (h c).2⟩) (Cert.Reference5Ideal.Value.run (F := Ideal) m' ρ')⟩
  obtain ⟨e0, e1⟩ := hag c
  obtain ⟨R, D, rfl⟩ : ∃ (R : Fin 16384) (D : Fin 1024), j = ix2 R D := ⟨j 0, j 1, eq_ix2 j⟩
  refine Eq.trans ?_ (final_apply m c R D).symm
  clean_types
  have hw : ∀ (k : Fin 2048) (d : Fin 2048), (extractStridedSlice Cert.Reference5Ideal.S2048x2048 ![0, 6144] (shapeCast Cert.Reference5Ideal.S2048x12288 (m' (c, Proc.tc.devRef Cert.Reference5Ideal.main_arg1)) shapeCasts_S1x2048x12288_S2048x12288)
      Cert.Reference5Ideal.Gen.slices_S2048x12288_S2048x2048_0_6144) (ix2 k d) = m (c, Proc.tc.devRef main_arg1) (ix3 0 k ⟨6144 + d.val, by omega⟩) := fun k d => by
    rw [e1]; exact Calls.cut 6144 _ shapeCasts_S1x2048x12288_S2048x12288 Cert.Reference5Ideal.Gen.slices_S2048x12288_S2048x2048_0_6144 k d ⟨6144 + d.val, by omega⟩ rfl
  generalize extractStridedSlice (s := Cert.Reference5Ideal.S2048x12288) Cert.Reference5Ideal.S2048x2048 _ _ _ = w at hw ⊢
  pointwise
  refine congrArg₂ glu (Finset.sum_congr rfl fun k _ => ?_) (Finset.sum_congr rfl fun k _ => ?_)
  · rw [hw]
    exact congrArg₂ (· * ·) (congrFun e0 _) (congrArg _ (funext fun a => Fin.ext (by match a with | ⟨0, _⟩ => rfl | ⟨1, _⟩ => rfl | ⟨2, _⟩ => rfl)))
  · rw [hw]
    exact congrArg₂ (· * ·) (congrFun e0 _) (congrArg _ (funext fun a => Fin.ext (by match a with | ⟨0, _⟩ => rfl | ⟨1, _⟩ => rfl | ⟨2, _⟩ => (show 6144 + (1024 + D.val) = 7168 + D.val; omega))))

end Cert.Glu
-- ==== Proof.Calls.Merge.lean ====
module
public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Calls.Cut
public import Idealize.ShloMosaic.Lib.Tactic.CleanTypes
@[expose] public section
set_option maxRecDepth 16384

/-! The merge of the two branches: frames, and the equation with the gated sum of the two products. -/

noncomputable section

namespace Cert.Merge
open Idealize.ShloMosaic Idealize.ShloMosaic.TcCoe Idealize.SL.Sem Idealize.ShloMosaic.Tactic
open Cert.Kernel6Ideal Cert.Kernel6Ideal.Gen Cert.Kernel6Ideal.Value

variable (m : (ℓ : Loc nD τ sig) → Buf (Elt Ideal) ℓ) (c : Dev nD)

/-- The arguments, as functions of their coordinates. -/
def O (r : Fin 16384) (k : Fin 2048) : EReal := m (c, Proc.tc.devRef main_arg0) (ix2 r k)
def H (r : Fin 16384) (k : Fin 1024) : EReal := m (c, Proc.tc.devRef main_arg1) (ix2 r k)
def G (r : Fin 16384) (k : Fin 4096) : EReal := m (c, Proc.tc.devRef main_arg2) (ix2 r k)
def Wa (k : Fin 2048) (d : Fin 2048) : EReal := m (c, Proc.tc.devRef main_arg3) (ix3 0 k d)
def Wc (k : Fin 1024) (d : Fin 2048) : EReal := m (c, Proc.tc.devRef main_arg4) (ix3 0 k d)

theorem pay_apply (v0 : Vec Ideal S1024x2048 .bf16) (v1 : Vec Ideal S2048x1024 .bf16) (v4 v5 v8 v11 : Vec Ideal S1024x1024 .bf16) (r d : Fin 1024) :
    k0_pay1 v0 v1 v4 v5 v8 v11 (ix2 r d) = v8 (ix2 r d) * (∑ k : Fin 2048, v0 (ix2 r k) * v1 (ix2 k d)) + v11 (ix2 r d) * ∑ k : Fin 1024, v4 (ix2 r k) * v5 (ix2 k d) := by
  pointwise [k0_pay1]

theorem V1_apply (k : Fin 2048) (d : Fin 2048) : V m c main_v1 (ix2 k d) = Wa m c k d := by
  have : V m c main_v1 = fun i => truncf (F := Ideal) .bf16 (shapeCast S2048x2048 (m (c, Proc.tc.devRef main_arg3)) shapeCasts_S1x2048x2048_S2048x2048) bitsLt_bf16_f32 i := by
    unfold V hostOps0
    after_results
    rfl
  rw [this]
  exact Ffn.drop1 _ shapeCasts_S1x2048x2048_S2048x2048 k d

theorem V3_apply (k : Fin 1024) (d : Fin 2048) : V m c main_v3 (ix2 k d) = Wc m c k d := by
  have : V m c main_v3 = fun i => truncf (F := Ideal) .bf16 (shapeCast S1024x2048 (m (c, Proc.tc.devRef main_arg4)) shapeCasts_S1x1024x2048_S1024x2048) bitsLt_bf16_f32 i := by
    unfold V hostOps0
    after_results
    rfl
  rw [this]
  exact Ffn.drop1 _ shapeCasts_S1x1024x2048_S1024x2048 k d

theorem idx : ∀ t : Fin cfg0.N, (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = t.val / 2 ∧ win0_2.index t (1 : Fin 2) = t.val % 2)
    ∧ (win0_3.index t (0 : Fin 2) = t.val / 2 ∧ win0_3.index t (1 : Fin 2) = 2 + t.val % 2)
    ∧ (win0_4.index t (0 : Fin 2) = 0 ∧ win0_4.index t (1 : Fin 2) = t.val % 2)
    ∧ (win0_5.index t (0 : Fin 2) = 0 ∧ win0_5.index t (1 : Fin 2) = t.val % 2)
    ∧ win0_6.index t (0 : Fin 2) = t.val / 2 ∧ win0_6.index t (1 : Fin 2) = t.val % 2 ∧ (cfg0.win 6).flush t = true :=
  (by decide +kernel : ∀ t : Fin grid0.N, _)

variable (t : Fin cfg0.N) (R : Fin 16384) (r : Fin 1024) (D : Fin 2048) (d : Fin 1024)

theorem iblk0_apply (hR : R.val = t.val / 2 * 1024 + r.val) (k : Fin 2048) : iblk m c 0 t (ix2 r k) = O m c R k := by
  obtain ⟨⟨e0, e1⟩, -⟩ := idx t
  refine Eq.trans ?_ (congrFun (V_main_arg0 m c) (ix2 R k))
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

theorem iblk1_apply (hR : R.val = t.val / 2 * 1024 + r.val) (k : Fin 1024) : iblk m c 1 t (ix2 r k) = H m c R k := by
  obtain ⟨-, ⟨e0, e1⟩, -⟩ := idx t
  refine Eq.trans ?_ (congrFun (V_main_arg1 m c) (ix2 R k))
  refine congrArg (V m c main_arg1) (funext fun a => Fin.ext ?_)
  match a with
  | ⟨0, _⟩ => show win0_1.index t (0 : Fin 2) * 1024 + 1 * r.val = R.val; omega
  | ⟨1, _⟩ => show win0_1.index t (1 : Fin 2) * 1024 + 1 * k.val = k.val; omega

theorem iblk2_apply (hR : R.val = t.val / 2 * 1024 + r.val) (hD : D.val = t.val % 2 * 1024 + d.val) :
    iblk m c 2 t (ix2 r d) = G m c R ⟨D.val, by omega⟩ := by
  obtain ⟨-, -, ⟨e0, e1⟩, -⟩ := idx t
  refine Eq.trans ?_ (congrFun (V_main_arg2 m c) (ix2 R ⟨D.val, by omega⟩))
  refine congrArg (V m c main_arg2) (funext fun a => Fin.ext ?_)
  match a with
  | ⟨0, _⟩ => show win0_2.index t (0 : Fin 2) * 1024 + 1 * r.val = R.val; omega
  | ⟨1, _⟩ => show win0_2.index t (1 : Fin 2) * 1024 + 1 * d.val = D.val; omega

theorem iblk3_apply (hR : R.val = t.val / 2 * 1024 + r.val) (hD : D.val = t.val % 2 * 1024 + d.val) :
    iblk m c 3 t (ix2 r d) = G m c R ⟨2048 + D.val, by omega⟩ := by
  obtain ⟨-, -, -, ⟨e0, e1⟩, -⟩ := idx t
  refine Eq.trans ?_ (congrFun (V_main_arg2 m c) (ix2 R ⟨2048 + D.val, by omega⟩))
  refine congrArg (V m c main_arg2) (funext fun a => Fin.ext ?_)
  match a with
  | ⟨0, _⟩ => show win0_3.index t (0 : Fin 2) * 1024 + 1 * r.val = R.val; omega
  | ⟨1, _⟩ => show win0_3.index t (1 : Fin 2) * 1024 + 1 * d.val = 2048 + D.val; omega

theorem iblk4_apply (hD : D.val = t.val % 2 * 1024 + d.val) (k : Fin 2048) : iblk m c 4 t (ix2 k d) = Wa m c k D := by
  obtain ⟨-, -, -, -, ⟨e0, e1⟩, -⟩ := idx t
  rw [← V1_apply]
  refine congrArg (V m c main_v1) (funext fun a => Fin.ext ?_)
  match a with
  | ⟨0, _⟩ => show win0_4.index t (0 : Fin 2) * 2048 + 1 * k.val = k.val; omega
  | ⟨1, _⟩ => show win0_4.index t (1 : Fin 2) * 1024 + 1 * d.val = D.val; omega

theorem iblk5_apply (hD : D.val = t.val % 2 * 1024 + d.val) (k : Fin 1024) : iblk m c 5 t (ix2 k d) = Wc m c k D := by
  obtain ⟨-, -, -, -, -, ⟨e0, e1⟩, -⟩ := idx t
  rw [← V3_apply]
  refine congrArg (V m c main_v3) (funext fun a => Fin.ext ?_)
  match a with
  | ⟨0, _⟩ => show win0_5.index t (0 : Fin 2) * 1024 + 1 * k.val = k.val; omega
  | ⟨1, _⟩ => show win0_5.index t (1 : Fin 2) * 1024 + 1 * d.val = D.val; omega

/-- The gated sum of the two branches' products. -/
def merged : EReal := G m c R ⟨D.val, by omega⟩ * (∑ k : Fin 2048, O m c R k * Wa m c k D)
  + G m c R ⟨2048 + D.val, by omega⟩ * ∑ k : Fin 1024, H m c R k * Wc m c k D

/-- The array the call leaves. -/
theorem final_apply : (dats m 0 c).arrAt 6 cfg0.N (ix2 R D) = merged m c R D := by
  have hN : cfg0.N = 32 := N_0
  obtain ⟨t, ht⟩ : ∃ t : Fin cfg0.N, t.val = R.val / 1024 * 2 + D.val / 1024 := ⟨⟨R.val / 1024 * 2 + D.val / 1024, by omega⟩, rfl⟩
  obtain ⟨r, hr⟩ : ∃ r : Fin 1024, r.val = R.val % 1024 := ⟨⟨_, Nat.mod_lt _ (by decide)⟩, rfl⟩
  obtain ⟨d, hd⟩ : ∃ d : Fin 1024, d.val = D.val % 1024 := ⟨⟨_, Nat.mod_lt _ (by decide)⟩, rfl⟩
  obtain ⟨-, -, -, -, -, -, e0, e1, e2⟩ := idx t
  have hR : R.val = t.val / 2 * 1024 + r.val := by omega
  have hD : D.val = t.val % 2 * 1024 + d.val := by omega
  have h := congrFun (blocks6 m c t e2) (ix2 r d)
  rw [flushed6] at h
  refine (congrArg _ (funext fun a => Fin.ext ?_)).trans (h.trans ?_)
  · match a with
    | ⟨0, _⟩ => show R.val = win0_6.index t (0 : Fin 2) * 1024 + 1 * r.val; omega
    | ⟨1, _⟩ => show D.val = win0_6.index t (1 : Fin 2) * 1024 + 1 * d.val; omega
  · show out0_6 (iblk m c 0 t) (iblk m c 1 t) (iblk m c 2 t) (iblk m c 3 t) (iblk m c 4 t) (iblk m c 5 t) (ix2 r d) = _
    frame_out
    refine (pay_apply _ _ _ _ _ _ _ _).trans ?_
    simp only [iblk0_apply m c t R r hR, iblk1_apply m c t R r hR, iblk2_apply m c t R r D d hR hD, iblk3_apply m c t R r D d hR hD, iblk4_apply m c t D d hD, iblk5_apply m c t D d hD]
    rfl

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

theorem frame_reference : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run (F := Ideal) m ρ)

theorem algebraic : Cert.algebraic_Kernel6Ideal_Reference6Ideal (hKernel6Ideal := Cert.Kernel6Ideal.Gen.facts) (hReference6Ideal := Cert.Reference6Ideal.Gen.facts) := by
  intro m ρ m' ρ' _ hag
  refine ⟨fun c => (dats m 0 c).arrAt 6 cfg0.N, run_blocks m ρ,
    (θ_run _ _ _).mono (fun r h c => ⟨(h c).1.trans (funext fun j => ?_), (h c).2⟩) (Cert.Reference6Ideal.Value.run (F := Ideal) m' ρ')⟩
  obtain ⟨e0, e1, e2, e3, e4⟩ := hag c
  obtain ⟨R, D, rfl⟩ : ∃ (R : Fin 16384) (D : Fin 2048), j = ix2 R D := ⟨j 0, j 1, eq_ix2 j⟩
  refine Eq.trans ?_ (final_apply m c R D).symm
  rw [e0, e1, e2, e3, e4]
  clean_types
  have ha : ∀ (k d : Fin 2048), shapeCast S2048x2048 (m (c, Proc.tc.devRef main_arg3)) shapeCasts_S1x2048x2048_S2048x2048 (ix2 k d) = Wa m c k d := fun k d =>
    Ffn.drop1 _ shapeCasts_S1x2048x2048_S2048x2048 k d
  have hc : ∀ (k : Fin 1024) (d : Fin 2048), shapeCast S1024x2048 (m (c, Proc.tc.devRef main_arg4)) shapeCasts_S1x1024x2048_S1024x2048 (ix2 k d) = Wc m c k d := fun k d =>
    Ffn.drop1 _ shapeCasts_S1x1024x2048_S1024x2048 k d
  generalize shapeCast (s := S1x2048x2048) _ _ _ = wa at ha ⊢
  generalize shapeCast (s := S1x1024x2048) _ _ _ = wc at hc ⊢
  pointwise
  simp only [ha, hc]
  exact congrArg₂ (· + ·) (congrArg (· * _) (congrArg _ (funext fun a => Fin.ext (by match a with | ⟨0, _⟩ => rfl | ⟨1, _⟩ => rfl))))
    (congrArg (· * _) (congrArg _ (funext fun a => Fin.ext (by match a with | ⟨0, _⟩ => rfl | ⟨1, _⟩ => rfl))))

end Cert.Merge
-- ==== Proof.Calls.Out.lean ====
module
public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Calls.Cut
public import Idealize.ShloMosaic.Lib.Tactic.CleanTypes
@[expose] public section
set_option maxRecDepth 16384

/-! The output projection with its residual and layer normalisation: frames, and the equation with the normalised row. -/

noncomputable section

namespace Cert.Out
open Idealize.ShloMosaic Idealize.ShloMosaic.TcCoe Idealize.SL.Sem Idealize.ShloMosaic.Tactic
open Cert.Kernel7Ideal Cert.Kernel7Ideal.Gen Cert.Kernel7Ideal.Value

variable (m : (ℓ : Loc nD τ sig) → Buf (Elt Ideal) ℓ) (c : Dev nD)

/-- The arguments, as functions of their coordinates. -/
def M (r : Fin 16384) (k : Fin 2048) : EReal := m (c, Proc.tc.devRef main_arg0) (ix2 r k)
def H (r : Fin 16384) (k : Fin 2048) : EReal := m (c, Proc.tc.devRef main_arg1) (ix3 0 r k)
def W (k : Fin 2048) (d : Fin 2048) : EReal := m (c, Proc.tc.devRef main_arg2) (ix3 0 k d)
def Gn (d : Fin 2048) : EReal := m (c, Proc.tc.devRef main_arg3) (ix2 0 d)
def Bs (d : Fin 2048) : EReal := m (c, Proc.tc.devRef main_arg4) (ix2 0 d)

/-- A row before normalisation: the residual scaled, plus the projected row. -/
def preRow (h x : Fin 2048 → EReal) (w : Fin 2048 → Fin 2048 → EReal) (d : Fin 2048) : EReal :=
  Ideal.ofBits .f32 1066940400#32 * h d + ∑ k, x k * w k d

theorem pay_apply (v0 : Vec Ideal S512x2048 .bf16) (v1 : Vec Ideal S2048x2048 .bf16) (v4 : Vec Ideal S512x2048 .f32) (v9 v11 : Vec Ideal S1x2048 .f32)
    (r : Fin 512) (d : Fin 2048) :
    k0_pay1 v0 v1 v4 v9 v11 (ix2 r d) = Ffn.lnRow (preRow (fun k => v4 (ix2 r k)) (fun k => v0 (ix2 r k)) (fun k d => v1 (ix2 k d)))
      (fun d => v9 (ix2 0 d)) (fun d => v11 (ix2 0 d)) d := by
  pointwise [k0_pay1]
  rfl

theorem V0_apply (r : Fin 16384) (k : Fin 2048) : V m c main_v0 (ix2 r k) = H m c r k := by
  have : V m c main_v0 = fun i => shapeCast S16384x2048 (m (c, Proc.tc.devRef main_arg1)) shapeCasts_S1x16384x2048_S16384x2048 i := by
    unfold V hostOps0
    after_results
    rfl
  rw [this]
  exact Ffn.drop1 _ shapeCasts_S1x16384x2048_S16384x2048 r k

theorem V2_apply (k : Fin 2048) (d : Fin 2048) : V m c main_v2 (ix2 k d) = W m c k d := by
  have : V m c main_v2 = fun i => truncf (F := Ideal) .bf16 (shapeCast S2048x2048 (m (c, Proc.tc.devRef main_arg2)) shapeCasts_S1x2048x2048_S2048x2048) bitsLt_bf16_f32 i := by
    unfold V hostOps0
    after_results
    rfl
  rw [this]
  exact Ffn.drop1 _ shapeCasts_S1x2048x2048_S2048x2048 k d

theorem V4_apply (k : Fin 2048) : V m c main_v4 (ix2 0 k) = Gn m c k := by
  have : V m c main_v4 = m (c, Proc.tc.devRef main_arg3) := by
    unfold V hostOps0
    after_results
    exact shapeCast_shapeCast _ _ _
  rw [this]
  rfl

theorem V6_apply (k : Fin 2048) : V m c main_v6 (ix2 0 k) = Bs m c k := by
  have : V m c main_v6 = m (c, Proc.tc.devRef main_arg4) := by
    unfold V hostOps0
    after_results
    exact shapeCast_shapeCast _ _ _
  rw [this]
  rfl

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 2) = t.val ∧ win0_5.index t (1 : Fin 2) = 0 ∧ (cfg0.win 5).flush t = true :=
  (by decide +kernel : ∀ t : Fin grid0.N, _)

variable (t : Fin cfg0.N) (R : Fin 16384) (r : Fin 512)

theorem iblk0_apply (hR : R.val = t.val * 512 + r.val) (k : Fin 2048) : iblk m c 0 t (ix2 r k) = M m c R k := by
  obtain ⟨⟨e0, e1⟩, -⟩ := idx t
  refine Eq.trans ?_ (congrFun (V_main_arg0 m c) (ix2 R k))
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

theorem iblk1_apply (hR : R.val = t.val * 512 + r.val) (k : Fin 2048) : iblk m c 1 t (ix2 r k) = H m c R k := by
  obtain ⟨-, ⟨e0, e1⟩, -⟩ := idx t
  rw [← V0_apply]
  refine congrArg (V m c main_v0) (funext fun a => Fin.ext ?_)
  match a with
  | ⟨0, _⟩ => show win0_1.index t (0 : Fin 2) * 512 + 1 * r.val = R.val; omega
  | ⟨1, _⟩ => show win0_1.index t (1 : Fin 2) * 2048 + 1 * k.val = k.val; omega

theorem iblk2_apply (k d : Fin 2048) : iblk m c 2 t (ix2 k d) = W m c k d := by
  obtain ⟨-, -, ⟨e0, e1⟩, -⟩ := idx t
  rw [← V2_apply]
  refine congrArg (V m c main_v2) (funext fun a => Fin.ext ?_)
  match a with
  | ⟨0, _⟩ => show win0_2.index t (0 : Fin 2) * 2048 + 1 * k.val = k.val; omega
  | ⟨1, _⟩ => show win0_2.index t (1 : Fin 2) * 2048 + 1 * d.val = d.val; omega

theorem iblk3_apply (k : Fin 2048) : iblk m c 3 t (ix2 0 k) = Gn m c k := by
  obtain ⟨-, -, -, ⟨e0, e1⟩, -⟩ := idx t
  rw [← V4_apply]
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

theorem iblk4_apply (k : Fin 2048) : iblk m c 4 t (ix2 0 k) = Bs m c k := by
  obtain ⟨-, -, -, -, ⟨e0, e1⟩, -⟩ := idx t
  rw [← V6_apply]
  refine congrArg (V m c main_v6) (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

/-- The normalised row. -/
def row : Fin 2048 → EReal := Ffn.lnRow (preRow (H m c R) (M m c R) (W m c)) (Gn m c) (Bs m c)

/-- The array the call leaves. -/
theorem final_apply (d : Fin 2048) : (dats m 0 c).arrAt 5 cfg0.N (ix2 R d) = row m c R d := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨_, Nat.mod_lt _ (by decide)⟩, rfl⟩
  obtain ⟨-, -, -, -, -, e0, e1, e2⟩ := idx t
  have hR : R.val = t.val * 512 + r.val := by omega
  have h := congrFun (blocks5 m c t e2) (ix2 r d)
  rw [flushed5] at h
  refine (congrArg _ (funext fun a => Fin.ext ?_)).trans (h.trans ?_)
  · match a with
    | ⟨0, _⟩ => show R.val = win0_5.index t (0 : Fin 2) * 512 + 1 * r.val; omega
    | ⟨1, _⟩ => show d.val = win0_5.index t (1 : Fin 2) * 2048 + 1 * d.val; omega
  · show out0_5 (iblk m c 0 t) (iblk m c 1 t) (iblk m c 2 t) (iblk m c 3 t) (iblk m c 4 t) (ix2 r d) = _
    frame_out
    refine (pay_apply _ _ _ _ _ _ _).trans ?_
    simp only [iblk0_apply m c t R r hR, iblk1_apply m c t R r hR, iblk2_apply, iblk3_apply, iblk4_apply]
    rfl

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ => Cert.Kernel7Ideal.Gen.frame m ρ

theorem frame_reference : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run (F := Ideal) m ρ)

namespace Ref
open Cert.Reference7Ideal Cert.Reference7Ideal.Gen Cert.Reference7Ideal.Value

variable (m : (ℓ : Loc Cert.Reference7Ideal.nD Cert.Reference7Ideal.τ Cert.Reference7Ideal.sig) → Buf (Elt Ideal) ℓ) (c : Dev Cert.Reference7Ideal.nD)

theorem v32_apply (r : Fin 16384) (d : Fin 2048) : res_main_v32 m c (ix2 r d)
    = Ffn.lnRow (preRow (fun k => m (c, Proc.tc.devRef Cert.Reference7Ideal.main_arg1) (ix3 0 r k)) (fun k => m (c, Proc.tc.devRef Cert.Reference7Ideal.main_arg0) (ix2 r k))
        (fun k d => m (c, Proc.tc.devRef Cert.Reference7Ideal.main_arg2) (ix3 0 k d)))
      (fun d => m (c, Proc.tc.devRef Cert.Reference7Ideal.main_arg3) (ix2 0 d)) (fun d => m (c, Proc.tc.devRef Cert.Reference7Ideal.main_arg4) (ix2 0 d)) d := by
  unfold res_main_v32
  clean_types
  pointwise
  rfl

end Ref

theorem algebraic : Cert.algebraic_Kernel7Ideal_Reference7Ideal (hKernel7Ideal := Cert.Kernel7Ideal.Gen.facts) (hReference7Ideal := Cert.Reference7Ideal.Gen.facts) := by
  intro m ρ m' ρ' _ hag
  refine ⟨fun c => (dats m 0 c).arrAt 5 cfg0.N, run_blocks m ρ,
    (θ_run _ _ _).mono (fun r h c => ⟨(h c).1.trans (funext fun j => ?_), (h c).2⟩) (Cert.Reference7Ideal.Value.run (F := Ideal) m' ρ')⟩
  obtain ⟨e0, e1, e2, e3, e4⟩ := hag c
  obtain ⟨R, D, rfl⟩ : ∃ (R : Fin 16384) (D : Fin 2048), j = ix2 R D := ⟨j 0, j 1, eq_ix2 j⟩
  refine Eq.trans ?_ (final_apply m c R D).symm
  refine (Ref.v32_apply m' c R D).trans ?_
  rw [e0, e1, e2, e3, e4]
  rfl

end Cert.Out
-- ==== Proof.Calls.Tile.lean ====
module
public import proofs.«01_k».proof.Proof.Gen.Kernel8Ideal.Value
public import proofs.«01_k».proof.Proof.Calls.Cut
@[expose] public section
set_option maxRecDepth 16384

/-! The causal depthwise convolution: one tile of 64 rows and 256 channels is the sum over the 31 taps. -/

noncomputable section

namespace Cert.Conv
open Idealize.ShloMosaic Idealize.ShloMosaic.TcCoe Idealize.SL.Sem Idealize.ShloMosaic.Tactic
open Cert.Kernel8Ideal Cert.Kernel8Ideal.Gen Cert.Kernel8Ideal.Value

/-- A tap's eight rows of weights, repeated down the tile. -/
def cat (w : Vec Ideal S1x8x256 .f32) : FVec Ideal S64x256 .f32 :=
  have v : FVec Ideal S8x256 .f32 := shapeCast S8x256 w shapeCasts_S1x8x256_S8x256
  concatenate S64x256 0 [⟨S8x256, v⟩, ⟨S8x256, v⟩, ⟨S8x256, v⟩, ⟨S8x256, v⟩, ⟨S8x256, v⟩, ⟨S8x256, v⟩, ⟨S8x256, v⟩, ⟨S8x256, v⟩]
    concatenates_S8x256_S8x256_S8x256_S8x256_S8x256_S8x256_S8x256_S8x256_S64x256_d0

theorem cat_apply (w : Vec Ideal S1x8x256 .f32) (r : Fin 64) (d : Fin 256) : cat w (ix2 r d) = w (ix3 0 ⟨r.val % 8, by omega⟩ d) := by
  refine Eq.trans (concatenate_replicate_apply (t := S64x256) 0 8 (shapeCast S8x256 w shapeCasts_S1x8x256_S8x256)
    concatenates_S8x256_S8x256_S8x256_S8x256_S8x256_S8x256_S8x256_S8x256_S64x256_d0 rfl (ix2 r d)
    (ix2 ⟨r.val % 8, by omega⟩ d) rfl (fun b hb => ?_)) (Ffn.drop1 w _ _ d)
  match b with
  | ⟨0, _⟩ => exact absurd rfl hb
  | ⟨1, _⟩ => rfl

/-- One tap: the weights times the window moved by the tap's offset, added on. -/
def tap {n : ℕ} (acc : FVec Ideal S64x256 .f32) (w : Vec Ideal S1x8x256 .f32) (v : Vec Ideal ⟨2, ![n, 256]⟩ .f32) (o : ℕ)
    (h : (⟨2, ![n, 256]⟩ : Shape).Slices ![o, 0] S64x256) :
    FVec Ideal S64x256 .f32 :=
  addf acc (mulf (cat w) (extractStridedSlice S64x256 ![o, 0] v h))

theorem tap_apply {n : ℕ} (acc : FVec Ideal S64x256 .f32) (w : Vec Ideal S1x8x256 .f32) (v : Vec Ideal ⟨2, ![n, 256]⟩ .f32) (o : ℕ)
    (h : (⟨2, ![n, 256]⟩ : Shape).Slices ![o, 0] S64x256) (r : Fin 64) (d : Fin 256) (R : Fin n) (hR : R.val = o + r.val) :
    tap acc w v o h (ix2 r d) = acc (ix2 r d) + w (ix3 0 ⟨r.val % 8, by omega⟩ d) * v (ix2 R d) := by
  show acc (ix2 r d) + cat w (ix2 r d) * extractStridedSlice S64x256 ![o, 0] v h (ix2 r d) = _
  rw [cat_apply, extractStridedSlice_apply _ _ _ _ (ix2 R d) fun a => by
    match a with
    | ⟨0, _⟩ => exact hR
    | ⟨1, _⟩ => show d.val = 0 + d.val; omega]

section
variable (LE : (r : Rect S288x1024) → r.shape.Idx → EReal) (LW : (r : Rect S31x8x1024) → r.shape.Idx → EReal) (LC : (r : Rect S1x1024) → r.shape.Idx → EReal)
variable (r0 c0 : ℕ) (hr : r0 + 64 ≤ 256) (hc : c0 + 256 ≤ 1024)

include hr hc in
theorem inbE {n lo : ℕ} (h : lo + n ≤ 96) : ∀ a : Fin 2, (![r0 + lo, c0] : Fin 2 → ℕ) a + (![n, 256] : Fin 2 → ℕ) a ≤ S288x1024.size a := fun a => by
  match a with
  | ⟨0, _⟩ => show r0 + lo + n ≤ 288; omega
  | ⟨1, _⟩ => show c0 + 256 ≤ 1024; omega

include hc in
theorem inbW {k : ℕ} (h : k + 1 ≤ 31) : ∀ a : Fin 3, (![k, 0, c0] : Fin 3 → ℕ) a + S1x8x256.size a ≤ S31x8x1024.size a := fun a => by
  match a with
  | ⟨0, _⟩ => exact h
  | ⟨1, _⟩ => show 0 + 8 ≤ 8; omega
  | ⟨2, _⟩ => show c0 + 256 ≤ 1024; omega

include hc in
theorem inbC : ∀ a : Fin 2, (![0, c0] : Fin 2 → ℕ) a + S1x256.size a ≤ S1x1024.size a := fun a => by
  match a with
  | ⟨0, _⟩ => show 0 + 1 ≤ 1; omega
  | ⟨1, _⟩ => show c0 + 256 ≤ 1024; omega

/-- The rows of the buffer that one residue's taps read. -/
abbrev rows (n lo : ℕ) (h : lo + n ≤ 96) : Vec Ideal ⟨2, ![n, 256]⟩ .f32 := LE (Rect.unit (s := S288x1024) ![r0 + lo, c0] ![n, 256] (inbE r0 c0 hr hc h))

/-- One tap's weights. -/
abbrev wts (k : ℕ) (h : k + 1 ≤ 31) : Vec Ideal S1x8x256 .f32 := LW (Rect.unit (s := S31x8x1024) ![k, 0, c0] S1x8x256.size (inbW c0 hc h))

/-- One residue's four taps. -/
def quad (a : ℕ) (ha : a + 25 ≤ 31) (lo : ℕ) (hl : lo + 88 ≤ 96) (acc : FVec Ideal S64x256 .f32) : FVec Ideal S64x256 .f32 :=
  tap (tap (tap (tap acc (wts LW c0 hc a (by omega)) (rows LE r0 c0 hr hc 88 lo hl) 0 (by decide)) (wts LW c0 hc (a + 8) (by omega)) (rows LE r0 c0 hr hc 88 lo hl) 8 (by decide))
    (wts LW c0 hc (a + 16) (by omega)) (rows LE r0 c0 hr hc 88 lo hl) 16 (by decide)) (wts LW c0 hc (a + 24) (by omega)) (rows LE r0 c0 hr hc 88 lo hl) 24 (by decide)

/-- The residue with three taps. -/
def triple (acc : FVec Ideal S64x256 .f32) : FVec Ideal S64x256 .f32 :=
  tap (tap (tap acc (wts LW c0 hc 7 (by decide)) (rows LE r0 c0 hr hc 80 9 (by decide)) 0 (by decide)) (wts LW c0 hc 15 (by decide)) (rows LE r0 c0 hr hc 80 9 (by decide)) 8 (by decide))
    (wts LW c0 hc 23 (by decide)) (rows LE r0 c0 hr hc 80 9 (by decide)) 16 (by decide)

/-- One tile, as the kernel adds it up: the taps by their offset's residue, then the bias. -/
def tile : FVec Ideal S64x256 .f32 :=
  let q := quad LE LW r0 c0 hr hc
  let acc := q 6 (by decide) 8 (by decide) (broadcast S64x256 (Scalar.ofBits .f32 0x00000000#32))
  let acc := q 0 (by decide) 2 (by decide) (triple LE LW r0 c0 hr hc acc)
  let acc := q 3 (by decide) 5 (by decide) (q 2 (by decide) 4 (by decide) (q 1 (by decide) 3 (by decide) acc))
  let acc := q 5 (by decide) 7 (by decide) (q 4 (by decide) 6 (by decide) acc)
  shapeCast S64x256 (addf acc (broadcastTo S64x256 (shapeCast S1x256 (LC (Rect.unit (s := S1x1024) ![0, c0] S1x256.size (inbC c0 hc))) shapeCasts_S1x256_S1x256)
    broadcasts_S1x256_S64x256)) shapeCasts_S64x256_S64x256

variable (wN eN : ℕ → ℕ → EReal) (cN : ℕ → EReal)

/-- The convolution at output row `r` of the block, channel `d`. -/
def convAt (r d : ℕ) : EReal := (∑ k : Fin 31, wN k.val d * eN (r + k.val + 2) d) + cN d

theorem tile_at (hE : ∀ (q : Rect S288x1024) (x : q.shape.Idx), LE q x = eN (q.idx x 0).val (q.idx x 1).val)
    (hW : ∀ (q : Rect S31x8x1024) (x : q.shape.Idx), LW q x = wN (q.idx x 0).val (q.idx x 2).val)
    (hC : ∀ (q : Rect S1x1024) (x : q.shape.Idx), LC q x = cN (q.idx x 1).val)
    (x : S64x256.Idx) (r d : ℕ) (h0 : r = r0 + (x 0).val) (h1 : d = c0 + (x 1).val) :
    tile LE LW LC r0 c0 hr hc x = convAt wN eN cN r d := by
  obtain ⟨i, j, rfl⟩ : ∃ (i : Fin 64) (j : Fin 256), x = ix2 i j := ⟨x 0, x 1, eq_ix2 x⟩
  have h0' : r = r0 + i.val := h0
  have h1' : d = c0 + j.val := h1
  have w : ∀ (k : ℕ) (h : k + 1 ≤ 31) (q : Fin 8), wts LW c0 hc k h (ix3 0 q j) = wN k d := fun k h q =>
    (hW _ _).trans (congrArg₂ wN (show k + 1 * 0 = k by omega) (show c0 + 1 * j.val = d by omega))
  have step : ∀ (n lo o k : ℕ) (h : lo + n ≤ 96) (hk : k + 1 ≤ 31) (hs : (⟨2, ![n, 256]⟩ : Shape).Slices ![o, 0] S64x256) (acc : FVec Ideal S64x256 .f32) (a : EReal),
      o + 64 ≤ n → lo + o = k + 2 → acc (ix2 i j) = a →
      tap acc (wts LW c0 hc k hk) (rows LE r0 c0 hr hc n lo h) o hs (ix2 i j) = a + wN k d * eN (r + k + 2) d := fun n lo o k h hk hs acc a hn hm ha => by
    rw [tap_apply acc _ _ o hs i j ⟨o + i.val, by omega⟩ rfl, ha, w]
    refine congrArg (fun z => a + wN k d * z) ((hE _ _).trans (congrArg₂ eN ?_ ?_))
    · show r0 + lo + 1 * (o + i.val) = r + k + 2; omega
    · show c0 + 1 * j.val = d; omega
  have quads : ∀ (a : ℕ) (ha : a + 25 ≤ 31) (lo : ℕ) (hl : lo + 88 ≤ 96) (acc : FVec Ideal S64x256 .f32) (z : EReal), lo = a + 2 → acc (ix2 i j) = z →
      quad LE LW r0 c0 hr hc a ha lo hl acc (ix2 i j) = z + wN a d * eN (r + a + 2) d + wN (a + 8) d * eN (r + (a + 8) + 2) d
        + wN (a + 16) d * eN (r + (a + 16) + 2) d + wN (a + 24) d * eN (r + (a + 24) + 2) d := fun a ha lo hl acc z h hz =>
    step _ _ _ _ _ _ _ _ _ (by decide) (by omega) (step _ _ _ _ _ _ _ _ _ (by decide) (by omega) (step _ _ _ _ _ _ _ _ _ (by decide) (by omega)
      (step _ _ _ _ _ _ _ _ _ (by decide) (by omega) hz)))
  have trip : ∀ (acc : FVec Ideal S64x256 .f32) (z : EReal), acc (ix2 i j) = z →
      triple LE LW r0 c0 hr hc acc (ix2 i j) = z + wN 7 d * eN (r + 7 + 2) d + wN 15 d * eN (r + 15 + 2) d + wN 23 d * eN (r + 23 + 2) d := fun acc z hz =>
    step _ _ _ _ _ _ _ _ _ (by decide) (by decide) (step _ _ _ _ _ _ _ _ _ (by decide) (by decide) (step _ _ _ _ _ _ _ _ _ (by decide) (by decide) hz))
  have b : broadcast S64x256 (Scalar.ofBits (F := Ideal) .f32 0x00000000#32) (ix2 i j) = (0 : EReal) := by
    pointwise
  have c : ∀ v : Vec Ideal S1x256 .f32, broadcastTo S64x256 (shapeCast S1x256 v shapeCasts_S1x256_S1x256) broadcasts_S1x256_S64x256 (ix2 i j) = v (ix2 0 j) := fun v => by
    pointwise
  have cc : LC (Rect.unit (s := S1x1024) ![0, c0] S1x256.size (inbC c0 hc)) (ix2 0 j) = cN d :=
    (hC _ _).trans (congrArg cN (show c0 + 1 * j.val = d by omega))
  unfold tile convAt
  rw [shapeCast_self]
  refine (congrArg₂ (· + ·) (quads _ _ _ _ _ _ rfl (quads _ _ _ _ _ _ rfl (quads _ _ _ _ _ _ rfl (quads _ _ _ _ _ _ rfl (quads _ _ _ _ _ _ rfl
    (quads _ _ _ _ _ _ rfl (trip _ _ (quads _ _ _ _ _ _ rfl b)))))))) ((c _).trans cc)).trans ?_
  refine congrArg (· + cN d) ?_
  rw [Fin.sum_univ_eq_sum_range (fun k => wN k d * eN (r + k + 2) d) 31]
  simp only [Finset.sum_range_succ, Finset.sum_range_zero, Nat.reduceAdd]
  abel

end

end Cert.Conv
-- ==== Proof.Calls.Body.lean ====
module
public import proofs.«01_k».proof.Proof.Calls.Tile
public import Idealize.ShloMosaic.Lib.Pipeline.ValueKit
public import Idealize.ShloMosaic.Lib.WholeRead
@[expose] public section
set_option maxRecDepth 16384

/-! The convolution call's body: what one grid point writes is the normalised, gated row of the convolution. -/

noncomputable section

namespace Cert.Conv
open Idealize.ShloMosaic Idealize.ShloMosaic.TcCoe Idealize.SL.Sem Idealize.ShloMosaic.Tactic
open Cert.Kernel8Ideal Cert.Kernel8Ideal.Gen Cert.Kernel8Ideal.Value

/-- The row width, as a number of the format. -/
def width : EReal := Ideal.ofBits .f32 0x44800000#32

/-- The mean of a row. -/
def mean (z : Fin 1024 → EReal) : EReal := Ideal.div (∑ x, z x) width

/-- Layer normalisation of a row `z`, gain `g`, offset `b`. -/
def lnRow (z g b : Fin 1024 → EReal) (d : Fin 1024) : EReal :=
  (z d - mean z) * Ideal.rsqrt (Ideal.div (∑ x, (z x - mean z) * (z x - mean z)) width + Ideal.ofBits .f32 925353388#32) * g d + b d

/-- The silu of an entry. -/
def silu (y : EReal) : EReal := y * Ideal.div 1 (1 + Ideal.exp (-y))

theorem pay_apply (v : Vec Ideal S256x1024 .f32) (g b : Vec Ideal S1x1024 .f32) (r : Fin 256) (d : Fin 1024) :
    k0_pay150 v g b (ix2 r d) = silu (lnRow (fun d => v (ix2 r d)) (fun d => g (ix2 0 d)) (fun d => b (ix2 0 d)) d) := by
  pointwise [k0_pay150]
  rfl

/-- The buffer holds the rows before the block, then the block. -/
theorem ext_at (w0 : Vec Ideal S32x1024 .f32) (w1 : Vec Ideal S256x1024 .f32) (eN : ℕ → ℕ → EReal)
    (h0 : ∀ x, w0 x = eN (x 0).val (x 1).val) (h1 : ∀ x, w1 x = eN (32 + (x 0).val) (x 1).val) (y : S288x1024.Idx) :
    View.canon (Val := Elt Ideal) (e := .f32) [⟨Rect.unit (s := S288x1024) ![32, 0] S256x1024.size inb_S288x1024_S256x1024_32_0, w1⟩,
      ⟨Rect.unit (s := S288x1024) ![0, 0] S32x1024.size inb_S288x1024_S32x1024_0_0, w0⟩] y = eN (y 0).val (y 1).val := by
  obtain ⟨r, d, rfl⟩ : ∃ (r : Fin 288) (d : Fin 1024), y = ix2 r d := ⟨y 0, y 1, eq_ix2 y⟩
  by_cases hy : r.val < 32
  · have hn : ix2 r d ∉ (Rect.unit (s := S288x1024) ![32, 0] S256x1024.size inb_S288x1024_S256x1024_32_0).set := fun hm => by
      have h2 : 32 ≤ r.val := (Rect.mem_set_unit.1 hm 0).1
      omega
    have ye : ix2 r d = (Rect.unit (s := S288x1024) ![0, 0] S32x1024.size inb_S288x1024_S32x1024_0_0).emb (ix2 (⟨r.val, hy⟩ : Fin 32) d) :=
      funext fun a => Fin.ext (by match a with
        | ⟨0, _⟩ => show r.val = 0 + 1 * r.val; omega
        | ⟨1, _⟩ => show d.val = 0 + 1 * d.val; omega)
    rw [View.canon_cons_of_not_mem (⟨Rect.unit (s := S288x1024) ![32, 0] S256x1024.size inb_S288x1024_S256x1024_32_0, w1⟩ : View.Piece (Elt Ideal) S288x1024 .f32) _ hn, ye, View.canon_cons_emb, h0, ← ye]
    rfl
  · have ye : ix2 r d = (Rect.unit (s := S288x1024) ![32, 0] S256x1024.size inb_S288x1024_S256x1024_32_0).emb (ix2 (⟨r.val - 32, by omega⟩ : Fin 256) d) :=
      funext fun a => Fin.ext (by match a with
        | ⟨0, _⟩ => show r.val = 32 + 1 * (r.val - 32); omega
        | ⟨1, _⟩ => show d.val = 0 + 1 * d.val; omega)
    have hr : 32 + (r.val - 32) = r.val := by omega
    rw [ye, View.canon_cons_emb, h1, ← ye]
    exact congrArg (fun n => eN n d.val) hr

set_option maxHeartbeats 8000000 in
theorem out_eq (c : Dev nD) (i : grid0.Coords) (arg1 : Memref sig .tc .vmem S32x1024 .f32) (harg1 : arg1.IsWhole) (arg2 : Memref sig .tc .vmem S256x1024 .f32) (harg2 : arg2.IsWhole) (arg3 : Memref sig .tc .vmem S31x8x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S288x1024 .f32) (harg8 : arg8.IsWhole) (arg9 : Memref sig .tc .vmem S256x1024 .f32) (harg9 : arg9.IsWhole)
    (x0 : Vec Ideal S32x1024 .f32) (x1 : Vec Ideal S256x1024 .f32) (x2 : Vec Ideal S31x8x1024 .f32) (x3 : Vec Ideal S1x1024 .f32) (x4 : Vec Ideal S1x1024 .f32) (x5 : Vec Ideal S1x1024 .f32)
    (wN eN : ℕ → ℕ → EReal) (cN : ℕ → EReal)
    (hw : ∀ x, x2 x = wN (x 0).val (x 2).val) (hc : ∀ x, x3 x = cN (x 1).val)
    (he0 : ∀ x, k0_pay1 i x0 x = eN (x 0).val (x 1).val) (he1 : ∀ x, x1 x = eN (32 + (x 0).val) (x 1).val) (r : Fin 256) (d : Fin 1024) :
    out0_A_6 c i arg1 harg1 arg2 harg2 arg3 harg3 arg4 harg4 arg5 harg5 arg6 harg6 arg7 harg7 arg8 harg8 arg9 harg9 x0 x1 x2 x3 x4 x5 (ix2 r d)
      = silu (lnRow (fun d => convAt wN eN cN r.val d.val) (fun d => x4 (ix2 0 d)) (fun d => x5 (ix2 0 d)) d) := by
  unfold out0_A_6
  rw [View.read_writes_junk_eq_canon]
  unfold kernelRun0_A
  dsimp only
  sl_unfold_words
  rw [View.canon_cons_unit_lit _ _ _ (by decide)]
  refine (pay_apply _ _ _ r d).trans ?_
  rw [View.readCov_eq_canon']
  have hg : ∀ (arg : Memref sig .tc .vmem S1x1024 .f32) (harg : arg.IsWhole) (x : Vec Ideal S1x1024 .f32) (inb) (d : Fin 1024),
      View.readAt (Elt Ideal) arg.view (Rect.unit (s := S1x1024) ![0, 0] S1x1024.size inb).toLoadRect (harg.unread x) (ix2 0 d) = x (ix2 0 d) := fun arg harg x inb d => by
    rw [Memref.IsWhole.readAt_unread]
    exact congrArg x (funext fun a => Fin.ext (by match a with | ⟨0, _⟩ => rfl | ⟨1, _⟩ => (show 0 + 1 * d.val = d.val; omega)))
  simp only [hg]
  refine congrFun (congrArg (fun v : Fin 1024 → EReal => fun d => silu (lnRow v _ _ d)) (funext fun e => ?_)) d
  have y0 : r.val = ((Rect.unit (s := S256x1024) ![0, 0] S256x1024.size inb_S256x1024_S256x1024_0_0).toLoadRect.idx (ix2 r e) 0).val := by show r.val = 0 + 1 * r.val; omega
  have y1 : e.val = ((Rect.unit (s := S256x1024) ![0, 0] S256x1024.size inb_S256x1024_S256x1024_0_0).toLoadRect.idx (ix2 r e) 1).val := by show e.val = 0 + 1 * e.val; omega
  rw [y0, y1]
  generalize (Rect.unit (s := S256x1024) ![0, 0] S256x1024.size inb_S256x1024_S256x1024_0_0).toLoadRect.idx (ix2 r e) = y
  have hx0 : View.readAt (Elt Ideal) arg1.view (Rect.unit (s := S32x1024) ![0, 0] S32x1024.size inb_S32x1024_S32x1024_0_0).toLoadRect (harg1.unread x0) = x0 := funext fun x => by
    rw [harg1.readAt_unread]
    exact congrArg x0 (funext fun a => Fin.ext (by match a with
      | ⟨0, _⟩ => show 0 + 1 * (x 0).val = (x 0).val; omega
      | ⟨1, _⟩ => show 0 + 1 * (x 1).val = (x 1).val; omega))
  have hx1 : View.readAt (Elt Ideal) arg2.view (Rect.unit (s := S256x1024) ![0, 0] S256x1024.size inb_S256x1024_S256x1024_0_0).toLoadRect (harg2.unread x1) = x1 := funext fun x => by
    rw [harg2.readAt_unread]
    exact congrArg x1 (funext fun a => Fin.ext (by match a with
      | ⟨0, _⟩ => show 0 + 1 * (x 0).val = (x 0).val; omega
      | ⟨1, _⟩ => show 0 + 1 * (x 1).val = (x 1).val; omega))
  obtain ⟨LE, hLE⟩ : ∃ LE : (q : Rect S288x1024) → q.shape.Idx → EReal, ∀ q, arg8.view.readCov (Val := Elt Ideal) [⟨Rect.unit (s := S288x1024) ![32, 0] S256x1024.size inb_S288x1024_S256x1024_32_0, k0_pay2 (View.readAt (Elt Ideal) arg2.view (Rect.unit (s := S256x1024) ![0, 0] S256x1024.size inb_S256x1024_S256x1024_0_0).toLoadRect (harg2.unread x1))⟩,
      ⟨Rect.unit (s := S288x1024) ![0, 0] S32x1024.size inb_S288x1024_S32x1024_0_0, k0_pay1 i (View.readAt (Elt Ideal) arg1.view (Rect.unit (s := S32x1024) ![0, 0] S32x1024.size inb_S32x1024_S32x1024_0_0).toLoadRect (harg1.unread x0))⟩] q.toLoadRect = LE q :=
    ⟨_, fun _ => rfl⟩
  obtain ⟨LW, hLW⟩ : ∃ LW : (q : Rect S31x8x1024) → q.shape.Idx → EReal, ∀ q, View.readAt (Elt Ideal) arg3.view q.toLoadRect (harg3.unread x2) = LW q := ⟨_, fun _ => rfl⟩
  obtain ⟨LC, hLC⟩ : ∃ LC : (q : Rect S1x1024) → q.shape.Idx → EReal, ∀ q, View.readAt (Elt Ideal) arg4.view q.toLoadRect (harg4.unread x3) = LC q := ⟨_, fun _ => rfl⟩
  simp only [hLE, hLW, hLC]
  have hE : ∀ (q : Rect S288x1024) (x : q.shape.Idx), LE q x = eN (q.idx x 0).val (q.idx x 1).val := fun q z => by
    rw [← hLE, View.readCov_eq_canon', hx0, hx1]
    exact ext_at (k0_pay1 i x0) (k0_pay2 x1) eN he0 (fun x => (congrFun (shapeCast_self x1 _) x).trans (he1 x)) (q.idx z)
  have hW : ∀ (q : Rect S31x8x1024) (x : q.shape.Idx), LW q x = wN (q.idx x 0).val (q.idx x 2).val := fun q x => by
    rw [← hLW, harg3.readAt_unread]
    exact hw _
  have hC : ∀ (q : Rect S1x1024) (x : q.shape.Idx), LC q x = cN (q.idx x 1).val := fun q x => by
    rw [← hLC, harg4.readAt_unread]
    exact hc _
  clear hLE hLW hLC
  have tl : ∀ (r0 c0 : ℕ) (hr : r0 + 64 ≤ 256) (hc : c0 + 256 ≤ 1024) (x : S64x256.Idx), (y 0).val = r0 + (x 0).val → (y 1).val = c0 + (x 1).val →
      tile LE LW LC r0 c0 hr hc x = convAt wN eN cN (y 0).val (y 1).val := fun r0 c0 hr hc x h0 h1 =>
    tile_at LE LW LC r0 c0 hr hc wN eN cN hE hW hC x _ _ h0 h1
  clear hE hW hC hg he0 he1 hw hc y0 y1 hx0 hx1
  canon_tiles x h
  · exact Eq.trans (by rfl : _ = tile LE LW LC 192 768 (by decide) (by decide) x) (tl 192 768 _ _ x (by omega) (by omega))
  · exact Eq.trans (by rfl : _ = tile LE LW LC 192 512 (by decide) (by decide) x) (tl 192 512 _ _ x (by omega) (by omega))
  · exact Eq.trans (by rfl : _ = tile LE LW LC 192 256 (by decide) (by decide) x) (tl 192 256 _ _ x (by omega) (by omega))
  · exact Eq.trans (by rfl : _ = tile LE LW LC 192 0 (by decide) (by decide) x) (tl 192 0 _ _ x (by omega) (by omega))
  · exact Eq.trans (by rfl : _ = tile LE LW LC 128 768 (by decide) (by decide) x) (tl 128 768 _ _ x (by omega) (by omega))
  · exact Eq.trans (by rfl : _ = tile LE LW LC 128 512 (by decide) (by decide) x) (tl 128 512 _ _ x (by omega) (by omega))
  · exact Eq.trans (by rfl : _ = tile LE LW LC 128 256 (by decide) (by decide) x) (tl 128 256 _ _ x (by omega) (by omega))
  · exact Eq.trans (by rfl : _ = tile LE LW LC 128 0 (by decide) (by decide) x) (tl 128 0 _ _ x (by omega) (by omega))
  · exact Eq.trans (by rfl : _ = tile LE LW LC 64 768 (by decide) (by decide) x) (tl 64 768 _ _ x (by omega) (by omega))
  · exact Eq.trans (by rfl : _ = tile LE LW LC 64 512 (by decide) (by decide) x) (tl 64 512 _ _ x (by omega) (by omega))
  · exact Eq.trans (by rfl : _ = tile LE LW LC 64 256 (by decide) (by decide) x) (tl 64 256 _ _ x (by omega) (by omega))
  · exact Eq.trans (by rfl : _ = tile LE LW LC 64 0 (by decide) (by decide) x) (tl 64 0 _ _ x (by omega) (by omega))
  · exact Eq.trans (by rfl : _ = tile LE LW LC 0 768 (by decide) (by decide) x) (tl 0 768 _ _ x (by omega) (by omega))
  · exact Eq.trans (by rfl : _ = tile LE LW LC 0 512 (by decide) (by decide) x) (tl 0 512 _ _ x (by omega) (by omega))
  · exact Eq.trans (by rfl : _ = tile LE LW LC 0 256 (by decide) (by decide) x) (tl 0 256 _ _ x (by omega) (by omega))
  · exact Eq.trans (by rfl : _ = tile LE LW LC 0 0 (by decide) (by decide) x) (tl 0 0 _ _ x (by omega) (by omega))

end Cert.Conv
-- ==== Proof.Calls.ConvRef.lean ====
module
public import proofs.«01_k».proof.Defs
public import proofs.«01_k».proof.Proof.Calls.Body
public import proofs.«01_k».proof.Proof.Gen.Reference8Ideal.Run
public import Idealize.ShloMosaic.Lib.Tactic.CleanTypes
@[expose] public section
set_option maxRecDepth 16384

/-! The convolution's reference, read at an index. -/

noncomputable section

namespace Cert.Conv.Ref
open Idealize.ShloMosaic Idealize.ShloMosaic.TcCoe Idealize.SL.Sem Idealize.ShloMosaic.Tactic
open Cert.Reference8Ideal Cert.Reference8Ideal.Gen Cert.Reference8Ideal.Value

variable (V0 : Valuation τ sig (Elt Ideal))

theorem v0_apply (n : Fin 16414) (d : Fin 1024) : res_main_v0 V0 (ix2 n d)
    = if h : 30 ≤ n.val then V0 (Proc.devRef .tc main_arg0) (ix2 (⟨n.val - 30, by omega⟩ : Fin 16384) d) else (0 : EReal) := by
  unfold res_main_v0
  clean_types
  pointwise
  have hz : FloatOps.sitofp (F := Ideal) FTy.f32 0#32 = (0 : EReal) := by
    show ((((0#32 : BitVec 32).toInt : ℝ)) : EReal) = 0
    simp
  by_cases h : 30 ≤ n.val
  · rw [dif_pos h, dif_pos ⟨h, by omega⟩]
  · rw [dif_neg h, dif_neg fun h' => h h'.1, hz]

theorem v191_apply (e w : ℕ → EReal) (r : Fin 16384) (d : Fin 1024)
    (he : ∀ (n : ℕ) (h : n < 16414), res_main_v0 V0 (ix2 (⟨n, h⟩ : Fin 16414) d) = e n)
    (hw : ∀ k : Fin 31, V0 (Proc.devRef .tc main_arg1) (ix4 0 k 0 d) = w k.val) :
    res_main_v191 V0 (ix2 r d) = (∑ k : Fin 31, w k.val * e (k.val + r.val)) + V0 (Proc.devRef .tc main_arg2) (ix2 0 d) := by
  unfold res_main_v191 res_main_v145 res_main_v73
  generalize res_main_v0 V0 = p at he ⊢
  generalize V0 (Proc.devRef .tc main_arg1) = q at hw ⊢
  generalize V0 (Proc.devRef .tc main_arg2) = b
  clean_types
  pointwise
  rw [Fin.sum_univ_eq_sum_range (fun k => w k * e (k + r.val)) 31]
  simp only [he, hw, Finset.sum_range_succ, Finset.sum_range_zero, mul_comm (w _), zero_add]
  rfl

theorem res_apply (r : Fin 16384) (d : Fin 1024) :
    (truncf (F := Ideal) .bf16 (mulf (res_main_v217 V0) (Host.divf (broadcastInDim S16384x1024 ![] bcast_S_S16384x1024 (constant S_ .f32 0x3F800000#32))
      (addf (broadcastInDim S16384x1024 ![] bcast_S_S16384x1024 (constant S_ .f32 0x3F800000#32)) (Host.exp (Host.negf (res_main_v217 V0)))))) bitsLt_bf16_f32) (ix2 r d)
      = silu (lnRow (fun d => res_main_v191 V0 (ix2 r d)) (fun d => V0 (Proc.devRef .tc main_arg3) (ix2 0 d)) (fun d => V0 (Proc.devRef .tc main_arg4) (ix2 0 d)) d) := by
  unfold res_main_v217 res_main_v199 res_main_v197
  generalize res_main_v191 V0 = p
  clean_types
  pointwise
  rfl

end Cert.Conv.Ref
-- ==== Proof.Calls.Conv.lean ====
module
public import proofs.«01_k».proof.Defs
public import proofs.«01_k».proof.Proof.Gen.Kernel8.Frame
public import proofs.«01_k».proof.Proof.Calls.ConvRef
@[expose] public section
set_option maxRecDepth 16384

/-! The causal depthwise convolution with its bias, layer normalisation and silu: frames, and the equation with the sum over the 31 taps. -/

noncomputable section

namespace Cert.Conv
open Idealize.ShloMosaic Idealize.ShloMosaic.TcCoe Idealize.SL.Sem Idealize.ShloMosaic.Tactic
open Cert.Kernel8Ideal Cert.Kernel8Ideal.Gen Cert.Kernel8Ideal.Value

variable (m : (ℓ : Loc nD τ sig) → Buf (Elt Ideal) ℓ) (c : Dev nD)

/-- The arguments, as functions of their coordinates, zero outside. -/
def U (n d : ℕ) : EReal := if h : n < 16384 ∧ d < 1024 then m (c, Proc.tc.devRef main_arg0) (ix2 ⟨n, h.1⟩ ⟨d, h.2⟩) else 0
def W (k d : ℕ) : EReal := if h : k < 31 ∧ d < 1024 then m (c, Proc.tc.devRef main_arg1) (ix4 0 ⟨k, h.1⟩ 0 ⟨d, h.2⟩) else 0
def C (d : ℕ) : EReal := if h : d < 1024 then m (c, Proc.tc.devRef main_arg2) (ix2 0 ⟨d, h⟩) else 0
def Gn (d : Fin 1024) : EReal := m (c, Proc.tc.devRef main_arg3) (ix2 0 d)
def Bs (d : Fin 1024) : EReal := m (c, Proc.tc.devRef main_arg4) (ix2 0 d)

theorem U_val (n : Fin 16384) (d : Fin 1024) : U m c n.val d.val = m (c, Proc.tc.devRef main_arg0) (ix2 n d) := by
  unfold U
  rw [dif_pos ⟨n.isLt, d.isLt⟩]

theorem W_val (k : Fin 31) (d : Fin 1024) : W m c k.val d.val = m (c, Proc.tc.devRef main_arg1) (ix4 0 k 0 d) := by
  unfold W
  rw [dif_pos ⟨k.isLt, d.isLt⟩]

theorem C_val (d : Fin 1024) : C m c d.val = m (c, Proc.tc.devRef main_arg2) (ix2 0 d) := by
  unfold C
  rw [dif_pos d.isLt]

/-- Row `n` of the array with 30 rows of zeros in front. -/
def padded (n d : ℕ) : EReal := if 30 ≤ n then U m c (n - 30) d else 0

/-- The convolution at row `r`, channel `d`. -/
def conv (r d : ℕ) : EReal := (∑ k : Fin 31, W m c k.val d * padded m c (k.val + r) d) + C m c d

theorem V9_apply (k : Fin 31) (q : Fin 8) (d : Fin 1024) : V m c main_v9 (ix3 k q d) = W m c k.val d.val := by
  have : V m c main_v9 = broadcastInDim S31x8x1024 ![0, 1, 2] bcast_S31x1x1024_S31x8x1024_0_1_2 (broadcastInDim S31x1x1024 ![0, 2] bcast_S31x1024_S31x1x1024_0_2
      (shapeCast S31x1024 (shapeCast S31x1x1024 (m (c, Proc.tc.devRef main_arg1)) shapeCasts_S1x31x1x1024_S31x1x1024) shapeCasts_S31x1x1024_S31x1024)) := by
    unfold V hostOps0
    after_results
    rfl
  rw [this, W_val]
  generalize m (c, Proc.tc.devRef main_arg1) = w
  clean_types
  pointwise

theorem V3_apply (d : Fin 1024) : V m c main_v3 (ix2 0 d) = C m c d.val := by
  have : V m c main_v3 = m (c, Proc.tc.devRef main_arg2) := by
    unfold V hostOps0
    after_results
    exact shapeCast_shapeCast _ _ _
  rw [this, C_val]

theorem V5_apply (d : Fin 1024) : V m c main_v5 (ix2 0 d) = Gn m c d := by
  have : V m c main_v5 = m (c, Proc.tc.devRef main_arg3) := by
    unfold V hostOps0
    after_results
    exact shapeCast_shapeCast _ _ _
  rw [this]
  rfl

theorem V7_apply (d : Fin 1024) : V m c main_v7 (ix2 0 d) = Bs m c d := by
  have : V m c main_v7 = m (c, Proc.tc.devRef main_arg4) := by
    unfold V hostOps0
    after_results
    exact shapeCast_shapeCast _ _ _
  rw [this]
  rfl

theorem V_arg0 (r : Fin 16384) (d : Fin 1024) : V m c main_arg0 (ix2 r d) = U m c r.val d.val :=
  (congrFun (V_main_arg0 m c) (ix2 r d)).trans (U_val m c r d).symm

theorem idx : ∀ t : Fin cfg0.N, (win0_0.index t (0 : Fin 2) = t.val * 8 - 1 ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0 ∧ (cfg0.win 6).flush t = true)
    ∧ Scalar.cmpi .sgt (BitVec.ofNat 32 (grid0.coords t 0).val) 0#32 = if 0 < t.val then 1#1 else 0#1 :=
  (by decide +kernel : ∀ t : Fin grid0.N, _)

variable (t : Fin cfg0.N)

/-- The rows of the buffer at point `t`: 32 rows before the block, then the block. -/
def ext (q d : ℕ) : EReal := if 32 ≤ t.val * 256 + q then U m c (t.val * 256 + q - 32) d else 0

theorem iblk0_apply (h : 0 < t.val) (r : Fin 32) (d : Fin 1024) : iblk m c 0 t (ix2 r d) = U m c (t.val * 256 + r.val - 32) d.val := by
  obtain ⟨⟨e0, e1⟩, -⟩ := idx t
  have hN : cfg0.N = 64 := N_0
  have ht := t.isLt
  refine Eq.trans ?_ (V_arg0 m c ⟨t.val * 256 + r.val - 32, by omega⟩ d)
  refine congrArg (V m c main_arg0) (funext fun a => Fin.ext ?_)
  match a with
  | ⟨0, _⟩ => show win0_0.index t (0 : Fin 2) * 32 + 1 * r.val = t.val * 256 + r.val - 32; omega
  | ⟨1, _⟩ => show win0_0.index t (1 : Fin 2) * 1024 + 1 * d.val = d.val; omega

theorem iblk1_apply (r : Fin 256) (d : Fin 1024) : iblk m c 1 t (ix2 r d) = U m c (t.val * 256 + r.val) d.val := by
  obtain ⟨-, ⟨e0, e1⟩, -⟩ := idx t
  have hN : cfg0.N = 64 := N_0
  have ht := t.isLt
  refine Eq.trans ?_ (V_arg0 m c ⟨t.val * 256 + r.val, by omega⟩ d)
  refine congrArg (V m c main_arg0) (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * d.val = d.val; omega

theorem iblk2_apply (k : Fin 31) (q : Fin 8) (d : Fin 1024) : iblk m c 2 t (ix3 k q d) = W m c k.val d.val := by
  obtain ⟨-, -, ⟨e0, e1, e2⟩, -⟩ := idx t
  rw [← V9_apply m c k q d]
  refine congrArg (V m c main_v9) (funext fun a => Fin.ext ?_)
  match a with
  | ⟨0, _⟩ => show win0_2.index t (0 : Fin 3) * 31 + 1 * k.val = k.val; omega
  | ⟨1, _⟩ => show win0_2.index t (1 : Fin 3) * 8 + 1 * q.val = q.val; omega
  | ⟨2, _⟩ => show win0_2.index t (2 : Fin 3) * 1024 + 1 * d.val = d.val; omega

theorem iblk3_apply (d : Fin 1024) : iblk m c 3 t (ix2 0 d) = C m c d.val := by
  obtain ⟨-, -, -, ⟨e0, e1⟩, -⟩ := idx t
  rw [← V3_apply m c d]
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 1024 + 1 * d.val = d.val; omega

theorem iblk4_apply (d : Fin 1024) : iblk m c 4 t (ix2 0 d) = Gn m c d := by
  obtain ⟨-, -, -, -, ⟨e0, e1⟩, -⟩ := idx t
  rw [← V5_apply m c d]
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 1024 + 1 * d.val = d.val; omega

theorem iblk5_apply (d : Fin 1024) : iblk m c 5 t (ix2 0 d) = Bs m c d := by
  obtain ⟨-, -, -, -, -, ⟨e0, e1⟩, -⟩ := idx t
  rw [← V7_apply m c d]
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 1024 + 1 * d.val = d.val; omega

/-- The rows before the block: zeros at the first point. -/
theorem before_apply (r : Fin 32) (d : Fin 1024) : k0_pay1 (grid0.coords t) (iblk m c 0 t) (ix2 r d) = ext m c t r.val d.val := by
  obtain ⟨-, -, -, -, -, -, -, e⟩ := idx t
  have hs : k0_pay1 (grid0.coords t) (iblk m c 0 t) (ix2 r d)
      = if 0 < t.val then iblk m c 0 t (ix2 r d) else broadcast S32x1024 (Scalar.ofBits (F := Ideal) .f32 0x00000000#32) (ix2 r d) := by
    unfold k0_pay1
    dsimp only
    rw [shapeCast_self, e]
    by_cases h : 0 < t.val
    · rw [if_pos h, if_pos h]; rfl
    · rw [if_neg h, if_neg h]; rfl
  have hb : broadcast S32x1024 (Scalar.ofBits (F := Ideal) .f32 0x00000000#32) (ix2 r d) = (0 : EReal) := by
    pointwise
  rw [hs, hb]
  unfold ext
  by_cases h : 0 < t.val
  · rw [if_pos h, if_pos (by omega)]
    exact iblk0_apply m c t h r d
  · rw [if_neg h, if_neg (by omega)]

variable (R : Fin 16384) (r : Fin 256)

theorem convAt_eq (hR : R.val = t.val * 256 + r.val) (d : Fin 1024) : convAt (W m c) (ext m c t) (C m c) r.val d.val = conv m c R.val d.val := by
  unfold convAt conv
  refine congrArg (· + C m c d.val) (Finset.sum_congr rfl fun k _ => congrArg (W m c k.val d.val * ·) ?_)
  unfold ext padded
  by_cases h : 30 ≤ k.val + R.val
  · rw [if_pos h, if_pos (by omega)]
    exact congrArg (fun n => U m c n d.val) (by omega)
  · rw [if_neg h, if_neg (by omega)]

/-- The array the call leaves. -/
theorem final_apply (d : Fin 1024) : (dats m 0 c).arrAt 6 cfg0.N (ix2 R d)
    = silu (lnRow (fun d => conv m c R.val d.val) (Gn m c) (Bs m c) d) := by
  have hN : cfg0.N = 64 := N_0
  obtain ⟨t, ht⟩ : ∃ t : Fin cfg0.N, t.val = R.val / 256 := ⟨⟨R.val / 256, by omega⟩, rfl⟩
  obtain ⟨r, hr⟩ : ∃ r : Fin 256, r.val = R.val % 256 := ⟨⟨_, Nat.mod_lt _ (by decide)⟩, rfl⟩
  obtain ⟨-, -, -, -, -, -, ⟨e0, e1, e2⟩, -⟩ := idx t
  have hR : R.val = t.val * 256 + r.val := by omega
  have h := congrFun (blocks6 m c t e2) (ix2 r d)
  rw [flushed6_A] at h
  refine (congrArg _ (funext fun a => Fin.ext ?_)).trans (h.trans ?_)
  · match a with
    | ⟨0, _⟩ => show R.val = win0_6.index t (0 : Fin 2) * 256 + 1 * r.val; omega
    | ⟨1, _⟩ => show d.val = win0_6.index t (1 : Fin 2) * 1024 + 1 * d.val; omega
  · refine Eq.trans (out_eq c (grid0.coords t) _ _ _ _ _ _ _ _ _ _ _ _ _ _ _ _ _ _ _ _ _ _ _ _ (W m c) (ext m c t) (C m c)
      (fun x => ?_) (fun x => ?_) (fun x => ?_) (fun x => ?_) r d) ?_
    · obtain ⟨k, q, d, rfl⟩ : ∃ (k : Fin 31) (q : Fin 8) (d : Fin 1024), x = ix3 k q d := ⟨x 0, x 1, x 2, eq_ix3 x⟩
      exact iblk2_apply m c t k q d
    · obtain ⟨o, d, rfl⟩ : ∃ (o : Fin 1) (d : Fin 1024), x = ix2 o d := ⟨x 0, x 1, eq_ix2 x⟩
      obtain rfl : o = 0 := Subsingleton.elim _ _
      exact iblk3_apply m c t d
    · obtain ⟨q, d, rfl⟩ : ∃ (q : Fin 32) (d : Fin 1024), x = ix2 q d := ⟨x 0, x 1, eq_ix2 x⟩
      exact before_apply m c t q d
    · obtain ⟨q, d, rfl⟩ : ∃ (q : Fin 256) (d : Fin 1024), x = ix2 q d := ⟨x 0, x 1, eq_ix2 x⟩
      refine (iblk1_apply m c t q d).trans (Eq.trans ?_ (if_pos (show 32 ≤ t.val * 256 + (32 + q.val) by omega)).symm)
      exact congrArg (fun n => U m c n d.val) (show t.val * 256 + q.val = t.val * 256 + (32 + q.val) - 32 by omega)
    · simp only [convAt_eq m c t R r hR, iblk4_apply, iblk5_apply]

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ => Cert.Kernel8Ideal.Gen.frame m ρ

theorem frame_reference : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run (F := Ideal) m ρ)

theorem algebraic : Cert.algebraic_Kernel8Ideal_Reference8Ideal (hKernel8Ideal := Cert.Kernel8Ideal.Gen.facts) (hReference8Ideal := Cert.Reference8Ideal.Gen.facts) := by
  intro m ρ m' ρ' _ hag
  refine ⟨fun c => (dats m 0 c).arrAt 6 cfg0.N, run_blocks m ρ,
    (θ_run _ _ _).mono (fun r h c => ⟨(h c).1.trans (funext fun j => ?_), (h c).2⟩) (Cert.Reference8Ideal.Value.run (F := Ideal) m' ρ')⟩
  obtain ⟨e0, e1, e2, e3, e4⟩ := hag c
  obtain ⟨R, D, rfl⟩ : ∃ (R : Fin 16384) (D : Fin 1024), j = ix2 R D := ⟨j 0, j 1, eq_ix2 j⟩
  refine Eq.trans ?_ (final_apply m c R D).symm
  refine (Ref.res_apply (StableHlo.launchContents m' c) R D).trans ?_
  have hrow : (fun d : Fin 1024 => Cert.Reference8Ideal.Value.res_main_v191 (StableHlo.launchContents m' c) (ix2 R d)) = fun d => conv m c R.val d.val := funext fun d => by
    refine (Ref.v191_apply (StableHlo.launchContents m' c) (fun n => padded m c n d.val) (fun k => W m c k d.val) R d (fun n hn => ?_) (fun k => ?_)).trans
      (congrArg ((∑ k : Fin 31, W m c k.val d.val * padded m c (k.val + R.val) d.val) + ·) ?_)
    · rw [Ref.v0_apply]
      unfold padded U
      by_cases h : 30 ≤ n
      · rw [dif_pos h, if_pos h, dif_pos ⟨by omega, d.isLt⟩]
        exact congrFun e0 _
      · rw [dif_neg h, if_neg h]
    · exact (congrFun e1 _).trans (W_val m c k d).symm
    · exact (congrFun e2 _).trans (C_val m c d).symm
  have hg : (fun d : Fin 1024 => StableHlo.launchContents m' c (Proc.devRef .tc Cert.Reference8Ideal.main_arg3) (ix2 0 d)) = Gn m c := funext fun d => congrFun e3 _
  have hb : (fun d : Fin 1024 => StableHlo.launchContents m' c (Proc.devRef .tc Cert.Reference8Ideal.main_arg4) (ix2 0 d)) = Bs m c := funext fun d => congrFun e4 _
  rw [hrow, hg, hb]

end Cert.Conv
-- ==== Proof.lean ====
module

public import proofs.«01_k».proof.Defs
public import proofs.«01_k».proof.Proof.Att.Claim
public import proofs.«01_k».proof.Proof.Ffn.Claim
public import proofs.«01_k».proof.Proof.Calls.Qkv
public import proofs.«01_k».proof.Proof.Calls.Gate
public import proofs.«01_k».proof.Proof.Calls.Glu
public import proofs.«01_k».proof.Proof.Calls.Merge
public import proofs.«01_k».proof.Proof.Calls.Out
public import proofs.«01_k».proof.Proof.Calls.Conv

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Att.frame_kernel, Cert.Att.frame_ideal, Cert.Att.frame_reference,
    Cert.Ffn.frame_kernel, Cert.Ffn.frame_ideal, Cert.Ffn.frame_reference,
    Cert.Qkv.frame_kernel, Cert.Qkv.frame_ideal, Cert.Qkv.frame_reference,
    Cert.Gate.frame_kernel, Cert.Gate.frame_ideal, Cert.Gate.frame_reference,
    Cert.Glu.frame_kernel, Cert.Glu.frame_ideal, Cert.Glu.frame_reference,
    Cert.Merge.frame_kernel, Cert.Merge.frame_ideal, Cert.Merge.frame_reference,
    Cert.Out.frame_kernel, Cert.Out.frame_ideal, Cert.Out.frame_reference,
    Cert.Conv.frame_kernel, Cert.Conv.frame_ideal, Cert.Conv.frame_reference,
    Cert.Att.preserves, trivial, Cert.Ffn.algebraic,
    trivial, Cert.Qkv.algebraic,
    trivial, Cert.Gate.algebraic,
    trivial, Cert.Glu.algebraic,
    trivial, Cert.Merge.algebraic,
    trivial, Cert.Out.algebraic,
    trivial, Cert.Conv.algebraic⟩

end Cert.Proof

end
